-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.BufferStatement Cert.KernelIdeal.S15360x2x128 Cert.KernelIdeal.S15360x1x128
  ∧ IdealRules.bf16_pair.PackStatement Cert.KernelIdeal.S256x128
  ∧ IdealRules.bf16_pair.Statement Cert.KernelIdeal.S256x2x128 Cert.KernelIdeal.S256x1x128
  ∧ IdealRules.bf16_pair.Statement Cert.KernelIdeal.S56x2x128 Cert.KernelIdeal.S56x1x128
  ∧ IdealRules.bf16_pair.Statement Cert.KernelIdeal.S112x128 Cert.KernelIdeal.S56x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38_0) = v0 c
          ∧ r.2.mem ((c.tc : Thread Cert.ReferenceIdeal.nD Cert.ReferenceIdeal.τ).loc Cert.ReferenceIdeal.main_v38_1) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v38_2) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x14336 : Shape := ⟨3, ![1, 256, 14336]⟩
abbrev S14336 : Shape := ⟨1, ![14336]⟩
abbrev S112x112 : Shape := ⟨2, ![112, 112]⟩
abbrev S128x128 : Shape := ⟨2, ![128, 128]⟩
abbrev S_ : Shape := ⟨0, ![]⟩
abbrev S7168x4096 : Shape := ⟨2, ![7168, 4096]⟩
abbrev S4096 : Shape := ⟨1, ![4096]⟩
abbrev S256x14336 : Shape := ⟨2, ![256, 14336]⟩
abbrev S112x128 : Shape := ⟨2, ![112, 128]⟩
abbrev S1 : Shape := ⟨1, ![1]⟩
abbrev S256x128 : Shape := ⟨2, ![256, 128]⟩
abbrev S15360x128 : Shape := ⟨2, ![15360, 128]⟩
abbrev S29120x128 : Shape := ⟨2, ![29120, 128]⟩
abbrev S256x256 : Shape := ⟨2, ![256, 256]⟩
abbrev S224x256 : Shape := ⟨2, ![224, 256]⟩
abbrev S8x128 : Shape := ⟨2, ![8, 128]⟩
abbrev S1x128 : Shape := ⟨2, ![1, 128]⟩
abbrev S1x256 : Shape := ⟨2, ![1, 256]⟩
abbrev S16x128 : Shape := ⟨2, ![16, 128]⟩
abbrev S56x128 : Shape := ⟨2, ![56, 128]⟩
abbrev S32x128 : Shape := ⟨2, ![32, 128]⟩
abbrev S32 : Shape := ⟨1, ![32]⟩
abbrev S32x1 : Shape := ⟨2, ![32, 1]⟩
abbrev S1x4096 : Shape := ⟨2, ![1, 4096]⟩
abbrev S256x4096 : Shape := ⟨2, ![256, 4096]⟩
abbrev S7168x512 : Shape := ⟨2, ![7168, 512]⟩
abbrev S1x512 : Shape := ⟨2, ![1, 512]⟩
abbrev S256x512 : Shape := ⟨2, ![256, 512]⟩
abbrev S8x512 : Shape := ⟨2, ![8, 512]⟩
abbrev S128x512 : Shape := ⟨2, ![128, 512]⟩
abbrev S128x1x512 : Shape := ⟨3, ![128, 1, 512]⟩
abbrev S128x2x512 : Shape := ⟨3, ![128, 2, 512]⟩
abbrev S32x8x512 : Shape := ⟨3, ![32, 8, 512]⟩
abbrev S512 : Shape := ⟨1, ![512]⟩
abbrev S256x1 : Shape := ⟨2, ![256, 1]⟩
abbrev S1x256x4096 : Shape := ⟨3, ![1, 256, 4096]⟩
abbrev S256 : Shape := ⟨1, ![256]⟩

abbrev nBuf : Space → Nat
  | .hbm => 24
  | .vmem => 23
  | .smem => 1
  | _ => 0

abbrev bufTy : (tb : Table) → Fin (tcTables nBuf tb) → BufTy
  | .hbm, ⟨0, _⟩ => ⟨S1x256x14336, .bf16⟩
  | .hbm, ⟨1, _⟩ => ⟨S14336, .f32⟩
  | .hbm, ⟨2, _⟩ => ⟨S112x112, .bf16⟩
  | .hbm, ⟨3, _⟩ => ⟨S128x128, .bf16⟩
  | .hbm, ⟨4, _⟩ => ⟨S_, .f32⟩
  | .hbm, ⟨5, _⟩ => ⟨S7168x4096, .i8⟩
  | .hbm, ⟨6, _⟩ => ⟨S4096, .f32⟩
  | .hbm, ⟨7, _⟩ => ⟨S256x14336, .bf16⟩
  | .hbm, ⟨8, _⟩ => ⟨S112x128, .f32⟩
  | .hbm, ⟨9, _⟩ => ⟨S1, .f32⟩
  | .hbm, ⟨10, _⟩ => ⟨S256x14336, .i8⟩
  | .hbm, ⟨11, _⟩ => ⟨S256x128, .f32⟩
  | .hbm, ⟨12, _⟩ => ⟨S256x128, .f32⟩
  | .hbm, ⟨13, _⟩ => ⟨S1x4096, .f32⟩
  | .hbm, ⟨14, _⟩ => ⟨S256x4096, .bf16⟩
  | .hbm, ⟨15, _⟩ => ⟨S1x256x4096, .bf16⟩
  | .hbm, ⟨16, _⟩ => ⟨S1x256x14336, .i8⟩
  | .hbm, ⟨17, _⟩ => ⟨S256x1, .f32⟩
  | .hbm, ⟨18, _⟩ => ⟨S256, .f32⟩
  | .hbm, ⟨19, _⟩ => ⟨S1x256, .f32⟩
  | .hbm, ⟨20, _⟩ => ⟨S256x1, .f32⟩
  | .hbm, ⟨21, _⟩ => ⟨S256, .f32⟩
  | .hbm, ⟨22, _⟩ => ⟨S256, .i32⟩
  | .hbm, ⟨23, _⟩ => ⟨S1x256, .i32⟩
  | .local _ .vmem, ⟨0, _⟩ => ⟨S256x14336, .bf16⟩
  | .local _ .vmem, ⟨1, _⟩ => ⟨S112x128, .f32⟩
  | .local _ .vmem, ⟨2, _⟩ => ⟨S112x112, .bf16⟩
  | .local _ .vmem, ⟨3, _⟩ => ⟨S128x128, .bf16⟩
  | .local _ .vmem, ⟨4, _⟩ => ⟨S256x14336, .i8⟩
  | .local _ .vmem, ⟨5, _⟩ => ⟨S256x128, .f32⟩
  | .local _ .vmem, ⟨6, _⟩ => ⟨S256x128, .f32⟩
  | .local _ .vmem, ⟨7, _⟩ => ⟨S15360x128, .i32⟩
  | .local _ .vmem, ⟨8, _⟩ => ⟨S29120x128, .f32⟩
  | .local _ .vmem, ⟨9, _⟩ => ⟨S256x256, .bf16⟩
  | .local _ .vmem, ⟨10, _⟩ => ⟨S224x256, .bf16⟩
  | .local _ .vmem, ⟨11, _⟩ => ⟨S8x128, .f32⟩
  | .local _ .vmem, ⟨12, _⟩ => ⟨S256x14336, .i8⟩
  | .local _ .vmem, ⟨13, _⟩ => ⟨S256x128, .f32⟩
  | .local _ .vmem, ⟨14, _⟩ => ⟨S256x128, .f32⟩
  | .local _ .vmem, ⟨15, _⟩ => ⟨S7168x512, .i8⟩
  | .local _ .vmem, ⟨16, _⟩ => ⟨S7168x512, .i8⟩
  | .local _ .vmem, ⟨17, _⟩ => ⟨S1x512, .f32⟩
  | .local _ .vmem, ⟨18, _⟩ => ⟨S1x512, .f32⟩
  | .local _ .vmem, ⟨19, _⟩ => ⟨S256x512, .bf16⟩
  | .local _ .vmem, ⟨20, _⟩ => ⟨S256x512, .bf16⟩
  | .local _ .vmem, ⟨21, _⟩ => ⟨S256x512, .f32⟩
  | .local _ .vmem, ⟨22, _⟩ => ⟨S256x14336, .fp8e4m3⟩
  | .local _ .smem, ⟨0, _⟩ => ⟨S1, .f32⟩
  | _, _ => ⟨S1x256x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc1_scratch1 : Ref sig .tc := ⟨.vmem, 22, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c56_i32 : BitVec 32 := 56#32
  let v26 : BitVec 32 := Scalar.addi c0_i32 c56_i32
  let c1_i32 : BitVec 32 := 1#32
  ⟨c0_i32, v26, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32 : BitVec 32 := 256#32
  let v33 : BitVec 32 := Scalar.muli arg13 c256_i32
  v33
def k0_off1 (k0_t1 : Fin k0_t1_loop.trips) : Fin 2 → Nat :=
  let c2_i32 : BitVec 32 := 2#32
  let c0_i32 : BitVec 32 := 0#32
  let c1_i32 : BitVec 32 := 1#32
  let arg13 : BitVec 32 := Scf.iv c0_i32 c1_i32 k0_t1
  let v35 : BitVec 32 := Scalar.muli c2_i32 arg13
  let v36 : Index := Scalar.indexCast v35
  let c0_25 : Index := 0#32
  ![v36.toNat, 0]
def k0_off2 (k0_t1 : Fin k0_t1_loop.trips) : Fin 2 → Nat :=
  let c2_i32_26 : BitVec 32 := 2#32
  let c0_i32 : BitVec 32 := 0#32
  let c1_i32 : BitVec 32 := 1#32
  let arg13 : BitVec 32 := Scf.iv c0_i32 c1_i32 k0_t1
  let v39 : BitVec 32 := Scalar.muli c2_i32_26 arg13
  let c1_i32_27 : BitVec 32 := 1#32
  let v40 : BitVec 32 := Scalar.addi v39 c1_i32_27
  let v41 : Index := Scalar.indexCast v40
  let c0_28 : Index := 0#32
  ![v41.toNat, 0]
def k0_off3 (k0_t1 : Fin k0_t1_loop.trips) : Fin 2 → Nat :=
  let c0_29 : Index := 0#32
  let c0_i32 : BitVec 32 := 0#32
  let c1_i32 : BitVec 32 := 1#32
  let arg13 : BitVec 32 := Scf.iv c0_i32 c1_i32 k0_t1
  let c256_i32 : BitVec 32 := 256#32
  let v33 : BitVec 32 := Scalar.muli arg13 c256_i32
  let v34 : BitVec 32 := v33
  let v45 : Index := Scalar.indexCast v34
  ![0, v45.toNat]
def k0_off4 (k0_t1 : Fin k0_t1_loop.trips) : Fin 2 → Nat :=
  let c0_i32 : BitVec 32 := 0#32
  let c1_i32 : BitVec 32 := 1#32
  let arg13 : BitVec 32 := Scf.iv c0_i32 c1_i32 k0_t1
  let v57 : Index := Scalar.indexCast arg13
  let c0_33 : Index := 0#32
  ![v57.toNat, 0]
@[reducible] def k0_t2_loop : Scf.Loop 32 :=
  let c0_i32_18 : BitVec 32 := 0#32
  let c64_i32 : BitVec 32 := 64#32
  let v28 : BitVec 32 := Scalar.addi c0_i32_18 c64_i32
  let c1_i32_19 : BitVec 32 := 1#32
  ⟨c0_i32_18, v28, c1_i32_19⟩
def k0_off5 (k0_t2 : Fin k0_t2_loop.trips) (c0_i32_25 : BitVec 32) : Fin 2 → Nat :=
  let c4_i32 : BitVec 32 := 4#32
  let c0_i32_18 : BitVec 32 := 0#32
  let c1_i32_19 : BitVec 32 := 1#32
  let arg13 : BitVec 32 := Scf.iv c0_i32_18 c1_i32_19 k0_t2
  let v33 : BitVec 32 := Scalar.muli c4_i32 arg13
  let v34 : BitVec 32 := Scalar.addi v33 c0_i32_25
  let c60_i32 : BitVec 32 := 60#32
  let v35 : BitVec 32 := Scalar.muli v34 c60_i32
  let v36 : Index := Scalar.indexCast v35
  let c0_26 : Index := 0#32
  ![v36.toNat, 0]
def k0_off6 (k0_t2 : Fin k0_t2_loop.trips) : Fin 2 → Nat :=
  let c4_i32 : BitVec 32 := 4#32
  let c0_i32_18 : BitVec 32 := 0#32
  let c1_i32_19 : BitVec 32 := 1#32
  let arg13 : BitVec 32 := Scf.iv c0_i32_18 c1_i32_19 k0_t2
  let v33 : BitVec 32 := Scalar.muli c4_i32 arg13
  let v60 : Index := Scalar.indexCast v33
  let c0_37 : Index := 0#32
  ![v60.toNat, 0]
def k0_off7 (k0_t2 : Fin k0_t2_loop.trips) (c1_i32_38 : BitVec 32) : Fin 2 → Nat :=
  let c4_i32 : BitVec 32 := 4#32
  let c0_i32_18 : BitVec 32 := 0#32
  let c1_i32_19 : BitVec 32 := 1#32
  let arg13 : BitVec 32 := Scf.iv c0_i32_18 c1_i32_19 k0_t2
  let v33 : BitVec 32 := Scalar.muli c4_i32 arg13
  let v65 : BitVec 32 := Scalar.addi v33 c1_i32_38
  let v66 : Index := Scalar.indexCast v65
  let c0_39 : Index := 0#32
  ![v66.toNat, 0]
@[reducible] def k0_t3_loop : Scf.Loop 32 :=
  let c0_i32_22 : BitVec 32 := 0#32
  let c8_i32 : BitVec 32 := 8#32
  let v32 : BitVec 32 := Scalar.addi c0_i32_22 c8_i32
  let c1_i32_23 : BitVec 32 := 1#32
  ⟨c0_i32_22, v32, c1_i32_23⟩
def k0_mult2 (k0_t3 : Fin k0_t3_loop.trips) : BitVec 32 :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  v33
def k0_off8 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v35 : Index := Scalar.indexCast v34
  let c0_25 : Index := 0#32
  ![v35.toNat, 0]
@[reducible] def k0_t4_loop : Scf.Loop 32 :=
  let c1_i32_26 : BitVec 32 := 1#32
  let c111_i32 : BitVec 32 := 111#32
  let v37 : BitVec 32 := Scalar.addi c1_i32_26 c111_i32
  let c1_i32_27 : BitVec 32 := 1#32
  ⟨c1_i32_26, v37, c1_i32_27⟩
def k0_off9 (k0_t3 : Fin k0_t3_loop.trips) (k0_t4 : Fin k0_t4_loop.trips) : Fin 2 → Nat :=
  let c1_i32_26 : BitVec 32 := 1#32
  let c1_i32_27 : BitVec 32 := 1#32
  let arg14 : BitVec 32 := Scf.iv c1_i32_26 c1_i32_27 k0_t4
  let c260_i32_377 : BitVec 32 := 260#32
  let v1635 : BitVec 32 := Scalar.muli arg14 c260_i32_377
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1636 : BitVec 32 := Scalar.addi v1635 v34
  let v1637 : Index := Scalar.indexCast v1636
  let c0_378 : Index := 0#32
  ![v1637.toNat, 0]
def k0_off10 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v63 : Index := Scalar.indexCast v34
  let c0_36 : Index := 0#32
  ![v63.toNat, 0]
def k0_off11 (k0_t3 : Fin k0_t3_loop.trips) (c0_i32_38 : BitVec 32) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v67 : BitVec 32 := Scalar.addi c0_i32_38 v34
  let v68 : Index := Scalar.indexCast v67
  let c0_39 : Index := 0#32
  ![v68.toNat, 0]
def k0_off12 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v79 : Index := Scalar.indexCast v34
  let c0_42 : Index := 0#32
  ![v79.toNat, 0]
def k0_off13 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v93 : Index := Scalar.indexCast v34
  let c128_46 : Index := 128#32
  ![v93.toNat, 128]
def k0_off14 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v107 : Index := Scalar.indexCast v34
  let c256 : Index := 256#32
  ![v107.toNat, 256]
def k0_off15 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v121 : Index := Scalar.indexCast v34
  let c384 : Index := 384#32
  ![v121.toNat, 384]
def k0_off16 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v135 : Index := Scalar.indexCast v34
  let c512 : Index := 512#32
  ![v135.toNat, 512]
def k0_off17 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v149 : Index := Scalar.indexCast v34
  let c640 : Index := 640#32
  ![v149.toNat, 640]
def k0_off18 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v163 : Index := Scalar.indexCast v34
  let c768 : Index := 768#32
  ![v163.toNat, 768]
def k0_off19 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v177 : Index := Scalar.indexCast v34
  let c896 : Index := 896#32
  ![v177.toNat, 896]
def k0_off20 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v191 : Index := Scalar.indexCast v34
  let c1024 : Index := 1024#32
  ![v191.toNat, 1024]
def k0_off21 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v205 : Index := Scalar.indexCast v34
  let c1152 : Index := 1152#32
  ![v205.toNat, 1152]
def k0_off22 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v219 : Index := Scalar.indexCast v34
  let c1280 : Index := 1280#32
  ![v219.toNat, 1280]
def k0_off23 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v233 : Index := Scalar.indexCast v34
  let c1408 : Index := 1408#32
  ![v233.toNat, 1408]
def k0_off24 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v247 : Index := Scalar.indexCast v34
  let c1536 : Index := 1536#32
  ![v247.toNat, 1536]
def k0_off25 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v261 : Index := Scalar.indexCast v34
  let c1664 : Index := 1664#32
  ![v261.toNat, 1664]
def k0_off26 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v275 : Index := Scalar.indexCast v34
  let c1792 : Index := 1792#32
  ![v275.toNat, 1792]
def k0_off27 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v289 : Index := Scalar.indexCast v34
  let c1920 : Index := 1920#32
  ![v289.toNat, 1920]
def k0_off28 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v303 : Index := Scalar.indexCast v34
  let c2048 : Index := 2048#32
  ![v303.toNat, 2048]
def k0_off29 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v317 : Index := Scalar.indexCast v34
  let c2176 : Index := 2176#32
  ![v317.toNat, 2176]
def k0_off30 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v331 : Index := Scalar.indexCast v34
  let c2304 : Index := 2304#32
  ![v331.toNat, 2304]
def k0_off31 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v345 : Index := Scalar.indexCast v34
  let c2432 : Index := 2432#32
  ![v345.toNat, 2432]
def k0_off32 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v359 : Index := Scalar.indexCast v34
  let c2560 : Index := 2560#32
  ![v359.toNat, 2560]
def k0_off33 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v373 : Index := Scalar.indexCast v34
  let c2688 : Index := 2688#32
  ![v373.toNat, 2688]
def k0_off34 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v387 : Index := Scalar.indexCast v34
  let c2816 : Index := 2816#32
  ![v387.toNat, 2816]
def k0_off35 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v401 : Index := Scalar.indexCast v34
  let c2944 : Index := 2944#32
  ![v401.toNat, 2944]
def k0_off36 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v415 : Index := Scalar.indexCast v34
  let c3072 : Index := 3072#32
  ![v415.toNat, 3072]
def k0_off37 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v429 : Index := Scalar.indexCast v34
  let c3200 : Index := 3200#32
  ![v429.toNat, 3200]
def k0_off38 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v443 : Index := Scalar.indexCast v34
  let c3328 : Index := 3328#32
  ![v443.toNat, 3328]
def k0_off39 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v457 : Index := Scalar.indexCast v34
  let c3456 : Index := 3456#32
  ![v457.toNat, 3456]
def k0_off40 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v471 : Index := Scalar.indexCast v34
  let c3584 : Index := 3584#32
  ![v471.toNat, 3584]
def k0_off41 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v485 : Index := Scalar.indexCast v34
  let c3712 : Index := 3712#32
  ![v485.toNat, 3712]
def k0_off42 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v499 : Index := Scalar.indexCast v34
  let c3840 : Index := 3840#32
  ![v499.toNat, 3840]
def k0_off43 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v513 : Index := Scalar.indexCast v34
  let c3968 : Index := 3968#32
  ![v513.toNat, 3968]
def k0_off44 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v527 : Index := Scalar.indexCast v34
  let c4096 : Index := 4096#32
  ![v527.toNat, 4096]
def k0_off45 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v541 : Index := Scalar.indexCast v34
  let c4224 : Index := 4224#32
  ![v541.toNat, 4224]
def k0_off46 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v555 : Index := Scalar.indexCast v34
  let c4352 : Index := 4352#32
  ![v555.toNat, 4352]
def k0_off47 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v569 : Index := Scalar.indexCast v34
  let c4480 : Index := 4480#32
  ![v569.toNat, 4480]
def k0_off48 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v583 : Index := Scalar.indexCast v34
  let c4608 : Index := 4608#32
  ![v583.toNat, 4608]
def k0_off49 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v597 : Index := Scalar.indexCast v34
  let c4736 : Index := 4736#32
  ![v597.toNat, 4736]
def k0_off50 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v611 : Index := Scalar.indexCast v34
  let c4864 : Index := 4864#32
  ![v611.toNat, 4864]
def k0_off51 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v625 : Index := Scalar.indexCast v34
  let c4992 : Index := 4992#32
  ![v625.toNat, 4992]
def k0_off52 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v639 : Index := Scalar.indexCast v34
  let c5120 : Index := 5120#32
  ![v639.toNat, 5120]
def k0_off53 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v653 : Index := Scalar.indexCast v34
  let c5248 : Index := 5248#32
  ![v653.toNat, 5248]
def k0_off54 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v667 : Index := Scalar.indexCast v34
  let c5376 : Index := 5376#32
  ![v667.toNat, 5376]
def k0_off55 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v681 : Index := Scalar.indexCast v34
  let c5504 : Index := 5504#32
  ![v681.toNat, 5504]
def k0_off56 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v695 : Index := Scalar.indexCast v34
  let c5632 : Index := 5632#32
  ![v695.toNat, 5632]
def k0_off57 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v709 : Index := Scalar.indexCast v34
  let c5760 : Index := 5760#32
  ![v709.toNat, 5760]
def k0_off58 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v723 : Index := Scalar.indexCast v34
  let c5888 : Index := 5888#32
  ![v723.toNat, 5888]
def k0_off59 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v737 : Index := Scalar.indexCast v34
  let c6016 : Index := 6016#32
  ![v737.toNat, 6016]
def k0_off60 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v751 : Index := Scalar.indexCast v34
  let c6144 : Index := 6144#32
  ![v751.toNat, 6144]
def k0_off61 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v765 : Index := Scalar.indexCast v34
  let c6272 : Index := 6272#32
  ![v765.toNat, 6272]
def k0_off62 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v779 : Index := Scalar.indexCast v34
  let c6400 : Index := 6400#32
  ![v779.toNat, 6400]
def k0_off63 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v793 : Index := Scalar.indexCast v34
  let c6528 : Index := 6528#32
  ![v793.toNat, 6528]
def k0_off64 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v807 : Index := Scalar.indexCast v34
  let c6656 : Index := 6656#32
  ![v807.toNat, 6656]
def k0_off65 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v821 : Index := Scalar.indexCast v34
  let c6784 : Index := 6784#32
  ![v821.toNat, 6784]
def k0_off66 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v835 : Index := Scalar.indexCast v34
  let c6912 : Index := 6912#32
  ![v835.toNat, 6912]
def k0_off67 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v849 : Index := Scalar.indexCast v34
  let c7040 : Index := 7040#32
  ![v849.toNat, 7040]
def k0_off68 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v863 : Index := Scalar.indexCast v34
  let c7168 : Index := 7168#32
  ![v863.toNat, 7168]
def k0_off69 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v877 : Index := Scalar.indexCast v34
  let c7296 : Index := 7296#32
  ![v877.toNat, 7296]
def k0_off70 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v891 : Index := Scalar.indexCast v34
  let c7424 : Index := 7424#32
  ![v891.toNat, 7424]
def k0_off71 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v905 : Index := Scalar.indexCast v34
  let c7552 : Index := 7552#32
  ![v905.toNat, 7552]
def k0_off72 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v919 : Index := Scalar.indexCast v34
  let c7680 : Index := 7680#32
  ![v919.toNat, 7680]
def k0_off73 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v933 : Index := Scalar.indexCast v34
  let c7808 : Index := 7808#32
  ![v933.toNat, 7808]
def k0_off74 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v947 : Index := Scalar.indexCast v34
  let c7936 : Index := 7936#32
  ![v947.toNat, 7936]
def k0_off75 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v961 : Index := Scalar.indexCast v34
  let c8064 : Index := 8064#32
  ![v961.toNat, 8064]
def k0_off76 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v975 : Index := Scalar.indexCast v34
  let c8192 : Index := 8192#32
  ![v975.toNat, 8192]
def k0_off77 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v989 : Index := Scalar.indexCast v34
  let c8320 : Index := 8320#32
  ![v989.toNat, 8320]
def k0_off78 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1003 : Index := Scalar.indexCast v34
  let c8448 : Index := 8448#32
  ![v1003.toNat, 8448]
def k0_off79 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1017 : Index := Scalar.indexCast v34
  let c8576 : Index := 8576#32
  ![v1017.toNat, 8576]
def k0_off80 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1031 : Index := Scalar.indexCast v34
  let c8704 : Index := 8704#32
  ![v1031.toNat, 8704]
def k0_off81 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1045 : Index := Scalar.indexCast v34
  let c8832 : Index := 8832#32
  ![v1045.toNat, 8832]
def k0_off82 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1059 : Index := Scalar.indexCast v34
  let c8960 : Index := 8960#32
  ![v1059.toNat, 8960]
def k0_off83 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1073 : Index := Scalar.indexCast v34
  let c9088 : Index := 9088#32
  ![v1073.toNat, 9088]
def k0_off84 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1087 : Index := Scalar.indexCast v34
  let c9216 : Index := 9216#32
  ![v1087.toNat, 9216]
def k0_off85 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1101 : Index := Scalar.indexCast v34
  let c9344 : Index := 9344#32
  ![v1101.toNat, 9344]
def k0_off86 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1115 : Index := Scalar.indexCast v34
  let c9472 : Index := 9472#32
  ![v1115.toNat, 9472]
def k0_off87 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1129 : Index := Scalar.indexCast v34
  let c9600 : Index := 9600#32
  ![v1129.toNat, 9600]
def k0_off88 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1143 : Index := Scalar.indexCast v34
  let c9728 : Index := 9728#32
  ![v1143.toNat, 9728]
def k0_off89 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1157 : Index := Scalar.indexCast v34
  let c9856 : Index := 9856#32
  ![v1157.toNat, 9856]
def k0_off90 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1171 : Index := Scalar.indexCast v34
  let c9984 : Index := 9984#32
  ![v1171.toNat, 9984]
def k0_off91 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1185 : Index := Scalar.indexCast v34
  let c10112 : Index := 10112#32
  ![v1185.toNat, 10112]
def k0_off92 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1199 : Index := Scalar.indexCast v34
  let c10240 : Index := 10240#32
  ![v1199.toNat, 10240]
def k0_off93 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1213 : Index := Scalar.indexCast v34
  let c10368 : Index := 10368#32
  ![v1213.toNat, 10368]
def k0_off94 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1227 : Index := Scalar.indexCast v34
  let c10496 : Index := 10496#32
  ![v1227.toNat, 10496]
def k0_off95 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1241 : Index := Scalar.indexCast v34
  let c10624 : Index := 10624#32
  ![v1241.toNat, 10624]
def k0_off96 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1255 : Index := Scalar.indexCast v34
  let c10752 : Index := 10752#32
  ![v1255.toNat, 10752]
def k0_off97 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1269 : Index := Scalar.indexCast v34
  let c10880 : Index := 10880#32
  ![v1269.toNat, 10880]
def k0_off98 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1283 : Index := Scalar.indexCast v34
  let c11008 : Index := 11008#32
  ![v1283.toNat, 11008]
def k0_off99 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1297 : Index := Scalar.indexCast v34
  let c11136 : Index := 11136#32
  ![v1297.toNat, 11136]
def k0_off100 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1311 : Index := Scalar.indexCast v34
  let c11264 : Index := 11264#32
  ![v1311.toNat, 11264]
def k0_off101 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1325 : Index := Scalar.indexCast v34
  let c11392 : Index := 11392#32
  ![v1325.toNat, 11392]
def k0_off102 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1339 : Index := Scalar.indexCast v34
  let c11520 : Index := 11520#32
  ![v1339.toNat, 11520]
def k0_off103 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1353 : Index := Scalar.indexCast v34
  let c11648 : Index := 11648#32
  ![v1353.toNat, 11648]
def k0_off104 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1367 : Index := Scalar.indexCast v34
  let c11776 : Index := 11776#32
  ![v1367.toNat, 11776]
def k0_off105 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1381 : Index := Scalar.indexCast v34
  let c11904 : Index := 11904#32
  ![v1381.toNat, 11904]
def k0_off106 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1395 : Index := Scalar.indexCast v34
  let c12032 : Index := 12032#32
  ![v1395.toNat, 12032]
def k0_off107 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1409 : Index := Scalar.indexCast v34
  let c12160 : Index := 12160#32
  ![v1409.toNat, 12160]
def k0_off108 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1423 : Index := Scalar.indexCast v34
  let c12288 : Index := 12288#32
  ![v1423.toNat, 12288]
def k0_off109 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1437 : Index := Scalar.indexCast v34
  let c12416 : Index := 12416#32
  ![v1437.toNat, 12416]
def k0_off110 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1451 : Index := Scalar.indexCast v34
  let c12544 : Index := 12544#32
  ![v1451.toNat, 12544]
def k0_off111 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1465 : Index := Scalar.indexCast v34
  let c12672 : Index := 12672#32
  ![v1465.toNat, 12672]
def k0_off112 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1479 : Index := Scalar.indexCast v34
  let c12800 : Index := 12800#32
  ![v1479.toNat, 12800]
def k0_off113 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1493 : Index := Scalar.indexCast v34
  let c12928 : Index := 12928#32
  ![v1493.toNat, 12928]
def k0_off114 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1507 : Index := Scalar.indexCast v34
  let c13056 : Index := 13056#32
  ![v1507.toNat, 13056]
def k0_off115 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1521 : Index := Scalar.indexCast v34
  let c13184 : Index := 13184#32
  ![v1521.toNat, 13184]
def k0_off116 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1535 : Index := Scalar.indexCast v34
  let c13312 : Index := 13312#32
  ![v1535.toNat, 13312]
def k0_off117 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1549 : Index := Scalar.indexCast v34
  let c13440 : Index := 13440#32
  ![v1549.toNat, 13440]
def k0_off118 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1563 : Index := Scalar.indexCast v34
  let c13568 : Index := 13568#32
  ![v1563.toNat, 13568]
def k0_off119 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1577 : Index := Scalar.indexCast v34
  let c13696 : Index := 13696#32
  ![v1577.toNat, 13696]
def k0_off120 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1591 : Index := Scalar.indexCast v34
  let c13824 : Index := 13824#32
  ![v1591.toNat, 13824]
def k0_off121 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1605 : Index := Scalar.indexCast v34
  let c13952 : Index := 13952#32
  ![v1605.toNat, 13952]
def k0_off122 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1619 : Index := Scalar.indexCast v34
  let c14080 : Index := 14080#32
  ![v1619.toNat, 14080]
def k0_off123 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1633 : Index := Scalar.indexCast v34
  let c14208 : Index := 14208#32
  ![v1633.toNat, 14208]
abbrev stage0_0 : Fin 1 → Memref sig .tc .vmem S256x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S112x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S112x112 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x14336 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_16 : BitVec 32 := 0#32
  let c56_i32_17 : BitVec 32 := 56#32
  let v31 : BitVec 32 := Scalar.addi c0_i32_16 c56_i32_17
  let c1_i32_18 : BitVec 32 := 1#32
  ⟨c0_i32_16, v31, c1_i32_18⟩
def k1_mult1 (k1_t1 : Fin k1_t1_loop.trips) : BitVec 32 :=
  let c0_i32_16 : BitVec 32 := 0#32
  let c1_i32_18 : BitVec 32 := 1#32
  let arg9 : BitVec 32 := Scf.iv c0_i32_16 c1_i32_18 k1_t1
  let c256_i32 : BitVec 32 := 256#32
  let v32 : BitVec 32 := Scalar.muli arg9 c256_i32
  v32
def k1_off1 (k1_t1 : Fin k1_t1_loop.trips) : Fin 2 → Nat :=
  let c0_20 : Index := 0#32
  let c0_i32_16 : BitVec 32 := 0#32
  let c1_i32_18 : BitVec 32 := 1#32
  let arg9 : BitVec 32 := Scf.iv c0_i32_16 c1_i32_18 k1_t1
  let c256_i32 : BitVec 32 := 256#32
  let v32 : BitVec 32 := Scalar.muli arg9 c256_i32
  let v33 : BitVec 32 := v32
  let v34 : Index := Scalar.indexCast v33
  ![0, v34.toNat]
@[reducible] def k1_t2_loop : Scf.Loop 32 :=
  let c0_i32_3 : BitVec 32 := 0#32
  let c56_i32 : BitVec 32 := 56#32
  let v8 : BitVec 32 := Scalar.addi c0_i32_3 c56_i32
  let c1_i32 : BitVec 32 := 1#32
  ⟨c0_i32_3, v8, c1_i32⟩
def k1_mult2 (k1_t2 : Fin k1_t2_loop.trips) : BitVec 32 :=
  let c0_i32_3 : BitVec 32 := 0#32
  let c1_i32 : BitVec 32 := 1#32
  let arg9 : BitVec 32 := Scf.iv c0_i32_3 c1_i32 k1_t2
  let c128_i32 : BitVec 32 := 128#32
  let v31 : BitVec 32 := Scalar.muli arg9 c128_i32
  v31
def k1_off2 (k1_t2 : Fin k1_t2_loop.trips) : Fin 2 → Nat :=
  let c0_i32_3 : BitVec 32 := 0#32
  let c1_i32 : BitVec 32 := 1#32
  let arg9 : BitVec 32 := Scf.iv c0_i32_3 c1_i32 k1_t2
  let c128_i32 : BitVec 32 := 128#32
  let v31 : BitVec 32 := Scalar.muli arg9 c128_i32
  let v32 : BitVec 32 := v31
  let v33 : Index := Scalar.indexCast v32
  let c0_16 : Index := 0#32
  ![v33.toNat, 0]
def k1_mult3 (k1_t2 : Fin k1_t2_loop.trips) : BitVec 32 :=
  let c0_i32_3 : BitVec 32 := 0#32
  let c1_i32 : BitVec 32 := 1#32
  let arg9 : BitVec 32 := Scf.iv c0_i32_3 c1_i32 k1_t2
  let c256_i32 : BitVec 32 := 256#32
  let v52 : BitVec 32 := Scalar.muli arg9 c256_i32
  v52
def k1_off3 (k1_t2 : Fin k1_t2_loop.trips) : Fin 2 → Nat :=
  let c0_21 : Index := 0#32
  let c0_i32_3 : BitVec 32 := 0#32
  let c1_i32 : BitVec 32 := 1#32
  let arg9 : BitVec 32 := Scf.iv c0_i32_3 c1_i32 k1_t2
  let c256_i32 : BitVec 32 := 256#32
  let v52 : BitVec 32 := Scalar.muli arg9 c256_i32
  let v53 : BitVec 32 := v52
  let v54 : Index := Scalar.indexCast v53
  ![0, v54.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x14336 .i8 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S7168x512 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== KernelIdeal.lean ====
abbrev S1x256x14336 : Shape := ⟨3, ![1, 256, 14336]⟩
abbrev S14336 : Shape := ⟨1, ![14336]⟩
abbrev S112x112 : Shape := ⟨2, ![112, 112]⟩
abbrev S128x128 : Shape := ⟨2, ![128, 128]⟩
abbrev S_ : Shape := ⟨0, ![]⟩
abbrev S7168x4096 : Shape := ⟨2, ![7168, 4096]⟩
abbrev S4096 : Shape := ⟨1, ![4096]⟩
abbrev S256x14336 : Shape := ⟨2, ![256, 14336]⟩
abbrev S112x128 : Shape := ⟨2, ![112, 128]⟩
abbrev S1 : Shape := ⟨1, ![1]⟩
abbrev S256x128 : Shape := ⟨2, ![256, 128]⟩
abbrev S15360x128 : Shape := ⟨2, ![15360, 128]⟩
abbrev S15360x2x128 : Shape := ⟨3, ![15360, 2, 128]⟩
abbrev S15360x1x128 : Shape := ⟨3, ![15360, 1, 128]⟩
abbrev S29120x128 : Shape := ⟨2, ![29120, 128]⟩
abbrev S256x256 : Shape := ⟨2, ![256, 256]⟩
abbrev S224x256 : Shape := ⟨2, ![224, 256]⟩
abbrev S8x128 : Shape := ⟨2, ![8, 128]⟩
abbrev S1x128 : Shape := ⟨2, ![1, 128]⟩
abbrev S1x256 : Shape := ⟨2, ![1, 256]⟩
abbrev S256x2x128 : Shape := ⟨3, ![256, 2, 128]⟩
abbrev S256x1x128 : Shape := ⟨3, ![256, 1, 128]⟩
abbrev S16x128 : Shape := ⟨2, ![16, 128]⟩
abbrev S56x128 : Shape := ⟨2, ![56, 128]⟩
abbrev S56x2x128 : Shape := ⟨3, ![56, 2, 128]⟩
abbrev S56x1x128 : Shape := ⟨3, ![56, 1, 128]⟩
abbrev S32x128 : Shape := ⟨2, ![32, 128]⟩
abbrev S32 : Shape := ⟨1, ![32]⟩
abbrev S32x1 : Shape := ⟨2, ![32, 1]⟩
abbrev S1x4096 : Shape := ⟨2, ![1, 4096]⟩
abbrev S256x4096 : Shape := ⟨2, ![256, 4096]⟩
abbrev S7168x512 : Shape := ⟨2, ![7168, 512]⟩
abbrev S1x512 : Shape := ⟨2, ![1, 512]⟩
abbrev S256x512 : Shape := ⟨2, ![256, 512]⟩
abbrev S8x512 : Shape := ⟨2, ![8, 512]⟩
abbrev S128x512 : Shape := ⟨2, ![128, 512]⟩
abbrev S128x1x512 : Shape := ⟨3, ![128, 1, 512]⟩
abbrev S128x2x512 : Shape := ⟨3, ![128, 2, 512]⟩
abbrev S32x8x512 : Shape := ⟨3, ![32, 8, 512]⟩
abbrev S512 : Shape := ⟨1, ![512]⟩
abbrev S256x1 : Shape := ⟨2, ![256, 1]⟩
abbrev S1x256x4096 : Shape := ⟨3, ![1, 256, 4096]⟩
abbrev S256 : Shape := ⟨1, ![256]⟩

abbrev nBuf : Space → Nat
  | .hbm => 24
  | .vmem => 23
  | .smem => 1
  | _ => 0

abbrev bufTy : (tb : Table) → Fin (tcTables nBuf tb) → BufTy
  | .hbm, ⟨0, _⟩ => ⟨S1x256x14336, .bf16⟩
  | .hbm, ⟨1, _⟩ => ⟨S14336, .f32⟩
  | .hbm, ⟨2, _⟩ => ⟨S112x112, .bf16⟩
  | .hbm, ⟨3, _⟩ => ⟨S128x128, .bf16⟩
  | .hbm, ⟨4, _⟩ => ⟨S_, .f32⟩
  | .hbm, ⟨5, _⟩ => ⟨S7168x4096, .i8⟩
  | .hbm, ⟨6, _⟩ => ⟨S4096, .f32⟩
  | .hbm, ⟨7, _⟩ => ⟨S256x14336, .bf16⟩
  | .hbm, ⟨8, _⟩ => ⟨S112x128, .f32⟩
  | .hbm, ⟨9, _⟩ => ⟨S1, .f32⟩
  | .hbm, ⟨10, _⟩ => ⟨S256x14336, .i8⟩
  | .hbm, ⟨11, _⟩ => ⟨S256x128, .f32⟩
  | .hbm, ⟨12, _⟩ => ⟨S256x128, .f32⟩
  | .hbm, ⟨13, _⟩ => ⟨S1x4096, .f32⟩
  | .hbm, ⟨14, _⟩ => ⟨S256x4096, .bf16⟩
  | .hbm, ⟨15, _⟩ => ⟨S1x256x4096, .bf16⟩
  | .hbm, ⟨16, _⟩ => ⟨S1x256x14336, .i8⟩
  | .hbm, ⟨17, _⟩ => ⟨S256x1, .f32⟩
  | .hbm, ⟨18, _⟩ => ⟨S256, .f32⟩
  | .hbm, ⟨19, _⟩ => ⟨S1x256, .f32⟩
  | .hbm, ⟨20, _⟩ => ⟨S256x1, .f32⟩
  | .hbm, ⟨21, _⟩ => ⟨S256, .f32⟩
  | .hbm, ⟨22, _⟩ => ⟨S256, .i32⟩
  | .hbm, ⟨23, _⟩ => ⟨S1x256, .i32⟩
  | .local _ .vmem, ⟨0, _⟩ => ⟨S256x14336, .bf16⟩
  | .local _ .vmem, ⟨1, _⟩ => ⟨S112x128, .f32⟩
  | .local _ .vmem, ⟨2, _⟩ => ⟨S112x112, .bf16⟩
  | .local _ .vmem, ⟨3, _⟩ => ⟨S128x128, .bf16⟩
  | .local _ .vmem, ⟨4, _⟩ => ⟨S256x14336, .i8⟩
  | .local _ .vmem, ⟨5, _⟩ => ⟨S256x128, .f32⟩
  | .local _ .vmem, ⟨6, _⟩ => ⟨S256x128, .f32⟩
  | .local _ .vmem, ⟨7, _⟩ => ⟨S15360x2x128, .bf16⟩
  | .local _ .vmem, ⟨8, _⟩ => ⟨S29120x128, .f32⟩
  | .local _ .vmem, ⟨9, _⟩ => ⟨S256x256, .bf16⟩
  | .local _ .vmem, ⟨10, _⟩ => ⟨S224x256, .bf16⟩
  | .local _ .vmem, ⟨11, _⟩ => ⟨S8x128, .f32⟩
  | .local _ .vmem, ⟨12, _⟩ => ⟨S256x14336, .i8⟩
  | .local _ .vmem, ⟨13, _⟩ => ⟨S256x128, .f32⟩
  | .local _ .vmem, ⟨14, _⟩ => ⟨S256x128, .f32⟩
  | .local _ .vmem, ⟨15, _⟩ => ⟨S7168x512, .i8⟩
  | .local _ .vmem, ⟨16, _⟩ => ⟨S7168x512, .i8⟩
  | .local _ .vmem, ⟨17, _⟩ => ⟨S1x512, .f32⟩
  | .local _ .vmem, ⟨18, _⟩ => ⟨S1x512, .f32⟩
  | .local _ .vmem, ⟨19, _⟩ => ⟨S256x512, .bf16⟩
  | .local _ .vmem, ⟨20, _⟩ => ⟨S256x512, .bf16⟩
  | .local _ .vmem, ⟨21, _⟩ => ⟨S256x512, .f32⟩
  | .local _ .vmem, ⟨22, _⟩ => ⟨S256x14336, .fp8e4m3⟩
  | .local _ .smem, ⟨0, _⟩ => ⟨S1, .f32⟩
  | _, _ => ⟨S1x256x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc1_scratch1 : Ref sig .tc := ⟨.vmem, 22, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c56_i32 : BitVec 32 := 56#32
  let v26 : BitVec 32 := Scalar.addi c0_i32 c56_i32
  let c1_i32 : BitVec 32 := 1#32
  ⟨c0_i32, v26, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32 : BitVec 32 := 256#32
  let v33 : BitVec 32 := Scalar.muli arg13 c256_i32
  v33
def k0_off1 (k0_t1 : Fin k0_t1_loop.trips) : Fin 2 → Nat :=
  let c2_i32 : BitVec 32 := 2#32
  let c0_i32 : BitVec 32 := 0#32
  let c1_i32 : BitVec 32 := 1#32
  let arg13 : BitVec 32 := Scf.iv c0_i32 c1_i32 k0_t1
  let v35 : BitVec 32 := Scalar.muli c2_i32 arg13
  let v36 : Index := Scalar.indexCast v35
  let c0_25 : Index := 0#32
  ![v36.toNat, 0]
def k0_off2 (k0_t1 : Fin k0_t1_loop.trips) : Fin 2 → Nat :=
  let c2_i32_26 : BitVec 32 := 2#32
  let c0_i32 : BitVec 32 := 0#32
  let c1_i32 : BitVec 32 := 1#32
  let arg13 : BitVec 32 := Scf.iv c0_i32 c1_i32 k0_t1
  let v39 : BitVec 32 := Scalar.muli c2_i32_26 arg13
  let c1_i32_27 : BitVec 32 := 1#32
  let v40 : BitVec 32 := Scalar.addi v39 c1_i32_27
  let v41 : Index := Scalar.indexCast v40
  let c0_28 : Index := 0#32
  ![v41.toNat, 0]
def k0_off3 (k0_t1 : Fin k0_t1_loop.trips) : Fin 2 → Nat :=
  let c0_29 : Index := 0#32
  let c0_i32 : BitVec 32 := 0#32
  let c1_i32 : BitVec 32 := 1#32
  let arg13 : BitVec 32 := Scf.iv c0_i32 c1_i32 k0_t1
  let c256_i32 : BitVec 32 := 256#32
  let v33 : BitVec 32 := Scalar.muli arg13 c256_i32
  let v34 : BitVec 32 := v33
  let v45 : Index := Scalar.indexCast v34
  ![0, v45.toNat]
def k0_off4 (k0_t1 : Fin k0_t1_loop.trips) : Fin 3 → Nat :=
  let c0_i32 : BitVec 32 := 0#32
  let c1_i32 : BitVec 32 := 1#32
  let arg13 : BitVec 32 := Scf.iv c0_i32 c1_i32 k0_t1
  let v57 : Index := Scalar.indexCast arg13
  let c0_33 : Index := 0#32
  ![v57.toNat, 0, 0]
@[reducible] def k0_t2_loop : Scf.Loop 32 :=
  let c0_i32_18 : BitVec 32 := 0#32
  let c64_i32 : BitVec 32 := 64#32
  let v28 : BitVec 32 := Scalar.addi c0_i32_18 c64_i32
  let c1_i32_19 : BitVec 32 := 1#32
  ⟨c0_i32_18, v28, c1_i32_19⟩
def k0_off5 (k0_t2 : Fin k0_t2_loop.trips) (c0_i32_25 : BitVec 32) : Fin 3 → Nat :=
  let c4_i32 : BitVec 32 := 4#32
  let c0_i32_18 : BitVec 32 := 0#32
  let c1_i32_19 : BitVec 32 := 1#32
  let arg13 : BitVec 32 := Scf.iv c0_i32_18 c1_i32_19 k0_t2
  let v33 : BitVec 32 := Scalar.muli c4_i32 arg13
  let v34 : BitVec 32 := Scalar.addi v33 c0_i32_25
  let c60_i32 : BitVec 32 := 60#32
  let v35 : BitVec 32 := Scalar.muli v34 c60_i32
  let v36 : Index := Scalar.indexCast v35
  let c0_26 : Index := 0#32
  ![v36.toNat, 0, 0]
def k0_off6 (k0_t2 : Fin k0_t2_loop.trips) : Fin 2 → Nat :=
  let c4_i32 : BitVec 32 := 4#32
  let c0_i32_18 : BitVec 32 := 0#32
  let c1_i32_19 : BitVec 32 := 1#32
  let arg13 : BitVec 32 := Scf.iv c0_i32_18 c1_i32_19 k0_t2
  let v33 : BitVec 32 := Scalar.muli c4_i32 arg13
  let v60 : Index := Scalar.indexCast v33
  let c0_37 : Index := 0#32
  ![v60.toNat, 0]
def k0_off7 (k0_t2 : Fin k0_t2_loop.trips) (c1_i32_38 : BitVec 32) : Fin 2 → Nat :=
  let c4_i32 : BitVec 32 := 4#32
  let c0_i32_18 : BitVec 32 := 0#32
  let c1_i32_19 : BitVec 32 := 1#32
  let arg13 : BitVec 32 := Scf.iv c0_i32_18 c1_i32_19 k0_t2
  let v33 : BitVec 32 := Scalar.muli c4_i32 arg13
  let v65 : BitVec 32 := Scalar.addi v33 c1_i32_38
  let v66 : Index := Scalar.indexCast v65
  let c0_39 : Index := 0#32
  ![v66.toNat, 0]
@[reducible] def k0_t3_loop : Scf.Loop 32 :=
  let c0_i32_22 : BitVec 32 := 0#32
  let c8_i32 : BitVec 32 := 8#32
  let v32 : BitVec 32 := Scalar.addi c0_i32_22 c8_i32
  let c1_i32_23 : BitVec 32 := 1#32
  ⟨c0_i32_22, v32, c1_i32_23⟩
def k0_mult2 (k0_t3 : Fin k0_t3_loop.trips) : BitVec 32 :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  v33
def k0_off8 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v35 : Index := Scalar.indexCast v34
  let c0_25 : Index := 0#32
  ![v35.toNat, 0]
@[reducible] def k0_t4_loop : Scf.Loop 32 :=
  let c1_i32_26 : BitVec 32 := 1#32
  let c111_i32 : BitVec 32 := 111#32
  let v37 : BitVec 32 := Scalar.addi c1_i32_26 c111_i32
  let c1_i32_27 : BitVec 32 := 1#32
  ⟨c1_i32_26, v37, c1_i32_27⟩
def k0_off9 (k0_t3 : Fin k0_t3_loop.trips) (k0_t4 : Fin k0_t4_loop.trips) : Fin 2 → Nat :=
  let c1_i32_26 : BitVec 32 := 1#32
  let c1_i32_27 : BitVec 32 := 1#32
  let arg14 : BitVec 32 := Scf.iv c1_i32_26 c1_i32_27 k0_t4
  let c260_i32_377 : BitVec 32 := 260#32
  let v1635 : BitVec 32 := Scalar.muli arg14 c260_i32_377
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1636 : BitVec 32 := Scalar.addi v1635 v34
  let v1637 : Index := Scalar.indexCast v1636
  let c0_378 : Index := 0#32
  ![v1637.toNat, 0]
def k0_off10 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v63 : Index := Scalar.indexCast v34
  let c0_36 : Index := 0#32
  ![v63.toNat, 0]
def k0_off11 (k0_t3 : Fin k0_t3_loop.trips) (c0_i32_38 : BitVec 32) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v67 : BitVec 32 := Scalar.addi c0_i32_38 v34
  let v68 : Index := Scalar.indexCast v67
  let c0_39 : Index := 0#32
  ![v68.toNat, 0]
def k0_off12 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v79 : Index := Scalar.indexCast v34
  let c0_42 : Index := 0#32
  ![v79.toNat, 0]
def k0_off13 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v93 : Index := Scalar.indexCast v34
  let c128_46 : Index := 128#32
  ![v93.toNat, 128]
def k0_off14 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v107 : Index := Scalar.indexCast v34
  let c256 : Index := 256#32
  ![v107.toNat, 256]
def k0_off15 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v121 : Index := Scalar.indexCast v34
  let c384 : Index := 384#32
  ![v121.toNat, 384]
def k0_off16 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v135 : Index := Scalar.indexCast v34
  let c512 : Index := 512#32
  ![v135.toNat, 512]
def k0_off17 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v149 : Index := Scalar.indexCast v34
  let c640 : Index := 640#32
  ![v149.toNat, 640]
def k0_off18 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v163 : Index := Scalar.indexCast v34
  let c768 : Index := 768#32
  ![v163.toNat, 768]
def k0_off19 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v177 : Index := Scalar.indexCast v34
  let c896 : Index := 896#32
  ![v177.toNat, 896]
def k0_off20 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v191 : Index := Scalar.indexCast v34
  let c1024 : Index := 1024#32
  ![v191.toNat, 1024]
def k0_off21 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v205 : Index := Scalar.indexCast v34
  let c1152 : Index := 1152#32
  ![v205.toNat, 1152]
def k0_off22 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v219 : Index := Scalar.indexCast v34
  let c1280 : Index := 1280#32
  ![v219.toNat, 1280]
def k0_off23 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v233 : Index := Scalar.indexCast v34
  let c1408 : Index := 1408#32
  ![v233.toNat, 1408]
def k0_off24 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v247 : Index := Scalar.indexCast v34
  let c1536 : Index := 1536#32
  ![v247.toNat, 1536]
def k0_off25 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v261 : Index := Scalar.indexCast v34
  let c1664 : Index := 1664#32
  ![v261.toNat, 1664]
def k0_off26 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v275 : Index := Scalar.indexCast v34
  let c1792 : Index := 1792#32
  ![v275.toNat, 1792]
def k0_off27 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v289 : Index := Scalar.indexCast v34
  let c1920 : Index := 1920#32
  ![v289.toNat, 1920]
def k0_off28 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v303 : Index := Scalar.indexCast v34
  let c2048 : Index := 2048#32
  ![v303.toNat, 2048]
def k0_off29 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v317 : Index := Scalar.indexCast v34
  let c2176 : Index := 2176#32
  ![v317.toNat, 2176]
def k0_off30 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v331 : Index := Scalar.indexCast v34
  let c2304 : Index := 2304#32
  ![v331.toNat, 2304]
def k0_off31 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v345 : Index := Scalar.indexCast v34
  let c2432 : Index := 2432#32
  ![v345.toNat, 2432]
def k0_off32 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v359 : Index := Scalar.indexCast v34
  let c2560 : Index := 2560#32
  ![v359.toNat, 2560]
def k0_off33 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v373 : Index := Scalar.indexCast v34
  let c2688 : Index := 2688#32
  ![v373.toNat, 2688]
def k0_off34 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v387 : Index := Scalar.indexCast v34
  let c2816 : Index := 2816#32
  ![v387.toNat, 2816]
def k0_off35 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v401 : Index := Scalar.indexCast v34
  let c2944 : Index := 2944#32
  ![v401.toNat, 2944]
def k0_off36 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v415 : Index := Scalar.indexCast v34
  let c3072 : Index := 3072#32
  ![v415.toNat, 3072]
def k0_off37 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v429 : Index := Scalar.indexCast v34
  let c3200 : Index := 3200#32
  ![v429.toNat, 3200]
def k0_off38 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v443 : Index := Scalar.indexCast v34
  let c3328 : Index := 3328#32
  ![v443.toNat, 3328]
def k0_off39 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v457 : Index := Scalar.indexCast v34
  let c3456 : Index := 3456#32
  ![v457.toNat, 3456]
def k0_off40 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v471 : Index := Scalar.indexCast v34
  let c3584 : Index := 3584#32
  ![v471.toNat, 3584]
def k0_off41 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v485 : Index := Scalar.indexCast v34
  let c3712 : Index := 3712#32
  ![v485.toNat, 3712]
def k0_off42 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v499 : Index := Scalar.indexCast v34
  let c3840 : Index := 3840#32
  ![v499.toNat, 3840]
def k0_off43 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v513 : Index := Scalar.indexCast v34
  let c3968 : Index := 3968#32
  ![v513.toNat, 3968]
def k0_off44 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v527 : Index := Scalar.indexCast v34
  let c4096 : Index := 4096#32
  ![v527.toNat, 4096]
def k0_off45 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v541 : Index := Scalar.indexCast v34
  let c4224 : Index := 4224#32
  ![v541.toNat, 4224]
def k0_off46 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v555 : Index := Scalar.indexCast v34
  let c4352 : Index := 4352#32
  ![v555.toNat, 4352]
def k0_off47 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v569 : Index := Scalar.indexCast v34
  let c4480 : Index := 4480#32
  ![v569.toNat, 4480]
def k0_off48 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v583 : Index := Scalar.indexCast v34
  let c4608 : Index := 4608#32
  ![v583.toNat, 4608]
def k0_off49 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v597 : Index := Scalar.indexCast v34
  let c4736 : Index := 4736#32
  ![v597.toNat, 4736]
def k0_off50 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v611 : Index := Scalar.indexCast v34
  let c4864 : Index := 4864#32
  ![v611.toNat, 4864]
def k0_off51 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v625 : Index := Scalar.indexCast v34
  let c4992 : Index := 4992#32
  ![v625.toNat, 4992]
def k0_off52 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v639 : Index := Scalar.indexCast v34
  let c5120 : Index := 5120#32
  ![v639.toNat, 5120]
def k0_off53 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v653 : Index := Scalar.indexCast v34
  let c5248 : Index := 5248#32
  ![v653.toNat, 5248]
def k0_off54 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v667 : Index := Scalar.indexCast v34
  let c5376 : Index := 5376#32
  ![v667.toNat, 5376]
def k0_off55 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v681 : Index := Scalar.indexCast v34
  let c5504 : Index := 5504#32
  ![v681.toNat, 5504]
def k0_off56 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v695 : Index := Scalar.indexCast v34
  let c5632 : Index := 5632#32
  ![v695.toNat, 5632]
def k0_off57 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v709 : Index := Scalar.indexCast v34
  let c5760 : Index := 5760#32
  ![v709.toNat, 5760]
def k0_off58 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v723 : Index := Scalar.indexCast v34
  let c5888 : Index := 5888#32
  ![v723.toNat, 5888]
def k0_off59 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v737 : Index := Scalar.indexCast v34
  let c6016 : Index := 6016#32
  ![v737.toNat, 6016]
def k0_off60 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v751 : Index := Scalar.indexCast v34
  let c6144 : Index := 6144#32
  ![v751.toNat, 6144]
def k0_off61 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v765 : Index := Scalar.indexCast v34
  let c6272 : Index := 6272#32
  ![v765.toNat, 6272]
def k0_off62 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v779 : Index := Scalar.indexCast v34
  let c6400 : Index := 6400#32
  ![v779.toNat, 6400]
def k0_off63 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v793 : Index := Scalar.indexCast v34
  let c6528 : Index := 6528#32
  ![v793.toNat, 6528]
def k0_off64 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v807 : Index := Scalar.indexCast v34
  let c6656 : Index := 6656#32
  ![v807.toNat, 6656]
def k0_off65 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v821 : Index := Scalar.indexCast v34
  let c6784 : Index := 6784#32
  ![v821.toNat, 6784]
def k0_off66 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v835 : Index := Scalar.indexCast v34
  let c6912 : Index := 6912#32
  ![v835.toNat, 6912]
def k0_off67 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v849 : Index := Scalar.indexCast v34
  let c7040 : Index := 7040#32
  ![v849.toNat, 7040]
def k0_off68 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v863 : Index := Scalar.indexCast v34
  let c7168 : Index := 7168#32
  ![v863.toNat, 7168]
def k0_off69 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v877 : Index := Scalar.indexCast v34
  let c7296 : Index := 7296#32
  ![v877.toNat, 7296]
def k0_off70 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v891 : Index := Scalar.indexCast v34
  let c7424 : Index := 7424#32
  ![v891.toNat, 7424]
def k0_off71 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v905 : Index := Scalar.indexCast v34
  let c7552 : Index := 7552#32
  ![v905.toNat, 7552]
def k0_off72 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v919 : Index := Scalar.indexCast v34
  let c7680 : Index := 7680#32
  ![v919.toNat, 7680]
def k0_off73 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v933 : Index := Scalar.indexCast v34
  let c7808 : Index := 7808#32
  ![v933.toNat, 7808]
def k0_off74 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v947 : Index := Scalar.indexCast v34
  let c7936 : Index := 7936#32
  ![v947.toNat, 7936]
def k0_off75 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v961 : Index := Scalar.indexCast v34
  let c8064 : Index := 8064#32
  ![v961.toNat, 8064]
def k0_off76 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v975 : Index := Scalar.indexCast v34
  let c8192 : Index := 8192#32
  ![v975.toNat, 8192]
def k0_off77 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v989 : Index := Scalar.indexCast v34
  let c8320 : Index := 8320#32
  ![v989.toNat, 8320]
def k0_off78 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1003 : Index := Scalar.indexCast v34
  let c8448 : Index := 8448#32
  ![v1003.toNat, 8448]
def k0_off79 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1017 : Index := Scalar.indexCast v34
  let c8576 : Index := 8576#32
  ![v1017.toNat, 8576]
def k0_off80 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1031 : Index := Scalar.indexCast v34
  let c8704 : Index := 8704#32
  ![v1031.toNat, 8704]
def k0_off81 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1045 : Index := Scalar.indexCast v34
  let c8832 : Index := 8832#32
  ![v1045.toNat, 8832]
def k0_off82 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1059 : Index := Scalar.indexCast v34
  let c8960 : Index := 8960#32
  ![v1059.toNat, 8960]
def k0_off83 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1073 : Index := Scalar.indexCast v34
  let c9088 : Index := 9088#32
  ![v1073.toNat, 9088]
def k0_off84 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1087 : Index := Scalar.indexCast v34
  let c9216 : Index := 9216#32
  ![v1087.toNat, 9216]
def k0_off85 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1101 : Index := Scalar.indexCast v34
  let c9344 : Index := 9344#32
  ![v1101.toNat, 9344]
def k0_off86 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1115 : Index := Scalar.indexCast v34
  let c9472 : Index := 9472#32
  ![v1115.toNat, 9472]
def k0_off87 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1129 : Index := Scalar.indexCast v34
  let c9600 : Index := 9600#32
  ![v1129.toNat, 9600]
def k0_off88 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1143 : Index := Scalar.indexCast v34
  let c9728 : Index := 9728#32
  ![v1143.toNat, 9728]
def k0_off89 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1157 : Index := Scalar.indexCast v34
  let c9856 : Index := 9856#32
  ![v1157.toNat, 9856]
def k0_off90 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1171 : Index := Scalar.indexCast v34
  let c9984 : Index := 9984#32
  ![v1171.toNat, 9984]
def k0_off91 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1185 : Index := Scalar.indexCast v34
  let c10112 : Index := 10112#32
  ![v1185.toNat, 10112]
def k0_off92 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1199 : Index := Scalar.indexCast v34
  let c10240 : Index := 10240#32
  ![v1199.toNat, 10240]
def k0_off93 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1213 : Index := Scalar.indexCast v34
  let c10368 : Index := 10368#32
  ![v1213.toNat, 10368]
def k0_off94 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1227 : Index := Scalar.indexCast v34
  let c10496 : Index := 10496#32
  ![v1227.toNat, 10496]
def k0_off95 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1241 : Index := Scalar.indexCast v34
  let c10624 : Index := 10624#32
  ![v1241.toNat, 10624]
def k0_off96 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1255 : Index := Scalar.indexCast v34
  let c10752 : Index := 10752#32
  ![v1255.toNat, 10752]
def k0_off97 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1269 : Index := Scalar.indexCast v34
  let c10880 : Index := 10880#32
  ![v1269.toNat, 10880]
def k0_off98 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1283 : Index := Scalar.indexCast v34
  let c11008 : Index := 11008#32
  ![v1283.toNat, 11008]
def k0_off99 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1297 : Index := Scalar.indexCast v34
  let c11136 : Index := 11136#32
  ![v1297.toNat, 11136]
def k0_off100 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1311 : Index := Scalar.indexCast v34
  let c11264 : Index := 11264#32
  ![v1311.toNat, 11264]
def k0_off101 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1325 : Index := Scalar.indexCast v34
  let c11392 : Index := 11392#32
  ![v1325.toNat, 11392]
def k0_off102 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1339 : Index := Scalar.indexCast v34
  let c11520 : Index := 11520#32
  ![v1339.toNat, 11520]
def k0_off103 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1353 : Index := Scalar.indexCast v34
  let c11648 : Index := 11648#32
  ![v1353.toNat, 11648]
def k0_off104 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1367 : Index := Scalar.indexCast v34
  let c11776 : Index := 11776#32
  ![v1367.toNat, 11776]
def k0_off105 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1381 : Index := Scalar.indexCast v34
  let c11904 : Index := 11904#32
  ![v1381.toNat, 11904]
def k0_off106 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1395 : Index := Scalar.indexCast v34
  let c12032 : Index := 12032#32
  ![v1395.toNat, 12032]
def k0_off107 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1409 : Index := Scalar.indexCast v34
  let c12160 : Index := 12160#32
  ![v1409.toNat, 12160]
def k0_off108 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1423 : Index := Scalar.indexCast v34
  let c12288 : Index := 12288#32
  ![v1423.toNat, 12288]
def k0_off109 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1437 : Index := Scalar.indexCast v34
  let c12416 : Index := 12416#32
  ![v1437.toNat, 12416]
def k0_off110 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1451 : Index := Scalar.indexCast v34
  let c12544 : Index := 12544#32
  ![v1451.toNat, 12544]
def k0_off111 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1465 : Index := Scalar.indexCast v34
  let c12672 : Index := 12672#32
  ![v1465.toNat, 12672]
def k0_off112 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1479 : Index := Scalar.indexCast v34
  let c12800 : Index := 12800#32
  ![v1479.toNat, 12800]
def k0_off113 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1493 : Index := Scalar.indexCast v34
  let c12928 : Index := 12928#32
  ![v1493.toNat, 12928]
def k0_off114 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1507 : Index := Scalar.indexCast v34
  let c13056 : Index := 13056#32
  ![v1507.toNat, 13056]
def k0_off115 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1521 : Index := Scalar.indexCast v34
  let c13184 : Index := 13184#32
  ![v1521.toNat, 13184]
def k0_off116 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1535 : Index := Scalar.indexCast v34
  let c13312 : Index := 13312#32
  ![v1535.toNat, 13312]
def k0_off117 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1549 : Index := Scalar.indexCast v34
  let c13440 : Index := 13440#32
  ![v1549.toNat, 13440]
def k0_off118 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1563 : Index := Scalar.indexCast v34
  let c13568 : Index := 13568#32
  ![v1563.toNat, 13568]
def k0_off119 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1577 : Index := Scalar.indexCast v34
  let c13696 : Index := 13696#32
  ![v1577.toNat, 13696]
def k0_off120 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1591 : Index := Scalar.indexCast v34
  let c13824 : Index := 13824#32
  ![v1591.toNat, 13824]
def k0_off121 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1605 : Index := Scalar.indexCast v34
  let c13952 : Index := 13952#32
  ![v1605.toNat, 13952]
def k0_off122 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1619 : Index := Scalar.indexCast v34
  let c14080 : Index := 14080#32
  ![v1619.toNat, 14080]
def k0_off123 (k0_t3 : Fin k0_t3_loop.trips) : Fin 2 → Nat :=
  let c0_i32_22 : BitVec 32 := 0#32
  let c1_i32_23 : BitVec 32 := 1#32
  let arg13 : BitVec 32 := Scf.iv c0_i32_22 c1_i32_23 k0_t3
  let c32_i32 : BitVec 32 := 32#32
  let v33 : BitVec 32 := Scalar.muli arg13 c32_i32
  let v34 : BitVec 32 := v33
  let v1633 : Index := Scalar.indexCast v34
  let c14208 : Index := 14208#32
  ![v1633.toNat, 14208]
abbrev stage0_0 : Fin 1 → Memref sig .tc .vmem S256x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S112x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S112x112 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x14336 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_16 : BitVec 32 := 0#32
  let c56_i32_17 : BitVec 32 := 56#32
  let v31 : BitVec 32 := Scalar.addi c0_i32_16 c56_i32_17
  let c1_i32_18 : BitVec 32 := 1#32
  ⟨c0_i32_16, v31, c1_i32_18⟩
def k1_mult1 (k1_t1 : Fin k1_t1_loop.trips) : BitVec 32 :=
  let c0_i32_16 : BitVec 32 := 0#32
  let c1_i32_18 : BitVec 32 := 1#32
  let arg9 : BitVec 32 := Scf.iv c0_i32_16 c1_i32_18 k1_t1
  let c256_i32 : BitVec 32 := 256#32
  let v32 : BitVec 32 := Scalar.muli arg9 c256_i32
  v32
def k1_off1 (k1_t1 : Fin k1_t1_loop.trips) : Fin 2 → Nat :=
  let c0_20 : Index := 0#32
  let c0_i32_16 : BitVec 32 := 0#32
  let c1_i32_18 : BitVec 32 := 1#32
  let arg9 : BitVec 32 := Scf.iv c0_i32_16 c1_i32_18 k1_t1
  let c256_i32 : BitVec 32 := 256#32
  let v32 : BitVec 32 := Scalar.muli arg9 c256_i32
  let v33 : BitVec 32 := v32
  let v34 : Index := Scalar.indexCast v33
  ![0, v34.toNat]
@[reducible] def k1_t2_loop : Scf.Loop 32 :=
  let c0_i32_3 : BitVec 32 := 0#32
  let c56_i32 : BitVec 32 := 56#32
  let v8 : BitVec 32 := Scalar.addi c0_i32_3 c56_i32
  let c1_i32 : BitVec 32 := 1#32
  ⟨c0_i32_3, v8, c1_i32⟩
def k1_mult2 (k1_t2 : Fin k1_t2_loop.trips) : BitVec 32 :=
  let c0_i32_3 : BitVec 32 := 0#32
  let c1_i32 : BitVec 32 := 1#32
  let arg9 : BitVec 32 := Scf.iv c0_i32_3 c1_i32 k1_t2
  let c128_i32 : BitVec 32 := 128#32
  let v31 : BitVec 32 := Scalar.muli arg9 c128_i32
  v31
def k1_off2 (k1_t2 : Fin k1_t2_loop.trips) : Fin 2 → Nat :=
  let c0_i32_3 : BitVec 32 := 0#32
  let c1_i32 : BitVec 32 := 1#32
  let arg9 : BitVec 32 := Scf.iv c0_i32_3 c1_i32 k1_t2
  let c128_i32 : BitVec 32 := 128#32
  let v31 : BitVec 32 := Scalar.muli arg9 c128_i32
  let v32 : BitVec 32 := v31
  let v33 : Index := Scalar.indexCast v32
  let c0_16 : Index := 0#32
  ![v33.toNat, 0]
def k1_mult3 (k1_t2 : Fin k1_t2_loop.trips) : BitVec 32 :=
  let c0_i32_3 : BitVec 32 := 0#32
  let c1_i32 : BitVec 32 := 1#32
  let arg9 : BitVec 32 := Scf.iv c0_i32_3 c1_i32 k1_t2
  let c256_i32 : BitVec 32 := 256#32
  let v52 : BitVec 32 := Scalar.muli arg9 c256_i32
  v52
def k1_off3 (k1_t2 : Fin k1_t2_loop.trips) : Fin 2 → Nat :=
  let c0_21 : Index := 0#32
  let c0_i32_3 : BitVec 32 := 0#32
  let c1_i32 : BitVec 32 := 1#32
  let arg9 : BitVec 32 := Scf.iv c0_i32_3 c1_i32 k1_t2
  let c256_i32 : BitVec 32 := 256#32
  let v52 : BitVec 32 := Scalar.muli arg9 c256_i32
  let v53 : BitVec 32 := v52
  let v54 : Index := Scalar.indexCast v53
  ![0, v54.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x14336 .i8 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S7168x512 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S1x256x14336 : Shape := ⟨3, ![1, 256, 14336]⟩
abbrev S14336 : Shape := ⟨1, ![14336]⟩
abbrev S112x112 : Shape := ⟨2, ![112, 112]⟩
abbrev S128x128 : Shape := ⟨2, ![128, 128]⟩
abbrev S_ : Shape := ⟨0, ![]⟩
abbrev S7168x4096 : Shape := ⟨2, ![7168, 4096]⟩
abbrev S4096 : Shape := ⟨1, ![4096]⟩
abbrev S1x1x14336 : Shape := ⟨3, ![1, 1, 14336]⟩
abbrev S1x256x112x128 : Shape := ⟨4, ![1, 256, 112, 128]⟩
abbrev S1x256x128x112 : Shape := ⟨4, ![1, 256, 128, 112]⟩
abbrev S1x256 : Shape := ⟨2, ![1, 256]⟩
abbrev S1x256x1 : Shape := ⟨3, ![1, 256, 1]⟩
abbrev S1x256x4096 : Shape := ⟨3, ![1, 256, 4096]⟩
abbrev S1x256x7168x2 : Shape := ⟨4, ![1, 256, 7168, 2]⟩
abbrev S1x256x7168x1 : Shape := ⟨4, ![1, 256, 7168, 1]⟩
abbrev S1x256x7168 : Shape := ⟨3, ![1, 256, 7168]⟩
abbrev S1x1x4096 : Shape := ⟨3, ![1, 1, 4096]⟩

abbrev nBuf : Space → Nat
  | .hbm => 70
  | .vmem => 8
  | .smem => 0
  | _ => 0

abbrev bufTy : (tb : Table) → Fin (tcTables nBuf tb) → BufTy
  | .hbm, ⟨0, _⟩ => ⟨S1x256x14336, .bf16⟩
  | .hbm, ⟨1, _⟩ => ⟨S14336, .f32⟩
  | .hbm, ⟨2, _⟩ => ⟨S112x112, .bf16⟩
  | .hbm, ⟨3, _⟩ => ⟨S128x128, .bf16⟩
  | .hbm, ⟨4, _⟩ => ⟨S_, .f32⟩
  | .hbm, ⟨5, _⟩ => ⟨S7168x4096, .i8⟩
  | .hbm, ⟨6, _⟩ => ⟨S4096, .f32⟩
  | .hbm, ⟨7, _⟩ => ⟨S1x256x14336, .f32⟩
  | .hbm, ⟨8, _⟩ => ⟨S1x1x14336, .f32⟩
  | .hbm, ⟨9, _⟩ => ⟨S1x256x14336, .f32⟩
  | .hbm, ⟨10, _⟩ => ⟨S1x256x14336, .f32⟩
  | .hbm, ⟨11, _⟩ => ⟨S1x256x14336, .bf16⟩
  | .hbm, ⟨12, _⟩ => ⟨S1x256x112x128, .bf16⟩
  | .hbm, ⟨13, _⟩ => ⟨S1x256x112x128, .f32⟩
  | .hbm, ⟨14, _⟩ => ⟨S1x256x112x128, .bf16⟩
  | .hbm, ⟨15, _⟩ => ⟨S1x256x128x112, .f32⟩
  | .hbm, ⟨16, _⟩ => ⟨S1x256x112x128, .f32⟩
  | .hbm, ⟨17, _⟩ => ⟨S1x256x14336, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S_, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x256, .i1⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | .hbm, ⟨37, _⟩ => ⟨S_, .f32⟩
  | .hbm, ⟨38, _⟩ => ⟨S_, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1x256, .f32⟩
  | .hbm, ⟨48, _⟩ => ⟨S1x256, .f32⟩
  | .hbm, ⟨49, _⟩ => ⟨S_, .f32⟩
  | .hbm, ⟨50, _⟩ => ⟨S1x256, .f32⟩
  | .hbm, ⟨51, _⟩ => ⟨S1x256, .f32⟩
  | .hbm, ⟨52, _⟩ => ⟨S1x256x1, .f32⟩
  | .hbm, ⟨53, _⟩ => ⟨S1x256x14336, .f32⟩
  | .hbm, ⟨54, _⟩ => ⟨S1x256x14336, .f32⟩
  | .hbm, ⟨55, _⟩ => ⟨S1x256x14336, .f32⟩
  | .hbm, ⟨56, _⟩ => ⟨S1x256x1, .f32⟩
  | .hbm, ⟨57, _⟩ => ⟨S1x256x14336, .f32⟩
  | .hbm, ⟨58, _⟩ => ⟨S1x256x14336, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S1x256x14336, .f32⟩
  | .hbm, ⟨63, _⟩ => ⟨S1x256x14336, .f32⟩
  | .hbm, ⟨64, _⟩ => ⟨S_, .f32⟩
  | .hbm, ⟨65, _⟩ => ⟨S1x256x14336, .f32⟩
  | .hbm, ⟨66, _⟩ => ⟨S1x256x14336, .f32⟩
  | .hbm, ⟨67, _⟩ => ⟨S1x256x4096, .bf16⟩
  | .hbm, ⟨68, _⟩ => ⟨S1x256x14336, .i8⟩
  | .hbm, ⟨69, _⟩ => ⟨S1x256, .i32⟩
  | .local _ .vmem, ⟨0, _⟩ => ⟨S1x256x14336, .f32⟩
  | .local _ .vmem, ⟨1, _⟩ => ⟨S1x256, .f32⟩
  | .local _ .vmem, ⟨2, _⟩ => ⟨S1x256, .f32⟩
  | .local _ .vmem, ⟨3, _⟩ => ⟨S7168x4096, .i8⟩
  | .local _ .vmem, ⟨4, _⟩ => ⟨S4096, .f32⟩
  | .local _ .vmem, ⟨5, _⟩ => ⟨S1x256x4096, .bf16⟩
  | .local _ .vmem, ⟨6, _⟩ => ⟨S1x256x14336, .i8⟩
  | .local _ .vmem, ⟨7, _⟩ => ⟨S1x256, .i32⟩
  | _, _ => ⟨S1x256x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_cst_6 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_cst_8 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_v37 : Ref sig .tc := ⟨.hbm, 66, rfl⟩
abbrev main_v38_0 : Ref sig .tc := ⟨.hbm, 67, rfl⟩
abbrev main_v38_1 : Ref sig .tc := ⟨.hbm, 68, rfl⟩
abbrev main_v38_2 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x256x14336 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x4096 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256x14336 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.TrLoop.lean ====
/- The transform's three counted loops: one trip of each run over a symbolic trip, the pieces the trips write, and each
   loop by its invariant. -/
module

public import proofs.«01_k».proof.Proof.Gen.KernelIdeal
public import proofs.«01_k».proof.Proof.Gen.KernelIdeal.Skeleton
public import proofs.«01_k».proof.Proof.Gen.KernelIdeal.Loops

@[expose] public section

set_option maxRecDepth 16384

noncomputable section

namespace Cert.KernelIdeal.Tr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V)
  (arg0 : Memref sig .tc .vmem S256x14336 .bf16) (harg0 : arg0.IsWhole)
  (arg1 : Memref sig .tc .vmem S112x128 .f32) (harg1 : arg1.IsWhole)
  (arg2 : Memref sig .tc .vmem S112x112 .bf16) (harg2 : arg2.IsWhole)
  (arg3 : Memref sig .tc .vmem S128x128 .bf16) (harg3 : arg3.IsWhole)
  (arg4 : Memref sig .tc .smem S1 .f32) (harg4 : arg4.IsWhole)
  (arg5 : Memref sig .tc .vmem S256x14336 .i8) (harg5 : arg5.IsWhole)
  (arg6 : Memref sig .tc .vmem S256x128 .f32) (harg6 : arg6.IsWhole)
  (arg7 : Memref sig .tc .vmem S256x128 .f32) (harg7 : arg7.IsWhole)
  (arg8 : Memref sig .tc .vmem S15360x2x128 .bf16) (harg8 : arg8.IsWhole)
  (arg9 : Memref sig .tc .vmem S29120x128 .f32) (harg9 : arg9.IsWhole)
  (arg10 : Memref sig .tc .vmem S256x256 .bf16) (harg10 : arg10.IsWhole)
  (arg11 : Memref sig .tc .vmem S224x256 .bf16) (harg11 : arg11.IsWhole)
  (arg12 : Memref sig .tc .vmem S8x128 .f32) (harg12 : arg12.IsWhole)

/-- What a trip of the first stage touches. -/
abbrev Trip1 (X0 : BufTy.Contents (Elt F) arg0.view.ty) (X1 : BufTy.Contents (Elt F) arg1.view.ty) (X10 : BufTy.Contents (Elt F) arg10.view.ty)
    (f8 : BufTy.Contents (Elt F) arg8.view.ty) : sProp 𝕄 :=
  iprop((arg0.view.loc (c : Thread nD τ) ↦[arg0.view.set]{fullShare} X0) ∗ (arg1.view.loc (c : Thread nD τ) ↦[arg1.view.set]{fullShare} X1)
    ∗ (arg10.view.loc (c : Thread nD τ) ↦[arg10.view.set]{fullShare} X10) ∗ (arg8.view.loc (c : Thread nD τ) ↦[arg8.view.set]{fullShare} f8))

set_option maxHeartbeats 4000000 in
/-- One trip of the first stage: the rows it writes. -/
@[irreducible] def trip1 (X0 : BufTy.Contents (Elt F) arg0.view.ty) (X1 : BufTy.Contents (Elt F) arg1.view.ty) (X10 : BufTy.Contents (Elt F) arg10.view.ty)
    (k : Fin k0_t1_loop.trips) :
    { L : List (View.Piece (Elt F) S15360x2x128 .bf16) // ∀ (E : Set ℕ) (f8 : BufTy.Contents (Elt F) arg8.view.ty),
      Trip1 (F := F) c arg0 arg1 arg8 arg10 X0 X1 X10 f8
      ⊢ wp frame (wpE (defs₀ (F := F)) 𝒱 (c : Thread nD τ) bd) E (k0_t1_body (F := F) arg0 harg0 arg1 harg1 arg2 harg2 arg3 harg3 arg4 harg4 arg5 harg5 arg6 harg6 arg7 harg7 arg8 harg8 arg9 harg9 arg10 harg10 arg11 harg11 arg12 harg12 k ())
          (fun _ => Trip1 (F := F) c arg0 arg1 arg8 arg10 X0 X1 X10 (arg8.view.writes (Elt F) f8 L)) } := by
  have hk : k.val < 56 := k.isLt
  refine ⟨?_, fun E f8 => ?run⟩
  case run =>
    unfold k0_t1_body
    iintro ⟨H0, H1, H10, H8⟩
    sl_exec
    sl_step
    sl_close

/-- What a trip of the second stage touches. -/
abbrev Trip2 (X8 : BufTy.Contents (Elt F) arg8.view.ty) (X11 : BufTy.Contents (Elt F) arg11.view.ty)
    (f9 : BufTy.Contents (Elt F) arg9.view.ty) : sProp 𝕄 :=
  iprop((arg8.view.loc (c : Thread nD τ) ↦[arg8.view.set]{fullShare} X8) ∗ (arg11.view.loc (c : Thread nD τ) ↦[arg11.view.set]{fullShare} X11)
    ∗ (arg9.view.loc (c : Thread nD τ) ↦[arg9.view.set]{fullShare} f9))

set_option maxHeartbeats 4000000 in
/-- One trip of the second stage: the rows it writes. -/
@[irreducible] def trip2 (v27 : FVec F S16x128 .bf16) (X8 : BufTy.Contents (Elt F) arg8.view.ty) (X11 : BufTy.Contents (Elt F) arg11.view.ty)
    (k : Fin k0_t2_loop.trips) :
    { L : List (View.Piece (Elt F) S29120x128 .f32) // ∀ (E : Set ℕ) (f9 : BufTy.Contents (Elt F) arg9.view.ty),
      Trip2 (F := F) c arg8 arg9 arg11 X8 X11 f9
      ⊢ wp frame (wpE (defs₀ (F := F)) 𝒱 (c : Thread nD τ) bd) E (k0_t2_body (F := F) arg0 harg0 arg1 harg1 arg2 harg2 arg3 harg3 arg4 harg4 arg5 harg5 arg6 harg6 arg7 harg7 arg8 harg8 arg9 harg9 arg10 harg10 arg11 harg11 arg12 harg12 v27 k ())
          (fun _ => Trip2 (F := F) c arg8 arg9 arg11 X8 X11 (arg9.view.writes (Elt F) f9 L)) } := by
  have hk : k.val < 64 := k.isLt
  refine ⟨?_, fun E f9 => ?run⟩
  case run =>
    unfold k0_t2_body
    iintro ⟨H8, H11, H9⟩
    sl_exec
    sl_step
    sl_close

/-- What a trip of the quantiser touches. -/
abbrev Trip3 (X9 : BufTy.Contents (Elt F) arg9.view.ty)
    (f5 : BufTy.Contents (Elt F) arg5.view.ty) (f6 : BufTy.Contents (Elt F) arg6.view.ty) (f7 : BufTy.Contents (Elt F) arg7.view.ty) : sProp 𝕄 :=
  iprop((arg9.view.loc (c : Thread nD τ) ↦[arg9.view.set]{fullShare} X9) ∗ (arg5.view.loc (c : Thread nD τ) ↦[arg5.view.set]{fullShare} f5)
    ∗ (arg6.view.loc (c : Thread nD τ) ↦[arg6.view.set]{fullShare} f6) ∗ (arg7.view.loc (c : Thread nD τ) ↦[arg7.view.set]{fullShare} f7))

set_option maxHeartbeats 40000000 in
/-- One trip of the quantiser: the rows it writes of the codes, the scales and the zero points. -/
@[irreducible] def trip3 (v29 : Elt F .f32) (X9 : BufTy.Contents (Elt F) arg9.view.ty) (k : Fin k0_t3_loop.trips) :
    Σ' (L5 : List (View.Piece (Elt F) S256x14336 .i8)) (L6 : List (View.Piece (Elt F) S256x128 .f32)),
    { L7 : List (View.Piece (Elt F) S256x128 .f32) // ∀ (E : Set ℕ) (f5 : BufTy.Contents (Elt F) arg5.view.ty) (f6 : BufTy.Contents (Elt F) arg6.view.ty) (f7 : BufTy.Contents (Elt F) arg7.view.ty),
      Trip3 (F := F) c arg5 arg6 arg7 arg9 X9 f5 f6 f7
      ⊢ wp frame (wpE (defs₀ (F := F)) 𝒱 (c : Thread nD τ) bd) E (k0_t3_body (F := F) arg0 harg0 arg1 harg1 arg2 harg2 arg3 harg3 arg4 harg4 arg5 harg5 arg6 harg6 arg7 harg7 arg8 harg8 arg9 harg9 arg10 harg10 arg11 harg11 arg12 harg12 v29 k ())
          (fun _ => Trip3 (F := F) c arg5 arg6 arg7 arg9 X9 (arg5.view.writes (Elt F) f5 L5) (arg6.view.writes (Elt F) f6 L6) (arg7.view.writes (Elt F) f7 L7)) } := by
  have hk : k.val < 8 := k.isLt
  refine ⟨?_, ?_, ?_, fun E f5 f6 f7 => ?run⟩
  case run =>
    unfold k0_t3_body
    iintro ⟨H9, H5, H6, H7⟩
    sl_exec
    sl_step
    sl_close

/-- The rows of the first stage's trips before `k`, last first. -/
def pb1 (X0 : BufTy.Contents (Elt F) arg0.view.ty) (X1 : BufTy.Contents (Elt F) arg1.view.ty) (X10 : BufTy.Contents (Elt F) arg10.view.ty) : ℕ → List (View.Piece (Elt F) S15360x2x128 .bf16)
  | 0 => []
  | k + 1 => if h : k < k0_t1_loop.trips then
      (trip1 (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 ⟨k, h⟩).1 ++ pb1 X0 X1 X10 k
    else pb1 X0 X1 X10 k

theorem pb1_succ (X0 : BufTy.Contents (Elt F) arg0.view.ty) (X1 : BufTy.Contents (Elt F) arg1.view.ty) (X10 : BufTy.Contents (Elt F) arg10.view.ty) (k : Fin k0_t1_loop.trips) :
    pb1 (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 (k.val + 1)
      = (trip1 (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 k).1 ++ pb1 (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 k.val := by
  rw [pb1.eq_2]; exact dif_pos k.isLt

set_option warn.classDefReducibility false in
/-- The first stage's loop: before trip `k` the words hold the rows of the trips before. -/
@[sl_loop] def loopInv1 (X0 : BufTy.Contents (Elt F) arg0.view.ty) (X1 : BufTy.Contents (Elt F) arg1.view.ty) (X10 : BufTy.Contents (Elt F) arg10.view.ty)
    (G8 : BufTy.Contents (Elt F) arg8.view.ty) :
    LoopInvTy_k0_t1 (F := F) Unit ℕ (UR sig nD τ) ℕ 𝒱 c bd Set.univ arg0 harg0 arg1 harg1 arg2 harg2 arg3 harg3 arg4 harg4 arg5 harg5 arg6 harg6 arg7 harg7 arg8 harg8 arg9 harg9 arg10 harg10 arg11 harg11 arg12 harg12 where
  inv k _ := iprop((arg0.view.loc (c : Thread nD τ) ↦[arg0.view.set]{fullShare} X0) ∗ (arg1.view.loc (c : Thread nD τ) ↦[arg1.view.set]{fullShare} X1)
    ∗ (arg10.view.loc (c : Thread nD τ) ↦[arg10.view.set]{fullShare} X10)
    ∗ (∃ f, (arg8.view.loc (c : Thread nD τ) ↦[arg8.view.set]{fullShare} f) ∗ ⌜f = arg8.view.writes (Elt F) G8 (pb1 (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 k)⌝))
  step k acc := by
    iintro ⟨H0, H1, H10, ⟨%f8, H8, %h8⟩⟩
    iapply (wp_wand_r Idealize.ShloMosaic.frame (wpE (defs₀ (F := F)) 𝒱 (c : Thread nD τ) bd) Set.univ)
    isplitl [H0 H1 H10 H8]
    · iapply ((trip1 (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 k).2 Set.univ f8)
      isplitl [H0]; · iexact H0
      isplitl [H1]; · iexact H1
      isplitl [H10]; · iexact H10
      iexact H8
    · iintro %_ ⟨H0, H1, H10, H8⟩
      isplitl [H0]; · iexact H0
      isplitl [H1]; · iexact H1
      isplitl [H10]; · iexact H10
      rw [pb1_succ]
      iexists _; isplitl [H8]; · iexact H8
      ipureintro; rw [h8, ← View.writes_append]

/-- The rows of the second stage's trips before `k`, last first. -/
def pb2 (v27 : FVec F S16x128 .bf16) (X8 : BufTy.Contents (Elt F) arg8.view.ty) (X11 : BufTy.Contents (Elt F) arg11.view.ty) : ℕ → List (View.Piece (Elt F) S29120x128 .f32)
  | 0 => []
  | k + 1 => if h : k < k0_t2_loop.trips then
      (trip2 (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 ⟨k, h⟩).1 ++ pb2 v27 X8 X11 k
    else pb2 v27 X8 X11 k

theorem pb2_succ (v27 : FVec F S16x128 .bf16) (X8 : BufTy.Contents (Elt F) arg8.view.ty) (X11 : BufTy.Contents (Elt F) arg11.view.ty) (k : Fin k0_t2_loop.trips) :
    pb2 (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 (k.val + 1)
      = (trip2 (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 k).1 ++ pb2 (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 k.val := by
  rw [pb2.eq_2]; exact dif_pos k.isLt

set_option warn.classDefReducibility false in
/-- The second stage's loop: before trip `k` the rotated tokens hold the rows of the trips before. -/
@[sl_loop] def loopInv2 (v27 : FVec F S16x128 .bf16) (X8 : BufTy.Contents (Elt F) arg8.view.ty) (X11 : BufTy.Contents (Elt F) arg11.view.ty)
    (G9 : BufTy.Contents (Elt F) arg9.view.ty) :
    LoopInvTy_k0_t2 (F := F) Unit ℕ (UR sig nD τ) ℕ 𝒱 c bd Set.univ arg0 harg0 arg1 harg1 arg2 harg2 arg3 harg3 arg4 harg4 arg5 harg5 arg6 harg6 arg7 harg7 arg8 harg8 arg9 harg9 arg10 harg10 arg11 harg11 arg12 harg12 v27 where
  inv k _ := iprop((arg8.view.loc (c : Thread nD τ) ↦[arg8.view.set]{fullShare} X8) ∗ (arg11.view.loc (c : Thread nD τ) ↦[arg11.view.set]{fullShare} X11)
    ∗ (∃ f, (arg9.view.loc (c : Thread nD τ) ↦[arg9.view.set]{fullShare} f) ∗ ⌜f = arg9.view.writes (Elt F) G9 (pb2 (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 k)⌝))
  step k acc := by
    iintro ⟨H8, H11, ⟨%f9, H9, %h9⟩⟩
    iapply (wp_wand_r Idealize.ShloMosaic.frame (wpE (defs₀ (F := F)) 𝒱 (c : Thread nD τ) bd) Set.univ)
    isplitl [H8 H11 H9]
    · iapply ((trip2 (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 k).2 Set.univ f9)
      isplitl [H8]; · iexact H8
      isplitl [H11]; · iexact H11
      iexact H9
    · iintro %_ ⟨H8, H11, H9⟩
      isplitl [H8]; · iexact H8
      isplitl [H11]; · iexact H11
      rw [pb2_succ]
      iexists _; isplitl [H9]; · iexact H9
      ipureintro; rw [h9, ← View.writes_append]

/-- The rows of the codes the quantiser's trips before `k` write, last first. -/
def pb3c (v29 : Elt F .f32) (X9 : BufTy.Contents (Elt F) arg9.view.ty) : ℕ → List (View.Piece (Elt F) S256x14336 .i8)
  | 0 => []
  | k + 1 => if h : k < k0_t3_loop.trips then
      (trip3 (F := F) 𝒱 c bd arg0 harg0 arg1 harg1 arg2 harg2 arg3 harg3 arg4 harg4 arg5 harg5 arg6 harg6 arg7 harg7 arg8 harg8 arg9 harg9 arg10 harg10 arg11 harg11 arg12 harg12 v29 X9 ⟨k, h⟩).1 ++ pb3c v29 X9 k
    else pb3c v29 X9 k

theorem pb3c_succ (v29 : Elt F .f32) (X9 : BufTy.Contents (Elt F) arg9.view.ty) (k : Fin k0_t3_loop.trips) :
    pb3c (F := F) 𝒱 c bd arg0 harg0 arg1 harg1 arg2 harg2 arg3 harg3 arg4 harg4 arg5 harg5 arg6 harg6 arg7 harg7 arg8 harg8 arg9 harg9 arg10 harg10 arg11 harg11 arg12 harg12 v29 X9 (k.val + 1)
      = (trip3 (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k).1 ++ pb3c (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k.val := by
  rw [pb3c.eq_2]; exact dif_pos k.isLt

/-- The rows of the scales. -/
def pb3s (v29 : Elt F .f32) (X9 : BufTy.Contents (Elt F) arg9.view.ty) : ℕ → List (View.Piece (Elt F) S256x128 .f32)
  | 0 => []
  | k + 1 => if h : k < k0_t3_loop.trips then
      (trip3 (F := F) 𝒱 c bd arg0 harg0 arg1 harg1 arg2 harg2 arg3 harg3 arg4 harg4 arg5 harg5 arg6 harg6 arg7 harg7 arg8 harg8 arg9 harg9 arg10 harg10 arg11 harg11 arg12 harg12 v29 X9 ⟨k, h⟩).2.1 ++ pb3s v29 X9 k
    else pb3s v29 X9 k

theorem pb3s_succ (v29 : Elt F .f32) (X9 : BufTy.Contents (Elt F) arg9.view.ty) (k : Fin k0_t3_loop.trips) :
    pb3s (F := F) 𝒱 c bd arg0 harg0 arg1 harg1 arg2 harg2 arg3 harg3 arg4 harg4 arg5 harg5 arg6 harg6 arg7 harg7 arg8 harg8 arg9 harg9 arg10 harg10 arg11 harg11 arg12 harg12 v29 X9 (k.val + 1)
      = (trip3 (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k).2.1 ++ pb3s (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k.val := by
  rw [pb3s.eq_2]; exact dif_pos k.isLt

/-- The rows of the zero points. -/
def pb3z (v29 : Elt F .f32) (X9 : BufTy.Contents (Elt F) arg9.view.ty) : ℕ → List (View.Piece (Elt F) S256x128 .f32)
  | 0 => []
  | k + 1 => if h : k < k0_t3_loop.trips then
      (trip3 (F := F) 𝒱 c bd arg0 harg0 arg1 harg1 arg2 harg2 arg3 harg3 arg4 harg4 arg5 harg5 arg6 harg6 arg7 harg7 arg8 harg8 arg9 harg9 arg10 harg10 arg11 harg11 arg12 harg12 v29 X9 ⟨k, h⟩).2.2.1 ++ pb3z v29 X9 k
    else pb3z v29 X9 k

theorem pb3z_succ (v29 : Elt F .f32) (X9 : BufTy.Contents (Elt F) arg9.view.ty) (k : Fin k0_t3_loop.trips) :
    pb3z (F := F) 𝒱 c bd arg0 harg0 arg1 harg1 arg2 harg2 arg3 harg3 arg4 harg4 arg5 harg5 arg6 harg6 arg7 harg7 arg8 harg8 arg9 harg9 arg10 harg10 arg11 harg11 arg12 harg12 v29 X9 (k.val + 1)
      = (trip3 (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k).2.2.1 ++ pb3z (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k.val := by
  rw [pb3z.eq_2]; exact dif_pos k.isLt

set_option warn.classDefReducibility false in
/-- The quantiser's loop: before trip `k` the three results hold the rows of the trips before. -/
@[sl_loop] def loopInv3 (v29 : Elt F .f32) (X9 : BufTy.Contents (Elt F) arg9.view.ty)
    (G5 : BufTy.Contents (Elt F) arg5.view.ty) (G6 : BufTy.Contents (Elt F) arg6.view.ty) (G7 : BufTy.Contents (Elt F) arg7.view.ty) :
    LoopInvTy_k0_t3 (F := F) Unit ℕ (UR sig nD τ) ℕ 𝒱 c bd Set.univ arg0 harg0 arg1 harg1 arg2 harg2 arg3 harg3 arg4 harg4 arg5 harg5 arg6 harg6 arg7 harg7 arg8 harg8 arg9 harg9 arg10 harg10 arg11 harg11 arg12 harg12 v29 where
  inv k _ := iprop((arg9.view.loc (c : Thread nD τ) ↦[arg9.view.set]{fullShare} X9)
    ∗ (∃ f, (arg5.view.loc (c : Thread nD τ) ↦[arg5.view.set]{fullShare} f) ∗ ⌜f = arg5.view.writes (Elt F) G5 (pb3c (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k)⌝)
    ∗ (∃ f, (arg6.view.loc (c : Thread nD τ) ↦[arg6.view.set]{fullShare} f) ∗ ⌜f = arg6.view.writes (Elt F) G6 (pb3s (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k)⌝)
    ∗ (∃ f, (arg7.view.loc (c : Thread nD τ) ↦[arg7.view.set]{fullShare} f) ∗ ⌜f = arg7.view.writes (Elt F) G7 (pb3z (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k)⌝))
  step k acc := by
    iintro ⟨H9, ⟨%f5, H5, %h5⟩, ⟨%f6, H6, %h6⟩, ⟨%f7, H7, %h7⟩⟩
    iapply (wp_wand_r Idealize.ShloMosaic.frame (wpE (defs₀ (F := F)) 𝒱 (c : Thread nD τ) bd) Set.univ)
    isplitl [H9 H5 H6 H7]
    · iapply ((trip3 (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k).2.2.2 Set.univ f5 f6 f7)
      isplitl [H9]; · iexact H9
      isplitl [H5]; · iexact H5
      isplitl [H6]; · iexact H6
      iexact H7
    · iintro %_ ⟨H9, H5, H6, H7⟩
      isplitl [H9]; · iexact H9
      rw [pb3c_succ, pb3s_succ, pb3z_succ]
      isplitl [H5]
      · iexists _; isplitl [H5]; · iexact H5
        ipureintro; rw [h5, ← View.writes_append]
      isplitl [H6]
      · iexists _; isplitl [H6]; · iexact H6
        ipureintro; rw [h6, ← View.writes_append]
      iexists _; isplitl [H7]; · iexact H7
      ipureintro; rw [h7, ← View.writes_append]

end Cert.KernelIdeal.Tr
-- ==== Proof.TrVal.lean ====
/- The values the transform computes, stage by stage, as functions of its operands: the first rotation's tiles, the second
   rotation's rows, each row block's extrema, scale, zero point and codes. -/
module

public import proofs.«01_k».proof.Proof.Gen.KernelIdeal.Skeleton
public import Idealize.ShloMosaic.Lib.VecWindow
public import Idealize.ShloMosaic.Lib.Pointwise

@[expose] public section

set_option maxRecDepth 16384

noncomputable section

namespace Cert.KernelIdeal.Tr

open Cert.KernelIdeal Cert.KernelIdeal.Gen
open Idealize.ShloMosaic Idealize.ShloMosaic.Pointwise

variable {F : FTy → Type} [FloatOps F]

/-- The block-diagonal second factor. -/
def bdv (x3 : Vec F S128x128 .bf16) : Vec F S256x256 .bf16 :=
  VecWindow.put (VecWindow.put (k0_pay163 (F := F)) ![0, 0] S128x128.size (k0_pay164 x3)) ![128, 128] S128x128.size (k0_pay165 x3)

/-- The stacked first factor. -/
def ptv (x2 : Vec F S112x112 .bf16) : Vec F S224x256 .bf16 :=
  VecWindow.put (VecWindow.put (k0_pay166 (F := F)) ![0, 0] S112x112.size (k0_pay168 x2)) ![112, 128] S112x112.size (k0_pay169 x2)

/-- The first rotation of column pair `k`, for every token. -/
def T1 (x0 : Vec F S256x14336 .bf16) (x1 : Vec F S112x128 .f32) (bdm : Vec F S256x256 .bf16) (k : Fin k0_t1_loop.trips) : Vec F S256x2x128 .bf16 :=
  k0_pay170 (VecWindow.window x1 (k0_off1 k) S1x128.size (k0_off1_inb k)) (VecWindow.window x1 (k0_off2 k) S1x128.size (k0_off2_inb k))
    (VecWindow.window x0 (k0_off3 k) S256x256.size (k0_off3_inb k)) bdm

/-- One token's rotated tile. -/
def tile (x0 : Vec F S256x14336 .bf16) (x1 : Vec F S112x128 .f32) (bdm : Vec F S256x256 .bf16) (tok : Fin 256) : Vec F S56x2x128 .bf16 :=
  fun y => T1 x0 x1 bdm ⟨(y 0).val, (y 0).isLt⟩ (ix3 tok (y 1) (y 2))

/-- The four tokens' second rotations of one product. -/
def quad (v27 : FVec F S16x128 .bf16) (a b d e : Vec F S56x2x128 .bf16) (pt : Vec F S224x256 .bf16) : Fin 4 → Vec F S112x128 .f32
  | 0 => k0_pay7 v27 a b d e pt
  | 1 => k0_pay1 (k0_pay8 v27 a b d e pt)
  | 2 => k0_pay2 (k0_pay6 v27 a b d e pt)
  | 3 => k0_pay3 (k0_pay6 v27 a b d e pt)

/-- Token `4 k + r`. -/
def tk (k : Fin 64) (r : Fin 4) : Fin 256 := ⟨4 * k.val + r.val, by omega⟩

/-- One token's second rotation. -/
def zed (v27 : FVec F S16x128 .bf16) (tl : Fin 256 → Vec F S56x2x128 .bf16) (pt : Vec F S224x256 .bf16) (tok : Fin 256) : Vec F S112x128 .f32 :=
  quad v27 (tl (tk ⟨tok.val / 4, by omega⟩ 0)) (tl (tk ⟨tok.val / 4, by omega⟩ 1)) (tl (tk ⟨tok.val / 4, by omega⟩ 2)) (tl (tk ⟨tok.val / 4, by omega⟩ 3)) pt
    ⟨tok.val % 4, by omega⟩

/-- Row block `a` of thirty-two tokens. -/
def chunk (Z : Fin 256 → Vec F S112x128 .f32) (k : Fin 8) (a : Fin 112) : Vec F S32x128 .f32 :=
  fun y => Z ⟨32 * k.val + (y 0).val, by have := (y 0).isLt; have : (y 0).val < 32 := this; omega⟩ (ix2 a (y 1))

/-- The extrema over the first `n + 1` row blocks. -/
def mxmn (Z : Fin 256 → Vec F S112x128 .f32) (k : Fin 8) : ℕ → Vec F S32x128 .f32 × Vec F S32x128 .f32
  | 0 => (chunk Z k 0, chunk Z k 0)
  | n + 1 => if h : n + 1 < 112 then (k0_pay9 (mxmn Z k n).1 (chunk Z k ⟨n + 1, h⟩), k0_pay10 (mxmn Z k n).2 (chunk Z k ⟨n + 1, h⟩)) else mxmn Z k n

/-- The scales of a row block. -/
def sck (g : Elt F .f32) (Z : Fin 256 → Vec F S112x128 .f32) (k : Fin 8) : Vec F S32x128 .f32 :=
  k0_pay12 (k0_pay4 g) (mxmn Z k 111).1 (mxmn Z k 111).2

/-- The zero points of a row block. -/
def zpk (g : Elt F .f32) (Z : Fin 256 → Vec F S112x128 .f32) (k : Fin 8) : Vec F S32x128 .f32 :=
  k0_pay13 (k0_pay4 g) (mxmn Z k 111).1 (mxmn Z k 111).2

/-- The codes of one tile of a row block. -/
def cdk (g : Elt F .f32) (Z : Fin 256 → Vec F S112x128 .f32) (k : Fin 8) (a : Fin 112) : Vec F S32x128 .i8 :=
  k0_pay16 (sck g Z k) (zpk g Z k) (chunk Z k a)

/-- Every token's scale, zero point and codes. -/
def scales (g : Elt F .f32) (Z : Fin 256 → Vec F S112x128 .f32) : Vec F S256x128 .f32 := fun y =>
  have h : (y 0).val < 256 := (y 0).isLt
  sck g Z ⟨(y 0).val / 32, by omega⟩ (ix2 ⟨(y 0).val % 32, by omega⟩ (y 1))
def zeros (g : Elt F .f32) (Z : Fin 256 → Vec F S112x128 .f32) : Vec F S256x128 .f32 := fun y =>
  have h : (y 0).val < 256 := (y 0).isLt
  zpk g Z ⟨(y 0).val / 32, by omega⟩ (ix2 ⟨(y 0).val % 32, by omega⟩ (y 1))
def codes (g : Elt F .f32) (Z : Fin 256 → Vec F S112x128 .f32) : Vec F S256x14336 .i8 := fun y =>
  have h : (y 0).val < 256 := (y 0).isLt
  have h' : (y 1).val < 14336 := (y 1).isLt
  cdk g Z ⟨(y 0).val / 32, by omega⟩ ⟨(y 1).val / 128, by omega⟩ (ix2 ⟨(y 0).val % 32, by omega⟩ ⟨(y 1).val % 128, by omega⟩)

/-- The rotated tokens of the whole transform. -/
def Zof (x0 : Vec F S256x14336 .bf16) (x1 : Vec F S112x128 .f32) (x2 : Vec F S112x112 .bf16) (x3 : Vec F S128x128 .bf16) : Fin 256 → Vec F S112x128 .f32 :=
  zed (k0_pay171 (F := F)) (tile x0 x1 (bdv x3)) (ptv x2)

end Cert.KernelIdeal.Tr

end
-- ==== Proof.TrRead.lean ====
/- The transform's loops read back: the rows each loop wrote hold the stage's value at every place. -/
module

public import proofs.«01_k».proof.Proof.TrLoop
public import proofs.«01_k».proof.Proof.TrVal
public import Idealize.ShloMosaic.Lib.VecWindow

@[expose] public section

set_option maxRecDepth 16384

noncomputable section

namespace Cert.KernelIdeal.Tr

open Cert.KernelIdeal Cert.KernelIdeal.Gen
open Idealize.ShloMosaic Idealize.ShloMosaic.TcCoe Idealize.ShloMosaic.Tactic Idealize.ShloMosaic.Pointwise
open Idealize.SL Idealize.SL.Sem

variable {F : FTy → Type} [FloatOps F]
variable (𝒱 : Variants) (c : Dev nD) (bd : Option 𝒱.V)
  (arg0 : Memref sig .tc .vmem S256x14336 .bf16) (harg0 : arg0.IsWhole)
  (arg1 : Memref sig .tc .vmem S112x128 .f32) (harg1 : arg1.IsWhole)
  (arg2 : Memref sig .tc .vmem S112x112 .bf16) (harg2 : arg2.IsWhole)
  (arg3 : Memref sig .tc .vmem S128x128 .bf16) (harg3 : arg3.IsWhole)
  (arg4 : Memref sig .tc .smem S1 .f32) (harg4 : arg4.IsWhole)
  (arg5 : Memref sig .tc .vmem S256x14336 .i8) (harg5 : arg5.IsWhole)
  (arg6 : Memref sig .tc .vmem S256x128 .f32) (harg6 : arg6.IsWhole)
  (arg7 : Memref sig .tc .vmem S256x128 .f32) (harg7 : arg7.IsWhole)
  (arg8 : Memref sig .tc .vmem S15360x2x128 .bf16) (harg8 : arg8.IsWhole)
  (arg9 : Memref sig .tc .vmem S29120x128 .f32) (harg9 : arg9.IsWhole)
  (arg10 : Memref sig .tc .vmem S256x256 .bf16) (harg10 : arg10.IsWhole)
  (arg11 : Memref sig .tc .vmem S224x256 .bf16) (harg11 : arg11.IsWhole)
  (arg12 : Memref sig .tc .vmem S8x128 .f32) (harg12 : arg12.IsWhole)

theorem nz (n : ℕ) : n = 0 + 1 * n := by omega

/-- Every piece of a list holds the values `G`, and the list covers the places `P`. -/
structure Good {s : Shape} {e : EltTy} (G : s.Idx → Elt F e) (P : s.Idx → Prop) (L : List (View.Piece (Elt F) s e)) : Prop where
  val : ∀ p ∈ L, ∀ x : p.1.shape.Idx, p.2 x = G (p.1.emb x)
  cov : ∀ y, P y → ∃ p ∈ L, y ∈ p.1.set

theorem Good.nil {s : Shape} {e : EltTy} (G : s.Idx → Elt F e) (P : s.Idx → Prop) (h : ∀ y, ¬ P y) : Good G P ([] : List (View.Piece (Elt F) s e)) :=
  ⟨fun _ hp => absurd hp List.not_mem_nil, fun y hy => absurd hy (h y)⟩

theorem Good.append {s : Shape} {e : EltTy} {G : s.Idx → Elt F e} {P Q R : s.Idx → Prop} {L L' : List (View.Piece (Elt F) s e)}
    (h : Good G P L) (h' : Good G Q L') (hR : ∀ y, R y → P y ∨ Q y) : Good G R (L ++ L') where
  val p hp := (List.mem_append.mp hp).elim (h.val p) (h'.val p)
  cov y hy := (hR y hy).elim
    (fun hP => let ⟨p, hp, hm⟩ := h.cov y hP; ⟨p, List.mem_append_left _ hp, hm⟩)
    (fun hQ => let ⟨p, hp, hm⟩ := h'.cov y hQ; ⟨p, List.mem_append_right _ hp, hm⟩)

theorem Good.cons {s : Shape} {e : EltTy} {G : s.Idx → Elt F e} {P Q R : s.Idx → Prop} {p : View.Piece (Elt F) s e} {L : List (View.Piece (Elt F) s e)}
    (hv : ∀ x : p.1.shape.Idx, p.2 x = G (p.1.emb x)) (hc : ∀ y, Q y → y ∈ p.1.set) (h : Good G P L) (hR : ∀ y, R y → Q y ∨ P y) : Good G R (p :: L) where
  val q hq := by
    rcases List.mem_cons.mp hq with rfl | hq
    · exact hv
    · exact h.val q hq
  cov y hy := (hR y hy).elim (fun hQ => ⟨p, List.mem_cons_self, hc y hQ⟩)
    (fun hP => let ⟨q, hq, hm⟩ := h.cov y hP; ⟨q, List.mem_cons_of_mem _ hq, hm⟩)

theorem Good.read {sig : RefSig} {κ : Kind} {sp : Space} {s : Shape} {e : EltTy} {G : s.Idx → Elt F e} {P : s.Idx → Prop} {L : List (View.Piece (Elt F) s e)}
    (h : Good G P L) (v : View sig κ sp s e) (f : v.ty.Contents (Elt F)) (y : s.Idx) (hy : P y) : v.read (Elt F) (v.writes (Elt F) f L) y = G y :=
  View.read_writes_apply_of_pieces v f G L h.val y (h.cov y hy)

/-- What the first stage leaves in its buffer, over all of it. -/
def G1 (x0 : Vec F S256x14336 .bf16) (x1 : Vec F S112x128 .f32) (bdm : Vec F S256x256 .bf16) : Vec F S15360x2x128 .bf16 := fun y =>
  have h : (y 0).val < 15360 := (y 0).isLt
  tile x0 x1 bdm ⟨(y 0).val / 60, by omega⟩ (ix3 ⟨(y 0).val % 60 % 56, Nat.mod_lt _ (by decide)⟩ (y 1) (y 2))

/-- Places of the first stage's rows `n`. -/
def P1 (Q : ℕ → Prop) (y : S15360x2x128.Idx) : Prop := (y 0).val % 60 < 56 ∧ Q ((y 0).val % 60)

theorem G1_at (x0 : Vec F S256x14336 .bf16) (x1 : Vec F S112x128 .f32) (bdm : Vec F S256x256 .bf16) (z : S15360x2x128.Idx) (k : Fin k0_t1_loop.trips) (tok : Fin 256)
    (h : (z 0).val = k.val + 60 * tok.val) : G1 x0 x1 bdm z = T1 x0 x1 bdm k (ix3 tok (z 1) (z 2)) := by
  have hk : k.val < 56 := k.isLt
  have e1 : (z 0).val % 60 % 56 = k.val := by omega
  have e2 : (z 0).val / 60 = tok.val := by omega
  obtain ⟨k, hk'⟩ := k
  obtain ⟨t, ht⟩ := tok
  dsimp only at e1 e2
  subst e1 e2
  rfl

theorem trip1_good (X0 : BufTy.Contents (Elt F) arg0.view.ty) (X1 : BufTy.Contents (Elt F) arg1.view.ty) (X10 : BufTy.Contents (Elt F) arg10.view.ty) (k : Fin k0_t1_loop.trips) :
    Good (G1 (arg0.view.read (Elt F) X0) (arg1.view.read (Elt F) X1) (arg10.view.read (Elt F) X10)) (P1 (· = k.val))
      (trip1 (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 k).1 := by
  have hk : k.val < 56 := k.isLt
  unfold trip1
  dsimp only
  refine Good.cons (Q := P1 (· = k.val)) (P := fun _ => False) ?_ ?_ (Good.nil _ _ fun _ => id) fun y hy => Or.inl hy
  · intro x
    refine Eq.trans ?_ (G1_at _ _ _ _ k (x 0) ?_).symm
    · refine Eq.trans (b := T1 (arg0.view.read (Elt F) X0) (arg1.view.read (Elt F) X1) (arg10.view.read (Elt F) X10) k x) ?_ (congrArg _ ?_)
      · unfold T1
        dsimp only
        rw [← View.readAt_full arg10.view X10 inb_S256x256_S256x256_0_0]
        rfl
      · funext a
        apply Fin.ext
        fin_cases a
        · rfl
        · show (x 1).val = k0_off4 k 1 + 1 * (x 1).val; rw [congrFun (k0_off4_eq k) 1]; exact nz _
        · show (x 2).val = k0_off4 k 2 + 1 * (x 2).val; rw [congrFun (k0_off4_eq k) 2]; exact nz _
    · exact congrArg (fun o => o + 60 * (x 0).val) (congrFun (k0_off4_eq k) 0)
  · intro y hy
    refine (LoadRect.mem_set _).mpr fun a => ?_
    have h1 : (y 0).val % 60 = k.val := hy.2
    have h2 : (y 0).val < 15360 := (y 0).isLt
    fin_cases a
    · refine ⟨(y 0).val / 60, (by omega : (y 0).val / 60 < 256), ?_⟩
      refine Eq.trans ?_ (congrArg (fun o => o + 60 * ((y 0).val / 60)) (congrFun (k0_off4_eq k) 0)).symm
      show (y 0).val = k.val + 60 * ((y 0).val / 60)
      omega
    · have := (y 1).isLt; exact ⟨(y 1).val, this, by show (y 1).val = k0_off4 k 1 + 1 * (y 1).val; rw [congrFun (k0_off4_eq k) 1]; exact nz _⟩
    · have := (y 2).isLt; exact ⟨(y 2).val, this, by show (y 2).val = k0_off4 k 2 + 1 * (y 2).val; rw [congrFun (k0_off4_eq k) 2]; exact nz _⟩

/-- The rows of all trips before `n`. -/
theorem pb1_good (X0 : BufTy.Contents (Elt F) arg0.view.ty) (X1 : BufTy.Contents (Elt F) arg1.view.ty) (X10 : BufTy.Contents (Elt F) arg10.view.ty) :
    ∀ n : ℕ, n ≤ 56 → Good (G1 (arg0.view.read (Elt F) X0) (arg1.view.read (Elt F) X1) (arg10.view.read (Elt F) X10)) (P1 (· < n))
      (pb1 (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 n)
  | 0, _ => Good.nil _ _ fun _ h => absurd h.2 (Nat.not_lt_zero _)
  | n + 1, h => by
    have hk : n < k0_t1_loop.trips := h
    rw [pb1_succ (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 ⟨n, hk⟩]
    refine Good.append (trip1_good (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 ⟨n, hk⟩) (pb1_good X0 X1 X10 n (Nat.le_of_succ_le h)) fun y hy => ?_
    rcases Nat.lt_succ_iff_lt_or_eq.mp hy.2 with h' | h'
    · exact Or.inr ⟨hy.1, h'⟩
    · exact Or.inl ⟨hy.1, h'⟩

/-- The first stage's buffer after its loop: every token's tile. -/
theorem read1 (X0 : BufTy.Contents (Elt F) arg0.view.ty) (X1 : BufTy.Contents (Elt F) arg1.view.ty) (X10 : BufTy.Contents (Elt F) arg10.view.ty)
    (G8 : BufTy.Contents (Elt F) arg8.view.ty) (tok : Fin 256) (y : S56x2x128.Idx) :
    arg8.view.read (Elt F) (arg8.view.writes (Elt F) G8 (pb1 (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 56)) (ix3 ⟨(y 0).val + 60 * tok.val, by have : (y 0).val < 56 := (y 0).isLt; have := tok.isLt; omega⟩ (y 1) (y 2))
      = tile (arg0.view.read (Elt F) X0) (arg1.view.read (Elt F) X1) (arg10.view.read (Elt F) X10) tok y := by
  have h : (y 0).val < 56 := (y 0).isLt
  have e : ((y 0).val + 60 * tok.val) % 60 = (y 0).val := by omega
  rw [(pb1_good (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 56 le_rfl).read arg8.view G8 _ ⟨e.trans_lt h, e.trans_lt h⟩]
  exact G1_at _ _ _ _ ⟨(y 0).val, h⟩ tok rfl

/-- A load of one token's tile. -/
theorem load2 (X8 : BufTy.Contents (Elt F) arg8.view.ty) (tl : Fin 256 → Vec F S56x2x128 .bf16)
    (h8 : ∀ (tok : Fin 256) (y : S56x2x128.Idx), arg8.view.read (Elt F) X8 (ix3 ⟨(y 0).val + 60 * tok.val, by have : (y 0).val < 56 := (y 0).isLt; have := tok.isLt; omega⟩ (y 1) (y 2)) = tl tok y)
    (k : Fin 64) (r : Fin 4) {o : Fin (S15360x2x128).rank → ℕ} (inb : ∀ a, o a + S56x2x128.size a ≤ (S15360x2x128).size a) (ho : o = ![240 * k.val + 60 * r.val, 0, 0]) :
    arg8.view.readAt (Elt F) (Rect.unit (s := S15360x2x128) o S56x2x128.size inb).toLoadRect X8 = tl (tk k r) := by
  subst ho
  funext y
  rw [← h8]
  refine congrArg (arg8.view.read (Elt F) X8) (funext fun a => Fin.ext ?_)
  fin_cases a
  · show 240 * k.val + 60 * r.val + 1 * (y 0).val = (y 0).val + 60 * (4 * k.val + r.val)
    omega
  all_goals exact (nz _).symm

/-- What the second stage leaves in its buffer, over all of it. -/
def G2 (v27 : FVec F S16x128 .bf16) (tl : Fin 256 → Vec F S56x2x128 .bf16) (pt : Vec F S224x256 .bf16) : Vec F S29120x128 .f32 := fun y =>
  have h : (y 0).val < 29120 := (y 0).isLt
  zed v27 tl pt ⟨(y 0).val % 260 % 256, by omega⟩ (ix2 ⟨(y 0).val / 260, by omega⟩ (y 1))

/-- Places of the second stage's rows `n`. -/
def P2 (Q : ℕ → Prop) (y : S29120x128.Idx) : Prop := (y 0).val % 260 < 256 ∧ Q ((y 0).val % 260)

theorem G2_at (v27 : FVec F S16x128 .bf16) (tl : Fin 256 → Vec F S56x2x128 .bf16) (pt : Vec F S224x256 .bf16) (z : S29120x128.Idx) (tok : Fin 256) (a : Fin 112)
    (h : (z 0).val = tok.val + 260 * a.val) : G2 v27 tl pt z = zed v27 tl pt tok (ix2 a (z 1)) := by
  have e1 : (z 0).val % 260 % 256 = tok.val := by omega
  have e2 : (z 0).val / 260 = a.val := by omega
  obtain ⟨a, ha⟩ := a
  obtain ⟨t, ht⟩ := tok
  dsimp only at e1 e2
  subst e1 e2
  rfl

theorem zed_tk (v27 : FVec F S16x128 .bf16) (tl : Fin 256 → Vec F S56x2x128 .bf16) (pt : Vec F S224x256 .bf16) (k : Fin 64) (r : Fin 4) :
    zed v27 tl pt (tk k r) = quad v27 (tl (tk k 0)) (tl (tk k 1)) (tl (tk k 2)) (tl (tk k 3)) pt r := by
  have e1 : (4 * k.val + r.val) / 4 = k.val := by omega
  have e2 : (4 * k.val + r.val) % 4 = r.val := by omega
  have f1 : (⟨(4 * k.val + r.val) / 4, by omega⟩ : Fin 64) = k := Fin.ext e1
  have f2 : (⟨(4 * k.val + r.val) % 4, by omega⟩ : Fin 4) = r := Fin.ext e2
  show quad v27 (tl (tk ⟨(4 * k.val + r.val) / 4, _⟩ 0)) (tl (tk ⟨(4 * k.val + r.val) / 4, _⟩ 1)) (tl (tk ⟨(4 * k.val + r.val) / 4, _⟩ 2))
    (tl (tk ⟨(4 * k.val + r.val) / 4, _⟩ 3)) pt ⟨(4 * k.val + r.val) % 4, _⟩ = _
  rw [f1, f2]

/-- One piece of the second stage: a token's rows. -/
theorem piece2 (v27 : FVec F S16x128 .bf16) (tl : Fin 256 → Vec F S56x2x128 .bf16) (pt : Vec F S224x256 .bf16) (k : Fin 64) (r : Fin 4)
    {P R : S29120x128.Idx → Prop} {L : List (View.Piece (Elt F) S29120x128 .f32)} (hL : Good (G2 v27 tl pt) P L)
    (hR : ∀ y, R y → P2 (· = 4 * k.val + r.val) y ∨ P y)
    {o : Fin 2 → ℕ} (ho : o = ![4 * k.val + r.val, 0]) (inb : ∀ a, S112x128.size a = 0 ∨ o a + (![260, 1] : Fin 2 → Nat) a * (S112x128.size a - 1) < S29120x128.size a)
    (w : Vec F S112x128 .f32) (hw : w = quad v27 (tl (tk k 0)) (tl (tk k 1)) (tl (tk k 2)) (tl (tk k 3)) pt r) :
    Good (G2 v27 tl pt) R (⟨⟨⟨o, S112x128.size, ![260, 1], inb⟩, spos_260_1⟩, w⟩ :: L) := by
  subst ho
  refine Good.cons (Q := P2 (· = 4 * k.val + r.val)) (P := P) ?_ ?_ hL hR
  · intro x
    refine Eq.trans ?_ (G2_at v27 tl pt _ (tk k r) (x 0) rfl).symm
    rw [zed_tk, ← hw]
    refine congrArg w (funext fun a => Fin.ext ?_)
    fin_cases a
    · rfl
    · exact nz _
  · intro y hy
    have h1 : (y 0).val % 260 = 4 * k.val + r.val := hy.2
    have h2 : (y 0).val < 29120 := (y 0).isLt
    refine (LoadRect.mem_set _).mpr fun a => ?_
    fin_cases a
    · refine ⟨(y 0).val / 260, (by omega : (y 0).val / 260 < 112), ?_⟩
      show (y 0).val = 4 * k.val + r.val + 260 * ((y 0).val / 260)
      omega
    · exact ⟨(y 1).val, (y 1).isLt, nz _⟩

theorem trip2_good (v27 : FVec F S16x128 .bf16) (X8 : BufTy.Contents (Elt F) arg8.view.ty) (X11 : BufTy.Contents (Elt F) arg11.view.ty) (tl : Fin 256 → Vec F S56x2x128 .bf16)
    (h8 : ∀ (tok : Fin 256) (y : S56x2x128.Idx), arg8.view.read (Elt F) X8 (ix3 ⟨(y 0).val + 60 * tok.val, by have : (y 0).val < 56 := (y 0).isLt; have := tok.isLt; omega⟩ (y 1) (y 2)) = tl tok y) (k : Fin k0_t2_loop.trips) :
    Good (G2 v27 tl (arg11.view.read (Elt F) X11)) (P2 (· / 4 = k.val)) (trip2 (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 k).1 := by
  have hk : k.val < 64 := k.isLt
  have l0 := load2 arg8 X8 tl h8 k 0 (k0_off5_inb k 0) (k0_off5_eq k 0)
  have l1 := load2 arg8 X8 tl h8 k 1 (k0_off5_inb k 1) (k0_off5_eq k 1)
  have l2 := load2 arg8 X8 tl h8 k 2 (k0_off5_inb k 2) (k0_off5_eq k 2)
  have l3 := load2 arg8 X8 tl h8 k 3 (k0_off5_inb k 3) (k0_off5_eq k 3)
  have lp := View.readAt_full arg11.view X11 inb_S224x256_S224x256_0_0
  unfold trip2
  dsimp only
  rw [← lp]
  refine piece2 v27 tl _ k 3 (P := P2 fun n => n = 4 * k.val ∨ n = 4 * k.val + 1 ∨ n = 4 * k.val + 2) ?_ ?_ (k0_off7_eq k 2) _ _ ?_
  · refine piece2 v27 tl _ k 2 (P := P2 fun n => n = 4 * k.val ∨ n = 4 * k.val + 1) ?_ ?_ (k0_off7_eq k 1) _ _ ?_
    · refine piece2 v27 tl _ k 1 (P := P2 fun n => n = 4 * k.val) ?_ ?_ (k0_off7_eq k 0) _ _ ?_
      · refine piece2 v27 tl _ k 0 (P := fun _ => False) (Good.nil _ _ fun _ => id) (fun y hy => Or.inl hy) (k0_off6_eq k) _ _ ?_
        rw [← l0, ← l1, ← l2, ← l3]; rfl
      · exact fun y hy => hy.2.elim (fun h => Or.inr ⟨hy.1, h⟩) fun h => Or.inl ⟨hy.1, h⟩
      · rw [← l0, ← l1, ← l2, ← l3]; rfl
    · exact fun y hy => hy.2.elim (fun h => Or.inr ⟨hy.1, Or.inl h⟩) fun h => h.elim (fun h => Or.inr ⟨hy.1, Or.inr h⟩) fun h => Or.inl ⟨hy.1, h⟩
    · rw [← l0, ← l1, ← l2, ← l3]; rfl
  · intro y hy
    have h1 := hy.1
    have h2 : (y 0).val % 260 / 4 = k.val := hy.2
    by_cases h3 : (y 0).val % 260 = 4 * k.val + 3
    · exact Or.inl ⟨h1, h3⟩
    · exact Or.inr ⟨h1, by show (y 0).val % 260 = 4 * k.val ∨ (y 0).val % 260 = 4 * k.val + 1 ∨ (y 0).val % 260 = 4 * k.val + 2; omega⟩
  · rw [← l0, ← l1, ← l2, ← l3]; rfl

theorem pb2_good (v27 : FVec F S16x128 .bf16) (X8 : BufTy.Contents (Elt F) arg8.view.ty) (X11 : BufTy.Contents (Elt F) arg11.view.ty) (tl : Fin 256 → Vec F S56x2x128 .bf16)
    (h8 : ∀ (tok : Fin 256) (y : S56x2x128.Idx), arg8.view.read (Elt F) X8 (ix3 ⟨(y 0).val + 60 * tok.val, by have : (y 0).val < 56 := (y 0).isLt; have := tok.isLt; omega⟩ (y 1) (y 2)) = tl tok y) :
    ∀ n : ℕ, n ≤ 64 → Good (G2 v27 tl (arg11.view.read (Elt F) X11)) (P2 (· / 4 < n)) (pb2 (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 n)
  | 0, _ => Good.nil _ _ fun _ h => absurd h.2 (Nat.not_lt_zero _)
  | n + 1, h => by
    have hk : n < k0_t2_loop.trips := h
    rw [pb2_succ (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 ⟨n, hk⟩]
    refine Good.append (trip2_good (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 tl h8 ⟨n, hk⟩) (pb2_good v27 X8 X11 tl h8 n (Nat.le_of_succ_le h)) fun y hy => ?_
    rcases Nat.lt_succ_iff_lt_or_eq.mp hy.2 with h' | h'
    · exact Or.inr ⟨hy.1, h'⟩
    · exact Or.inl ⟨hy.1, h'⟩

/-- The second stage's buffer after its loop: every token's rotated rows. -/
theorem read2 (v27 : FVec F S16x128 .bf16) (X8 : BufTy.Contents (Elt F) arg8.view.ty) (X11 : BufTy.Contents (Elt F) arg11.view.ty) (tl : Fin 256 → Vec F S56x2x128 .bf16)
    (h8 : ∀ (tok : Fin 256) (y : S56x2x128.Idx), arg8.view.read (Elt F) X8 (ix3 ⟨(y 0).val + 60 * tok.val, by have : (y 0).val < 56 := (y 0).isLt; have := tok.isLt; omega⟩ (y 1) (y 2)) = tl tok y)
    (G9 : BufTy.Contents (Elt F) arg9.view.ty) (z : S29120x128.Idx) (tok : Fin 256) (a : Fin 112) (hz : (z 0).val = tok.val + 260 * a.val) :
    arg9.view.read (Elt F) (arg9.view.writes (Elt F) G9 (pb2 (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 64)) z
      = zed v27 tl (arg11.view.read (Elt F) X11) tok (ix2 a (z 1)) := by
  have e : (z 0).val % 260 = tok.val := by omega
  have ht := tok.isLt
  rw [(pb2_good (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 tl h8 64 le_rfl).read arg9.view G9 _ ⟨by omega, by show (z 0).val % 260 / 4 < 64; omega⟩]
  exact G2_at _ _ _ _ _ _ hz

end Cert.KernelIdeal.Tr

end
-- ==== Proof.TrQuant.lean ====
/- The transform's last loop read back: the scales, the zero points and the codes of every token. -/
module

public import proofs.«01_k».proof.Proof.TrRead

@[expose] public section

set_option maxRecDepth 16384

noncomputable section

namespace Cert.KernelIdeal.Tr

open Cert.KernelIdeal Cert.KernelIdeal.Gen
open Idealize.ShloMosaic Idealize.ShloMosaic.TcCoe Idealize.ShloMosaic.Tactic Idealize.ShloMosaic.Pointwise
open Idealize.SL Idealize.SL.Sem

variable {F : FTy → Type} [FloatOps F]
variable (𝒱 : Variants) (c : Dev nD) (bd : Option 𝒱.V)
  (arg0 : Memref sig .tc .vmem S256x14336 .bf16) (harg0 : arg0.IsWhole)
  (arg1 : Memref sig .tc .vmem S112x128 .f32) (harg1 : arg1.IsWhole)
  (arg2 : Memref sig .tc .vmem S112x112 .bf16) (harg2 : arg2.IsWhole)
  (arg3 : Memref sig .tc .vmem S128x128 .bf16) (harg3 : arg3.IsWhole)
  (arg4 : Memref sig .tc .smem S1 .f32) (harg4 : arg4.IsWhole)
  (arg5 : Memref sig .tc .vmem S256x14336 .i8) (harg5 : arg5.IsWhole)
  (arg6 : Memref sig .tc .vmem S256x128 .f32) (harg6 : arg6.IsWhole)
  (arg7 : Memref sig .tc .vmem S256x128 .f32) (harg7 : arg7.IsWhole)
  (arg8 : Memref sig .tc .vmem S15360x2x128 .bf16) (harg8 : arg8.IsWhole)
  (arg9 : Memref sig .tc .vmem S29120x128 .f32) (harg9 : arg9.IsWhole)
  (arg10 : Memref sig .tc .vmem S256x256 .bf16) (harg10 : arg10.IsWhole)
  (arg11 : Memref sig .tc .vmem S224x256 .bf16) (harg11 : arg11.IsWhole)
  (arg12 : Memref sig .tc .vmem S8x128 .f32) (harg12 : arg12.IsWhole)

/-- The rotated rows as the last loop finds them. -/
def Holds (X9 : BufTy.Contents (Elt F) arg9.view.ty) (Z : Fin 256 → Vec F S112x128 .f32) : Prop :=
  ∀ (z : S29120x128.Idx) (tok : Fin 256) (a : Fin 112), (z 0).val = tok.val + 260 * a.val → arg9.view.read (Elt F) X9 z = Z tok (ix2 a (z 1))

/-- A load of one tile of a row block. -/
theorem load3 (X9 : BufTy.Contents (Elt F) arg9.view.ty) (Z : Fin 256 → Vec F S112x128 .f32) (h9 : Holds arg9 X9 Z)
    (k : Fin 8) (a : Fin 112) {o : Fin S29120x128.rank → ℕ} (inb : ∀ b, o b + S32x128.size b ≤ S29120x128.size b) (ho : o = ![260 * a.val + 32 * k.val, 0]) :
    arg9.view.readAt (Elt F) (Rect.unit (s := S29120x128) o S32x128.size inb).toLoadRect X9 = chunk Z k a := by
  subst ho
  funext y
  have hy : (y 0).val < 32 := (y 0).isLt
  refine (h9 _ ⟨32 * k.val + (y 0).val, by omega⟩ a ?_).trans ?_
  · show 260 * a.val + 32 * k.val + 1 * (y 0).val = 32 * k.val + (y 0).val + 260 * a.val
    omega
  · exact congrArg (Z _) (congrArg (ix2 a) (Fin.ext (nz _).symm))

theorem mxmn_succ (Z : Fin 256 → Vec F S112x128 .f32) (k : Fin 8) (n : ℕ) (h : n + 1 < 112) :
    mxmn Z k (n + 1) = (k0_pay9 (mxmn Z k n).1 (chunk Z k ⟨n + 1, h⟩), k0_pay10 (mxmn Z k n).2 (chunk Z k ⟨n + 1, h⟩)) := by
  rw [mxmn.eq_2]; exact dif_pos h

/-- The carried extrema before trip `n`. -/
theorem st_eq (X9 : BufTy.Contents (Elt F) arg9.view.ty) (Z : Fin 256 → Vec F S112x128 .f32) (h9 : Holds arg9 X9 Z)
    (v31 : FVec F S32x128 .f32) (u w : BitVec 32) (k : Fin k0_t3_loop.trips) (init : Vec F S32x128 .f32 × Vec F S32x128 .f32) (hi : init = (chunk Z k 0, chunk Z k 0)) :
    ∀ n : ℕ, n ≤ 111 → st_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 v31 u w k X9 init n = mxmn Z k n
  | 0, _ => hi
  | n + 1, h => by
    have hk : n < k0_t4_loop.trips := h
    have h112 : n + 1 < 112 := by omega
    rw [st_k0_t4_succ (F := F) 𝒱 c bd arg0 harg0 arg1 harg1 arg2 harg2 arg3 harg3 arg4 harg4 arg5 harg5 arg6 harg6 arg7 harg7 arg8 harg8 arg9 harg9 arg10 harg10 arg11 harg11 arg12 harg12 v31 u w k X9 init ⟨n, hk⟩, st_eq X9 Z h9 v31 u w k init hi n (Nat.le_of_succ_le h)]
    have l := load3 arg9 X9 Z h9 k ⟨n + 1, h112⟩ (k0_off9_inb k ⟨n, hk⟩) ((k0_off9_eq k ⟨n, hk⟩).trans (by
      congr 1; show 260 * n + 32 * k.val + 260 = 260 * (n + 1) + 32 * k.val; omega))
    rw [mxmn_succ Z k n h112, ← l]
    unfold tripR_k0_t4 trip_k0_t4
    rfl

theorem sck_eq (g : Elt F .f32) (Z : Fin 256 → Vec F S112x128 .f32) (k : Fin 8) : sck g Z k = k0_pay12 (k0_pay4 g) (mxmn Z k 111).1 (mxmn Z k 111).2 := rfl
theorem zpk_eq (g : Elt F .f32) (Z : Fin 256 → Vec F S112x128 .f32) (k : Fin 8) : zpk g Z k = k0_pay13 (k0_pay4 g) (mxmn Z k 111).1 (mxmn Z k 111).2 := rfl
theorem cdk_eq (g : Elt F .f32) (Z : Fin 256 → Vec F S112x128 .f32) (k : Fin 8) (a : Fin 112) : cdk g Z k a = k0_pay16 (sck g Z k) (zpk g Z k) (chunk Z k a) := rfl

theorem scales_at (g : Elt F .f32) (Z : Fin 256 → Vec F S112x128 .f32) (z : S256x128.Idx) (k : Fin 8) (t : Fin 32) (h : (z 0).val = 32 * k.val + t.val) :
    scales g Z z = sck g Z k (ix2 t (z 1)) ∧ zeros g Z z = zpk g Z k (ix2 t (z 1)) := by
  have e1 : (z 0).val / 32 = k.val := by omega
  have e2 : (z 0).val % 32 = t.val := by omega
  obtain ⟨k, hk⟩ := k
  obtain ⟨t, ht⟩ := t
  dsimp only at e1 e2
  subst e1 e2
  exact ⟨rfl, rfl⟩

theorem codes_at (g : Elt F .f32) (Z : Fin 256 → Vec F S112x128 .f32) (z : S256x14336.Idx) (k : Fin 8) (t : Fin 32) (h : (z 0).val = 32 * k.val + t.val)
    (a : Fin 112) (l : Fin 128) (h' : (z 1).val = 128 * a.val + l.val) :
    codes g Z z = cdk g Z k a (ix2 t l) := by
  have e1 : (z 0).val / 32 = k.val := by omega
  have e2 : (z 0).val % 32 = t.val := by omega
  have e3 : (z 1).val / 128 = a.val := by omega
  have e4 : (z 1).val % 128 = l.val := by omega
  obtain ⟨k, hk⟩ := k
  obtain ⟨t, ht⟩ := t
  obtain ⟨a, ha⟩ := a
  obtain ⟨l, hl⟩ := l
  dsimp only at e1 e2 e3 e4
  subst e1 e2 e3 e4
  rfl

/-- One row block of a result of 128 lanes. -/
theorem piece3 (G : Vec F S256x128 .f32) (k : Fin 8) (w : Vec F S32x128 .f32)
    (hw : ∀ (z : S256x128.Idx) (t : Fin 32), (z 0).val = 32 * k.val + t.val → G z = w (ix2 t (z 1)))
    {o : Fin 2 → ℕ} (ho : o = ![32 * k.val, 0]) (inb : ∀ a, o a + S32x128.size a ≤ S256x128.size a) :
    Good G (fun y => (y 0).val / 32 = k.val) [⟨Rect.unit (s := S256x128) o S32x128.size inb, w⟩] := by
  subst ho
  refine Good.cons (Q := fun y => (y 0).val / 32 = k.val) (P := fun _ => False) ?_ ?_ (Good.nil _ _ fun _ => id) fun y hy => Or.inl hy
  · intro x
    refine Eq.trans ?_ (hw _ (x 0) ?_).symm
    · refine congrArg w (funext fun a => Fin.ext ?_)
      fin_cases a
      · rfl
      · exact nz _
    · show 32 * k.val + 1 * (x 0).val = 32 * k.val + (x 0).val
      omega
  · intro y hy
    have h1 : (y 0).val / 32 = k.val := hy
    refine (LoadRect.mem_set _).mpr fun a => ?_
    fin_cases a
    · refine ⟨(y 0).val % 32, (by omega : (y 0).val % 32 < 32), ?_⟩
      show (y 0).val = 32 * k.val + 1 * ((y 0).val % 32)
      omega
    · exact ⟨(y 1).val, (y 1).isLt, nz _⟩

/-- Places of the first `n` code tiles of row block `k`. -/
def PC (k : Fin 8) (n : ℕ) (y : S256x14336.Idx) : Prop := (y 0).val / 32 = k.val ∧ (y 1).val < 128 * n

/-- One more tile of codes. -/
theorem pieceC (g : Elt F .f32) (Z : Fin 256 → Vec F S112x128 .f32) (k : Fin 8) (n : ℕ) (hn : n < 112) {L : List (View.Piece (Elt F) S256x14336 .i8)}
    {o : Fin 2 → ℕ} (ho : o = ![32 * k.val, 128 * n]) (inb : ∀ a, o a + S32x128.size a ≤ S256x14336.size a)
    (w : Vec F S32x128 .i8) (hw : w = cdk g Z k ⟨n, hn⟩) (hL : Good (codes g Z) (PC k n) L) :
    Good (codes g Z) (PC k (n + 1)) (⟨Rect.unit (s := S256x14336) o S32x128.size inb, w⟩ :: L) := by
  subst ho
  refine Good.cons (Q := fun y => (y 0).val / 32 = k.val ∧ (y 1).val / 128 = n) (P := PC k n) ?_ ?_ hL fun y hy => ?_
  · intro x
    refine Eq.trans ?_ (codes_at g Z _ k (x 0) ?_ ⟨n, hn⟩ (x 1) ?_).symm
    · rw [← hw]
      exact congrArg w (eq_ix2 x)
    · show 32 * k.val + 1 * (x 0).val = 32 * k.val + (x 0).val
      omega
    · show 128 * n + 1 * (x 1).val = 128 * n + (x 1).val
      omega
  · intro y hy
    have h1 := hy.1
    have h2 := hy.2
    refine (LoadRect.mem_set _).mpr fun a => ?_
    fin_cases a
    · refine ⟨(y 0).val % 32, (by omega : (y 0).val % 32 < 32), ?_⟩
      show (y 0).val = 32 * k.val + 1 * ((y 0).val % 32)
      omega
    · refine ⟨(y 1).val % 128, (by omega : (y 1).val % 128 < 128), ?_⟩
      show (y 1).val = 128 * n + 1 * ((y 1).val % 128)
      omega
  · have h1 := hy.1
    have h2 : (y 1).val < 128 * (n + 1) := hy.2
    by_cases h : (y 1).val < 128 * n
    · exact Or.inr ⟨h1, h⟩
    · exact Or.inl ⟨h1, by omega⟩

/-- A trip's scales and zero points. -/
theorem trip3_sz (v29 : Elt F .f32) (X9 : BufTy.Contents (Elt F) arg9.view.ty) (Z : Fin 256 → Vec F S112x128 .f32) (h9 : Holds arg9 X9 Z) (k : Fin k0_t3_loop.trips) :
    Good (scales v29 Z) (fun y => (y 0).val / 32 = k.val) (trip3 (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k).2.1
      ∧ Good (zeros v29 Z) (fun y => (y 0).val / 32 = k.val) (trip3 (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k).2.2.1 := by
  have hk : k.val < 8 := k.isLt
  have l0 := load3 arg9 X9 Z h9 k 0 (k0_off8_inb k) ((k0_off8_eq k).trans (by simp))
  have hs := st_eq (F := F) 𝒱 c bd arg0 harg0 arg1 harg1 arg2 harg2 arg3 harg3 arg4 harg4 arg5 harg5 arg6 harg6 arg7 harg7 arg8 harg8 arg9 harg9 arg10 harg10 arg11 harg11 arg12 harg12 X9 Z h9 (k0_pay4 v29) 0#32 1#32 k _ (congrArg₂ Prod.mk l0 l0) 111 le_rfl
  have hS := (sck_eq v29 Z k).trans (congrArg₂ (k0_pay12 (k0_pay4 v29)) (congrArg Prod.fst hs.symm) (congrArg Prod.snd hs.symm))
  have hZ := (zpk_eq v29 Z k).trans (congrArg₂ (k0_pay13 (k0_pay4 v29)) (congrArg Prod.fst hs.symm) (congrArg Prod.snd hs.symm))
  unfold trip3
  dsimp only
  constructor
  · refine piece3 _ k _ (fun z t hz => ?_) (k0_off10_eq k) _
    exact (scales_at v29 Z z k t hz).1.trans (congrFun hS _)
  · refine piece3 _ k _ (fun z t hz => ?_) (k0_off10_eq k) _
    exact (scales_at v29 Z z k t hz).2.trans (congrFun hZ _)

set_option maxHeartbeats 40000000 in
/-- A trip's codes. -/
theorem trip3_c (v29 : Elt F .f32) (X9 : BufTy.Contents (Elt F) arg9.view.ty) (Z : Fin 256 → Vec F S112x128 .f32) (h9 : Holds arg9 X9 Z) (k : Fin k0_t3_loop.trips) :
    Good (codes v29 Z) (PC k 112) (trip3 (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k).1 := by
  have hk : k.val < 8 := k.isLt
  have l0 := load3 arg9 X9 Z h9 k 0 (k0_off8_inb k) ((k0_off8_eq k).trans (by simp))
  have hs := st_eq (F := F) 𝒱 c bd arg0 harg0 arg1 harg1 arg2 harg2 arg3 harg3 arg4 harg4 arg5 harg5 arg6 harg6 arg7 harg7 arg8 harg8 arg9 harg9 arg10 harg10 arg11 harg11 arg12 harg12 X9 Z h9 (k0_pay4 v29) 0#32 1#32 k _ (congrArg₂ Prod.mk l0 l0) 111 le_rfl
  have hS := (sck_eq v29 Z k).trans (congrArg₂ (k0_pay12 (k0_pay4 v29)) (congrArg Prod.fst hs.symm) (congrArg Prod.snd hs.symm))
  have hZ := (zpk_eq v29 Z k).trans (congrArg₂ (k0_pay13 (k0_pay4 v29)) (congrArg Prod.fst hs.symm) (congrArg Prod.snd hs.symm))
  have hC : ∀ (n : ℕ) (hn : n < 112), cdk v29 Z k ⟨n, hn⟩ = k0_pay16 (trip3.sl.r (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k) (trip3.sl.r_1 (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k)
      (arg9.view.readAt (Elt F) (Rect.unit (s := S29120x128) (k0_off11 k (BitVec.ofNat 32 (260 * n))) S32x128.size (k0_off11_inb k ⟨n, hn⟩)).toLoadRect X9) := fun n hn => by
    exact (cdk_eq v29 Z k ⟨n, hn⟩).trans (congr (congrArg₂ k0_pay16 hS hZ) (load3 arg9 X9 Z h9 k ⟨n, hn⟩ (k0_off11_inb k ⟨n, hn⟩) (k0_off11_eq k ⟨n, hn⟩)).symm)
  unfold trip3
  dsimp only
  iterate 10
    repeat
    refine pieceC v29 Z k _ (by decide) ClosedOff.eq _ _ ?_ ?_
    · rw [hC]; try rfl
  exact Good.nil _ _ fun y hy => absurd hy.2 (Nat.not_lt_zero _)

theorem pb3_good (v29 : Elt F .f32) (X9 : BufTy.Contents (Elt F) arg9.view.ty) (Z : Fin 256 → Vec F S112x128 .f32) (h9 : Holds arg9 X9 Z) :
    ∀ n : ℕ, n ≤ 8 → Good (codes v29 Z) (fun y => (y 0).val / 32 < n) (pb3c (F := F) 𝒱 c bd arg0 harg0 arg1 harg1 arg2 harg2 arg3 harg3 arg4 harg4 arg5 harg5 arg6 harg6 arg7 harg7 arg8 harg8 arg9 harg9 arg10 harg10 arg11 harg11 arg12 harg12 v29 X9 n)
      ∧ Good (scales v29 Z) (fun y => (y 0).val / 32 < n) (pb3s (F := F) 𝒱 c bd arg0 harg0 arg1 harg1 arg2 harg2 arg3 harg3 arg4 harg4 arg5 harg5 arg6 harg6 arg7 harg7 arg8 harg8 arg9 harg9 arg10 harg10 arg11 harg11 arg12 harg12 v29 X9 n)
      ∧ Good (zeros v29 Z) (fun y => (y 0).val / 32 < n) (pb3z (F := F) 𝒱 c bd arg0 harg0 arg1 harg1 arg2 harg2 arg3 harg3 arg4 harg4 arg5 harg5 arg6 harg6 arg7 harg7 arg8 harg8 arg9 harg9 arg10 harg10 arg11 harg11 arg12 harg12 v29 X9 n)
  | 0, _ => ⟨Good.nil _ _ fun _ h => absurd h (Nat.not_lt_zero _), Good.nil _ _ fun _ h => absurd h (Nat.not_lt_zero _), Good.nil _ _ fun _ h => absurd h (Nat.not_lt_zero _)⟩
  | n + 1, h => by
    have hk : n < k0_t3_loop.trips := h
    obtain ⟨i1, i2, i3⟩ := pb3_good v29 X9 Z h9 n (Nat.le_of_succ_le h)
    have ts := trip3_sz (F := F) 𝒱 c bd arg0 harg0 arg1 harg1 arg2 harg2 arg3 harg3 arg4 harg4 arg5 harg5 arg6 harg6 arg7 harg7 arg8 harg8 arg9 harg9 arg10 harg10 arg11 harg11 arg12 harg12 v29 X9 Z h9 ⟨n, hk⟩
    have e : ∀ m : ℕ, m < n + 1 → m = n ∨ m < n := fun m hm => by omega
    rw [pb3c_succ (F := F) 𝒱 c bd arg0 harg0 arg1 harg1 arg2 harg2 arg3 harg3 arg4 harg4 arg5 harg5 arg6 harg6 arg7 harg7 arg8 harg8 arg9 harg9 arg10 harg10 arg11 harg11 arg12 harg12 v29 X9 ⟨n, hk⟩, pb3s_succ (F := F) 𝒱 c bd arg0 harg0 arg1 harg1 arg2 harg2 arg3 harg3 arg4 harg4 arg5 harg5 arg6 harg6 arg7 harg7 arg8 harg8 arg9 harg9 arg10 harg10 arg11 harg11 arg12 harg12 v29 X9 ⟨n, hk⟩, pb3z_succ (F := F) 𝒱 c bd arg0 harg0 arg1 harg1 arg2 harg2 arg3 harg3 arg4 harg4 arg5 harg5 arg6 harg6 arg7 harg7 arg8 harg8 arg9 harg9 arg10 harg10 arg11 harg11 arg12 harg12 v29 X9 ⟨n, hk⟩]
    refine ⟨Good.append (trip3_c (F := F) 𝒱 c bd arg0 harg0 arg1 harg1 arg2 harg2 arg3 harg3 arg4 harg4 arg5 harg5 arg6 harg6 arg7 harg7 arg8 harg8 arg9 harg9 arg10 harg10 arg11 harg11 arg12 harg12 v29 X9 Z h9 ⟨n, hk⟩) i1 fun y hy => ?_, Good.append ts.1 i2 fun y hy => e _ hy, Good.append ts.2 i3 fun y hy => e _ hy⟩
    rcases e _ hy with h' | h'
    · exact Or.inl ⟨h', (y 1).isLt⟩
    · exact Or.inr h'

/-- The three results after the last loop. -/
theorem read3 (v29 : Elt F .f32) (X9 : BufTy.Contents (Elt F) arg9.view.ty) (Z : Fin 256 → Vec F S112x128 .f32) (h9 : Holds arg9 X9 Z)
    (G5 : BufTy.Contents (Elt F) arg5.view.ty) (G6 : BufTy.Contents (Elt F) arg6.view.ty) (G7 : BufTy.Contents (Elt F) arg7.view.ty) :
    arg5.view.read (Elt F) (arg5.view.writes (Elt F) G5 (pb3c (F := F) 𝒱 c bd arg0 harg0 arg1 harg1 arg2 harg2 arg3 harg3 arg4 harg4 arg5 harg5 arg6 harg6 arg7 harg7 arg8 harg8 arg9 harg9 arg10 harg10 arg11 harg11 arg12 harg12 v29 X9 8)) = codes v29 Z
      ∧ arg6.view.read (Elt F) (arg6.view.writes (Elt F) G6 (pb3s (F := F) 𝒱 c bd arg0 harg0 arg1 harg1 arg2 harg2 arg3 harg3 arg4 harg4 arg5 harg5 arg6 harg6 arg7 harg7 arg8 harg8 arg9 harg9 arg10 harg10 arg11 harg11 arg12 harg12 v29 X9 8)) = scales v29 Z
      ∧ arg7.view.read (Elt F) (arg7.view.writes (Elt F) G7 (pb3z (F := F) 𝒱 c bd arg0 harg0 arg1 harg1 arg2 harg2 arg3 harg3 arg4 harg4 arg5 harg5 arg6 harg6 arg7 harg7 arg8 harg8 arg9 harg9 arg10 harg10 arg11 harg11 arg12 harg12 v29 X9 8)) = zeros v29 Z := by
  obtain ⟨h5, h6, h7⟩ := pb3_good (F := F) 𝒱 c bd arg0 harg0 arg1 harg1 arg2 harg2 arg3 harg3 arg4 harg4 arg5 harg5 arg6 harg6 arg7 harg7 arg8 harg8 arg9 harg9 arg10 harg10 arg11 harg11 arg12 harg12 v29 X9 Z h9 8 le_rfl
  refine ⟨funext fun y => h5.read _ _ y ?_, funext fun y => h6.read _ _ y ?_, funext fun y => h7.read _ _ y ?_⟩ <;>
  · have h : (y 0).val < 256 := (y 0).isLt
    show (y 0).val / 32 < 8
    omega

end Cert.KernelIdeal.Tr

end
-- ==== Proof.TrRun.lean ====
/- The transform's body run: over its operands it leaves the codes, the scales and the zero points. -/
module

public import proofs.«01_k».proof.Proof.TrQuant

@[expose] public section

set_option maxRecDepth 16384

noncomputable section

namespace Cert.KernelIdeal.Tr

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD)
  (arg0 : Memref sig .tc .vmem S256x14336 .bf16) (harg0 : arg0.IsWhole)
  (arg1 : Memref sig .tc .vmem S112x128 .f32) (harg1 : arg1.IsWhole)
  (arg2 : Memref sig .tc .vmem S112x112 .bf16) (harg2 : arg2.IsWhole)
  (arg3 : Memref sig .tc .vmem S128x128 .bf16) (harg3 : arg3.IsWhole)
  (arg4 : Memref sig .tc .smem S1 .f32) (harg4 : arg4.IsWhole)
  (arg5 : Memref sig .tc .vmem S256x14336 .i8) (harg5 : arg5.IsWhole)
  (arg6 : Memref sig .tc .vmem S256x128 .f32) (harg6 : arg6.IsWhole)
  (arg7 : Memref sig .tc .vmem S256x128 .f32) (harg7 : arg7.IsWhole)
  (arg8 : Memref sig .tc .vmem S15360x2x128 .bf16) (harg8 : arg8.IsWhole)
  (arg9 : Memref sig .tc .vmem S29120x128 .f32) (harg9 : arg9.IsWhole)
  (arg10 : Memref sig .tc .vmem S256x256 .bf16) (harg10 : arg10.IsWhole)
  (arg11 : Memref sig .tc .vmem S224x256 .bf16) (harg11 : arg11.IsWhole)
  (arg12 : Memref sig .tc .vmem S8x128 .f32) (harg12 : arg12.IsWhole)

/-- The block-diagonal factor as the run leaves it. -/
theorem bd_read (X3 : BufTy.Contents (Elt F) arg3.view.ty) (G : BufTy.Contents (Elt F) arg10.view.ty) :
    arg10.view.read (Elt F) (arg10.view.writes (Elt F) G
      [⟨Rect.unit ![128, 128] S128x128.size inb_S256x256_S128x128_128_128,
          k0_pay165 (View.readAt (Elt F) arg3.view (Rect.unit ![0, 0] S128x128.size inb_S128x128_S128x128_0_0).toLoadRect X3)⟩,
        ⟨Rect.unit ![0, 0] S128x128.size inb_S256x256_S128x128_0_0,
          k0_pay164 (View.readAt (Elt F) arg3.view (Rect.unit ![0, 0] S128x128.size inb_S128x128_S128x128_0_0).toLoadRect X3)⟩,
        ⟨Rect.unit ![0, 0] S256x256.size inb_S256x256_S256x256_0_0, k0_pay163⟩])
      = bdv (arg3.view.read (Elt F) X3) := by
  rw [View.read_writes_cons_put _ _ _ _ _ rfl, View.read_writes_cons_put _ _ _ _ _ rfl, View.read_writes_full, View.readAt_full]
  rfl

/-- The stacked factor as the run leaves it. -/
theorem pt_read (X2 : BufTy.Contents (Elt F) arg2.view.ty) (G : BufTy.Contents (Elt F) arg11.view.ty) :
    arg11.view.read (Elt F) (arg11.view.writes (Elt F) G
      [⟨Rect.unit ![112, 128] S112x112.size inb_S224x256_S112x112_112_128,
          k0_pay169 (View.readAt (Elt F) arg2.view (Rect.unit ![0, 0] S112x112.size inb_S112x112_S112x112_0_0).toLoadRect X2)⟩,
        ⟨Rect.unit ![0, 0] S112x112.size inb_S224x256_S112x112_0_0,
          k0_pay168 (View.readAt (Elt F) arg2.view (Rect.unit ![0, 0] S112x112.size inb_S112x112_S112x112_0_0).toLoadRect X2)⟩,
        ⟨Rect.unit ![0, 0] S224x256.size inb_S224x256_S224x256_0_0, k0_pay166⟩])
      = ptv (arg2.view.read (Elt F) X2) := by
  rw [View.read_writes_cons_put _ _ _ _ _ rfl, View.read_writes_cons_put _ _ _ _ _ rfl, View.read_writes_full, View.readAt_full]
  rfl

/-- The loaded bound is the scalar operand's one entry. -/
theorem at4 (X4 : BufTy.Contents (Elt F) arg4.view.ty) (y : S1.Idx) :
    View.readAt (Elt F) arg4.view (Rect.unit ![0] S1.size inb_S1_S1_0).toLoadRect X4 y = arg4.view.read (Elt F) X4 (ix1 0) := by
  rw [View.readAt_full]
  refine congrArg _ (funext fun a => ?_)
  match a with
  | ⟨0, h⟩ => exact Fin.ext (Nat.lt_one_iff.mp (y ⟨0, h⟩).isLt)

/-- The rotated rows as the first two loops leave them. -/
theorem holds9 (X0 : BufTy.Contents (Elt F) arg0.view.ty) (X1 : BufTy.Contents (Elt F) arg1.view.ty) (X10 : BufTy.Contents (Elt F) arg10.view.ty)
    (X11 : BufTy.Contents (Elt F) arg11.view.ty) (G8 : BufTy.Contents (Elt F) arg8.view.ty) (G9 : BufTy.Contents (Elt F) arg9.view.ty)
    (x2 : Vec F S112x112 .bf16) (x3 : Vec F S128x128 .bf16) (h10 : arg10.view.read (Elt F) X10 = bdv x3) (h11 : arg11.view.read (Elt F) X11 = ptv x2) :
    Holds arg9 (arg9.view.writes (Elt F) G9 (pb2 (F := F) Variants.none c none arg0 harg0 arg1 harg1 arg2 harg2 arg3 harg3 arg4 harg4 arg5 harg5 arg6 harg6 arg7 harg7 arg8 harg8 arg9 harg9 arg10 harg10 arg11 harg11 arg12 harg12 k0_pay171
      (arg8.view.writes (Elt F) G8 (pb1 (F := F) Variants.none c none arg0 harg0 arg1 harg1 arg2 harg2 arg3 harg3 arg4 harg4 arg5 harg5 arg6 harg6 arg7 harg7 arg8 harg8 arg9 harg9 arg10 harg10 arg11 harg11 arg12 harg12 X0 X1 X10 (Scf.trips k0_t1_loop.lb k0_t1_loop.ub k0_t1_loop.st))) X11
        (Scf.trips k0_t2_loop.lb k0_t2_loop.ub k0_t2_loop.st)))
      (Zof (arg0.view.read (Elt F) X0) (arg1.view.read (Elt F) X1) x2 x3) := by
  rw [show Scf.trips k0_t1_loop.lb k0_t1_loop.ub k0_t1_loop.st = 56 by decide +kernel,
    show Scf.trips k0_t2_loop.lb k0_t2_loop.ub k0_t2_loop.st = 64 by decide +kernel]
  unfold Zof
  rw [← h10, ← h11]
  intro z tok a hz
  exact read2 (F := F) Variants.none c none arg0 harg0 arg1 harg1 arg2 harg2 arg3 harg3 arg4 harg4 arg5 harg5 arg6 harg6 arg7 harg7 arg8 harg8 arg9 harg9 arg10 harg10 arg11 harg11 arg12 harg12 k0_pay171 _ X11 _ (fun tok y => read1 (F := F) Variants.none c none arg0 harg0 arg1 harg1 arg2 harg2 arg3 harg3 arg4 harg4 arg5 harg5 arg6 harg6 arg7 harg7 arg8 harg8 arg9 harg9 arg10 harg10 arg11 harg11 arg12 harg12 X0 X1 X10 G8 tok y) G9 z tok a hz

set_option maxHeartbeats 8000000 in
/-- The whole body. -/
theorem run (x0 : Vec F S256x14336 .bf16) (x1 : Vec F S112x128 .f32) (x2 : Vec F S112x112 .bf16) (x3 : Vec F S128x128 .bf16) (x4 : Vec F S1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (codes (x4 (ix1 0)) (Zof x0 x1 x2 x3)) ∗ owns (c : Thread nD τ) arg6 fullShare (scales (x4 (ix1 0)) (Zof x0 x1 x2 x3)) ∗ owns (c : Thread nD τ) arg7 fullShare (zeros (x4 (ix1 0)) (Zof x0 x1 x2 x3)) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) Set.univ (cc0_transform_quant arg0 harg0 arg1 harg1 arg2 harg2 arg3 harg3 arg4 harg4 arg5 harg5 arg6 harg6 arg7 harg7 arg8 harg8 arg9 harg9 arg10 harg10 arg11 harg11 arg12 harg12) K := by
  simp only [cc0_transform_quant_eq_skeleton]; unfold cc0_transform_quant_skel
  simp only [k0_part40_eq_skeleton]; unfold k0_part40_skel
  simp only [bind_assoc, pure_bind]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  sl_exec
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro
    rw [show Scf.trips k0_t3_loop.lb k0_t3_loop.ub k0_t3_loop.st = 8 by decide +kernel]
    sl_unfold_words
    refine (read3 (F := F) Variants.none c none arg0 harg0 arg1 harg1 arg2 harg2 arg3 harg3 arg4 harg4 arg5 harg5 arg6 harg6 arg7 harg7 arg8 harg8 arg9 harg9 arg10 harg10 arg11 harg11 arg12 harg12 _ _ _ (holds9 (F := F) c arg0 harg0 arg1 harg1 arg2 harg2 arg3 harg3 arg4 harg4 arg5 harg5 arg6 harg6 arg7 harg7 arg8 harg8 arg9 harg9 arg10 harg10 arg11 harg11 arg12 harg12 f0 f1 _ _ f8 f9 x2 x3 ((bd_read (F := F) arg3 arg10 f3 _).trans (congrArg _ hf3)) ((pt_read (F := F) arg2 arg11 f2 _).trans (congrArg _ hf2))) f5 f6 f7).1.trans ?_
    rw [hf0, hf1, ← hf4]
    exact congrArg (codes · _) (at4 (F := F) arg4 f4 _)
  isplitl [H6]
  · iexists _; isplitr; swap; · iexact H6
    ipureintro
    rw [show Scf.trips k0_t3_loop.lb k0_t3_loop.ub k0_t3_loop.st = 8 by decide +kernel]
    sl_unfold_words
    refine (read3 (F := F) Variants.none c none arg0 harg0 arg1 harg1 arg2 harg2 arg3 harg3 arg4 harg4 arg5 harg5 arg6 harg6 arg7 harg7 arg8 harg8 arg9 harg9 arg10 harg10 arg11 harg11 arg12 harg12 _ _ _ (holds9 (F := F) c arg0 harg0 arg1 harg1 arg2 harg2 arg3 harg3 arg4 harg4 arg5 harg5 arg6 harg6 arg7 harg7 arg8 harg8 arg9 harg9 arg10 harg10 arg11 harg11 arg12 harg12 f0 f1 _ _ f8 f9 x2 x3 ((bd_read (F := F) arg3 arg10 f3 _).trans (congrArg _ hf3)) ((pt_read (F := F) arg2 arg11 f2 _).trans (congrArg _ hf2))) f5 f6 f7).2.1.trans ?_
    rw [hf0, hf1, ← hf4]
    exact congrArg (scales · _) (at4 (F := F) arg4 f4 _)
  isplitl [H7]
  · iexists _; isplitr; swap; · iexact H7
    ipureintro
    rw [show Scf.trips k0_t3_loop.lb k0_t3_loop.ub k0_t3_loop.st = 8 by decide +kernel]
    sl_unfold_words
    refine (read3 (F := F) Variants.none c none arg0 harg0 arg1 harg1 arg2 harg2 arg3 harg3 arg4 harg4 arg5 harg5 arg6 harg6 arg7 harg7 arg8 harg8 arg9 harg9 arg10 harg10 arg11 harg11 arg12 harg12 _ _ _ (holds9 (F := F) c arg0 harg0 arg1 harg1 arg2 harg2 arg3 harg3 arg4 harg4 arg5 harg5 arg6 harg6 arg7 harg7 arg8 harg8 arg9 harg9 arg10 harg10 arg11 harg11 arg12 harg12 f0 f1 _ _ f8 f9 x2 x3 ((bd_read (F := F) arg3 arg10 f3 _).trans (congrArg _ hf3)) ((pt_read (F := F) arg2 arg11 f2 _).trans (congrArg _ hf2))) f5 f6 f7).2.2.trans ?_
    rw [hf0, hf1, ← hf4]
    exact congrArg (zeros · _) (at4 (F := F) arg4 f4 _)
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Cert.KernelIdeal.Tr

end
-- ==== Proof.TrRegion.lean ====
/- The transform's region: its proof data at any entry contents, and the body obligation at its one point. -/
module

public import proofs.«01_k».proof.Proof.TrRun
public import proofs.«01_k».proof.Proof.Gen.KernelIdeal.Points
public import proofs.«01_k».proof.Proof.Gen.KernelIdeal.Launch
public import Idealize.ShloMosaic.Lib.Pipeline.FrameBody
public import Idealize.ShloMosaic.Lib.Pipeline.ValueKit

@[expose] public section

set_option maxRecDepth 16384

noncomputable section

namespace Cert.KernelIdeal.Tr

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rotated rows of the staged operands. -/
def Z0 (c : Dev nD) (t : Fin cfg0.N) : Fin 256 → Vec F S112x128 .f32 :=
  Zof (iblk0 V c 0 t) (iblk0 V c 1 t) (iblk0 V c 2 t) (iblk0 V c 3 t)

/-- The staged bound. -/
def g0 (c : Dev nD) (t : Fin cfg0.N) : Elt F .f32 := iblk0 V c 4 t (ix1 0)

/-- The proof data: each input's buffer at its block, the outputs' at the run's values. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => codes (g0 V c t) (Z0 V c t)
    | ⟨6, _⟩ => scales (g0 V c t) (Z0 V c t)
    | ⟨7, _⟩ => zeros (g0 V c t) (Z0 V c t)
  Φ _ := Pipeline.scopedRest spec0 c
  q _ := fullShare
  owed _ := 0

theorem A0_eq (c : Dev nD) (w : Fin cfg0.W) : (dat0 V c).A w = V c (Pipeline.arrRef spec0 w) := by
  dsimp only [dat0]

theorem aft0_0 (c : Dev nD) (t : Fin cfg0.N) : (dat0 V c).after 0 t = iblk0 V c 0 t := by dsimp only [dat0]
theorem aft0_1 (c : Dev nD) (t : Fin cfg0.N) : (dat0 V c).after 1 t = iblk0 V c 1 t := by dsimp only [dat0]
theorem aft0_2 (c : Dev nD) (t : Fin cfg0.N) : (dat0 V c).after 2 t = iblk0 V c 2 t := by dsimp only [dat0]
theorem aft0_3 (c : Dev nD) (t : Fin cfg0.N) : (dat0 V c).after 3 t = iblk0 V c 3 t := by dsimp only [dat0]
theorem aft0_4 (c : Dev nD) (t : Fin cfg0.N) : (dat0 V c).after 4 t = iblk0 V c 4 t := by dsimp only [dat0]
theorem aft0_5 (c : Dev nD) (t : Fin cfg0.N) : (dat0 V c).after 5 t = codes (g0 V c t) (Z0 V c t) := by dsimp only [dat0]
theorem aft0_6 (c : Dev nD) (t : Fin cfg0.N) : (dat0 V c).after 6 t = scales (g0 V c t) (Z0 V c t) := by dsimp only [dat0]
theorem aft0_7 (c : Dev nD) (t : Fin cfg0.N) : (dat0 V c).after 7 t = zeros (g0 V c t) (Z0 V c t) := by dsimp only [dat0]

/-- An input's staging buffer holds its block at every point. -/
theorem bef0 (c : Dev nD) (w : Fin cfg0.W) (hw : (cfg0.win w).isOut = false) (hlive : ∀ i, cfg0.idle w i = false)
    (hclip : ∀ t t' : Fin cfg0.N, (cfg0.win w).index t = (cfg0.win w).index t' → (cfg0.win w).clip (cfg0.grid.coords t) = (cfg0.win w).clip (cfg0.grid.coords t'))
    (hkeep : ∀ t, (cfg0.win w).cut (cfg0.grid.coords t) ((dat0 V c).after w t) = (dat0 V c).blockOf w t) (t : Fin cfg0.N) (d) :
    (dat0 V c).before w t d = (dat0 V c).fetched w t d := (dat0 V c).before_in_eq_fetched w hw hlive hclip hkeep t d

theorem bef0_0 (c : Dev nD) (t : Fin cfg0.N) (d) : (dat0 V c).before 0 t d = iblk0 V c 0 t :=
  (bef0 V c 0 rfl (fun _ => rfl) (fun _ _ _ => rfl) (fun t => by rw [aft0_0]; unfold Dat.blockOf iblk0; rw [A0_eq]; try rfl) t d).trans
    (by unfold Dat.fetched Dat.blockOf iblk0; rw [A0_eq]; try rfl)
theorem bef0_1 (c : Dev nD) (t : Fin cfg0.N) (d) : (dat0 V c).before 1 t d = iblk0 V c 1 t :=
  (bef0 V c 1 rfl (fun _ => rfl) (fun _ _ _ => rfl) (fun t => by rw [aft0_1]; unfold Dat.blockOf iblk0; rw [A0_eq]; try rfl) t d).trans
    (by unfold Dat.fetched Dat.blockOf iblk0; rw [A0_eq]; try rfl)
theorem bef0_2 (c : Dev nD) (t : Fin cfg0.N) (d) : (dat0 V c).before 2 t d = iblk0 V c 2 t :=
  (bef0 V c 2 rfl (fun _ => rfl) (fun _ _ _ => rfl) (fun t => by rw [aft0_2]; unfold Dat.blockOf iblk0; rw [A0_eq]; try rfl) t d).trans
    (by unfold Dat.fetched Dat.blockOf iblk0; rw [A0_eq]; try rfl)
theorem bef0_3 (c : Dev nD) (t : Fin cfg0.N) (d) : (dat0 V c).before 3 t d = iblk0 V c 3 t :=
  (bef0 V c 3 rfl (fun _ => rfl) (fun _ _ _ => rfl) (fun t => by rw [aft0_3]; unfold Dat.blockOf iblk0; rw [A0_eq]; try rfl) t d).trans
    (by unfold Dat.fetched Dat.blockOf iblk0; rw [A0_eq]; try rfl)
theorem bef0_4 (c : Dev nD) (t : Fin cfg0.N) (d) : (dat0 V c).before 4 t d = iblk0 V c 4 t :=
  (bef0 V c 4 rfl (fun _ => rfl) (fun _ _ _ => rfl) (fun t => by rw [aft0_4]; unfold Dat.blockOf iblk0; rw [A0_eq]; try rfl) t d).trans
    (by unfold Dat.fetched Dat.blockOf iblk0; rw [A0_eq]; try rfl)

theorem defs0_row (t : Fin cfg0.N) :
    defs₀ (F := F) .tc cfg0.body (cfg0.bodyArgs t (cfg0.slots t)) = bodyAt0 t := by
  unfold defs₀; rw [Defs.onTc_tc]

/-- What the body is called with, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d)) ∗ (∃ d, owns (c : Thread nD τ) (st0_1 t) fullShare ((dat0 V c).before 1 t d)) ∗ (∃ d, owns (c : Thread nD τ) (st0_2 t) fullShare ((dat0 V c).before 2 t d)) ∗ (∃ d, owns (c : Thread nD τ) (st0_3 t) fullShare ((dat0 V c).before 3 t d)) ∗ (∃ d, owns (c : Thread nD τ) (st0_4 t) fullShare ((dat0 V c).before 4 t d)) ∗ (∃ d, owns (c : Thread nD τ) (st0_5 t) fullShare ((dat0 V c).before 5 t d)) ∗ (∃ d, owns (c : Thread nD τ) (st0_6 t) fullShare ((dat0 V c).before 6 t d)) ∗ (∃ d, owns (c : Thread nD τ) (st0_7 t) fullShare ((dat0 V c).before 7 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t) ∗ owns (c : Thread nD τ) (st0_1 t) fullShare ((dat0 V c).after 1 t) ∗ owns (c : Thread nD τ) (st0_2 t) fullShare ((dat0 V c).after 2 t) ∗ owns (c : Thread nD τ) (st0_3 t) fullShare ((dat0 V c).after 3 t) ∗ owns (c : Thread nD τ) (st0_4 t) fullShare ((dat0 V c).after 4 t) ∗ owns (c : Thread nD τ) (st0_5 t) fullShare ((dat0 V c).after 5 t) ∗ owns (c : Thread nD τ) (st0_6 t) fullShare ((dat0 V c).after 6 t) ∗ owns (c : Thread nD τ) (st0_7 t) fullShare ((dat0 V c).after 7 t))

set_option maxHeartbeats 6400000 in
/-- The body at its point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [bef0_0, bef0_1, bef0_2, bef0_3, bef0_4]
  rw [show (dat0 V c).owesAt () t.succ = (dat0 V c).owesAt () t.castSucc from rfl,
    aft0_0, aft0_1, aft0_2, aft0_3, aft0_4, aft0_5, aft0_6, aft0_7]
  rw [show (dat0 V c).Φ t.succ = Pipeline.scopedRest spec0 c from rfl, show (dat0 V c).Φ t.castSucc = Pipeline.scopedRest spec0 c from rfl,
    scopedRest0_eq]
  simp only [← owns_whole]
  iintro ⟨⟨HS0, HS1, HS2, HS3, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run (F := F) c _ _ _ _ _ _ _ _ _ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HS0 HS1 HS2 HS3 HR]
  · isplitl [HS0]; · iexact HS0
    isplitl [HS1]; · iexact HS1
    isplitl [HS2]; · iexact HS2
    isplitl [HS3]; · iexact HS3
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation. -/
theorem obligation0 (c : Dev nD) : BodyObligation (dat0 (F := F) V c) (defs₀ (F := F)) Variants.none () Set.univ := fun t => by
  rw [bigSep_W0, bigSep_W0, defs0_row]
  exact triple_restated (sound_body V c t) rfl .rfl fun _ => .rfl

end Cert.KernelIdeal.Tr

end
-- ==== Proof.GeVal.lean ====
/- What one pass of the weight product leaves in its buffers, as plain functions of the blocks it reads:
   the widened codes, the accumulator and the column sums before each trip, and the output block. -/
module

public import proofs.«01_k».proof.Proof.Gen.KernelIdeal.Points
public import proofs.«01_k».proof.Proof.Gen.KernelIdeal.Loops
public import Idealize.ShloMosaic.Lib.VecWindow
public import Idealize.ShloMosaic.Lib.Pipeline.Value

@[expose] public section

set_option maxRecDepth 16384

noncomputable section

namespace Cert.KernelIdeal.Gemm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The codes in the multiplier's format: every element converted. -/
def x8v (x0 : Vec F S256x14336 .i8) : Vec F S256x14336 .fp8e4m3 :=
  truncf (s := S256x14336) .fp8e4m3 (sitofp .bf16 x0) bitsLt_fp8e4m3_bf16

/-- The weight rows of trip `k`. -/
def wTile (x3 : Vec F S7168x512 .i8) (k : ℕ) (h : k < 56) : Vec F S128x512 .i8 :=
  VecWindow.window x3 ![128 * k, 0] S128x512.size (by intro a; fin_cases a <;> simp [S128x512, S7168x512] <;> omega)

/-- The code columns of trip `k`. -/
def xTile (x8 : Vec F S256x14336 .fp8e4m3) (k : ℕ) (h : k < 56) : Vec F S256x256 .fp8e4m3 :=
  VecWindow.window x8 ![0, 256 * k] S256x256.size (by intro a; fin_cases a <;> simp [S256x256, S256x14336] <;> omega)

/-- The accumulator before trip `k`. -/
def accAt (x3 : Vec F S7168x512 .i8) (x8 : Vec F S256x14336 .fp8e4m3) : ℕ → Vec F S256x512 .f32
  | 0 => k1_pay2
  | k + 1 => if h : k < 56 then k1_pay5 (wTile x3 k h) (accAt x3 x8 k) (xTile x8 k h) else accAt x3 x8 k

/-- The eight partial column sums before trip `k`. -/
def csAt (x3 : Vec F S7168x512 .i8) : ℕ → Vec F S8x512 .f32
  | 0 => k1_pay3
  | k + 1 => if h : k < 56 then k1_pay6 (csAt x3 k) (wTile x3 k h) else csAt x3 k

/-- The output block: the epilogue of the finished accumulator. -/
def outv (x1 x2 : Vec F S256x128 .f32) (x3 : Vec F S7168x512 .i8) (x4 : Vec F S1x512 .f32)
    (x8 : Vec F S256x14336 .fp8e4m3) : Vec F S256x512 .bf16 :=
  k1_pay7 (csAt x3 56) x1 x2 (accAt x3 x8 56) x4

theorem accAt_succ (x3 : Vec F S7168x512 .i8) (x8 : Vec F S256x14336 .fp8e4m3) (k : ℕ) (h : k < 56) :
    accAt x3 x8 (k + 1) = k1_pay5 (wTile x3 k h) (accAt x3 x8 k) (xTile x8 k h) := by
  rw [accAt]; exact dif_pos h

theorem csAt_succ (x3 : Vec F S7168x512 .i8) (k : ℕ) (h : k < 56) :
    csAt x3 (k + 1) = k1_pay6 (csAt x3 k) (wTile x3 k h) := by
  rw [csAt]; exact dif_pos h

end Cert.KernelIdeal.Gemm

end
-- ==== Proof.GeLoop.lean ====
/- The two counted loops of the weight product, their pieces read back as values. -/
module

public import proofs.«01_k».proof.Proof.GeVal

@[expose] public section

set_option maxRecDepth 16384

noncomputable section

namespace Cert.KernelIdeal.Gemm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (𝒱 : Variants) (c : Dev nD) (bd : Option 𝒱.V) (i : grid1.Coords)
  (arg1 : Memref sig .tc .vmem S256x14336 .i8) (harg1 : arg1.IsWhole) (arg2 : Memref sig .tc .vmem S256x128 .f32) (harg2 : arg2.IsWhole)
  (arg3 : Memref sig .tc .vmem S256x128 .f32) (harg3 : arg3.IsWhole) (arg4 : Memref sig .tc .vmem S7168x512 .i8) (harg4 : arg4.IsWhole)
  (arg5 : Memref sig .tc .vmem S1x512 .f32) (harg5 : arg5.IsWhole) (arg6 : Memref sig .tc .vmem S256x512 .bf16) (harg6 : arg6.IsWhole)
  (arg7 : Memref sig .tc .vmem S256x512 .f32) (harg7 : arg7.IsWhole) (arg8 : Memref sig .tc .vmem S256x14336 .fp8e4m3) (harg8 : arg8.IsWhole)

/-- The second loop's state before trip `k`: the column sums, and the accumulator its pieces read back as. -/
theorem st2_eq (X4 : BufTy.Contents (Elt F) arg4.view.ty) (X8 : BufTy.Contents (Elt F) arg8.view.ty) (G7 : BufTy.Contents (Elt F) arg7.view.ty)
    (h0 : arg7.view.read (Elt F) G7 = k1_pay2) : ∀ k : ℕ, k ≤ 56 →
    (st_k1_t2 𝒱 c bd i arg1 harg1 arg2 harg2 arg3 harg3 arg4 harg4 arg5 harg5 arg6 harg6 arg7 harg7 arg8 harg8 X4 X8 G7 k1_pay3 k).1 = csAt (arg4.view.read (Elt F) X4) k
    ∧ arg7.view.read (Elt F) (arg7.view.writes (Elt F) G7
        (st_k1_t2 𝒱 c bd i arg1 harg1 arg2 harg2 arg3 harg3 arg4 harg4 arg5 harg5 arg6 harg6 arg7 harg7 arg8 harg8 X4 X8 G7 k1_pay3 k).2)
      = accAt (arg4.view.read (Elt F) X4) (arg8.view.read (Elt F) X8) k
  | 0, _ => ⟨rfl, h0⟩
  | k + 1, hk => by
    have hk' : k < 56 := hk
    obtain ⟨e1, e2⟩ := st2_eq X4 X8 G7 h0 k (by omega)
    have hs := st_k1_t2_succ (F := F) 𝒱 c bd i arg1 harg1 arg2 harg2 arg3 harg3 arg4 harg4 arg5 harg5 arg6 harg6 arg7 harg7 arg8 harg8 X4 X8 G7 k1_pay3 ⟨k, hk'⟩
    simp only at hs
    rw [hs, csAt_succ _ _ hk', accAt_succ _ _ _ hk', ← e1, ← e2]
    generalize (st_k1_t2 𝒱 c bd i arg1 harg1 arg2 harg2 arg3 harg3 arg4 harg4 arg5 harg5 arg6 harg6 arg7 harg7 arg8 harg8 X4 X8 G7 k1_pay3 k) = s
    unfold tripR_k1_t2 tripL_k1_t2 trip_k1_t2
    dsimp only
    refine ⟨?_, ?_⟩
    · rw [View.readAt_unit arg4.view X4 _ (k1_off2_eq ⟨k, hk'⟩)]; rfl
    · rw [List.cons_append, View.read_writes_full]
      rw [View.readAt_unit arg4.view X4 _ (k1_off2_eq ⟨k, hk'⟩), View.readAt_unit arg8.view X8 _ (k1_off3_eq ⟨k, hk'⟩), View.readAt_full]
      rfl

/-- The first loop's pieces before trip `k`, read back: the columns of the trips before are converted. -/
theorem pb1_eq (h1 : k1_cond1 i = 1#1) (X1 : BufTy.Contents (Elt F) arg1.view.ty) (G8 : BufTy.Contents (Elt F) arg8.view.ty) : ∀ k : ℕ, k ≤ 56 →
    ∀ y : S256x14336.Idx, (y 1).val < 256 * k →
      arg8.view.read (Elt F) (arg8.view.writes (Elt F) G8
        (pb_k1_t1 𝒱 c bd i arg1 harg1 arg2 harg2 arg3 harg3 arg4 harg4 arg5 harg5 arg6 harg6 arg7 harg7 arg8 harg8 h1 X1 k)) y
      = x8v (arg1.view.read (Elt F) X1) y
  | 0, _, y, hy => absurd hy (by omega)
  | k + 1, hk, y, hy => by
    have hk' : k < 56 := hk
    have ih := pb1_eq h1 X1 G8 k (by omega) y
    have hs := pb_k1_t1_succ (F := F) 𝒱 c bd i arg1 harg1 arg2 harg2 arg3 harg3 arg4 harg4 arg5 harg5 arg6 harg6 arg7 harg7 arg8 harg8 h1 X1 ⟨k, hk'⟩
    simp only at hs
    rw [hs]
    generalize (pb_k1_t1 𝒱 c bd i arg1 harg1 arg2 harg2 arg3 harg3 arg4 harg4 arg5 harg5 arg6 harg6 arg7 harg7 arg8 harg8 h1 X1 k) = s at ih ⊢
    unfold tripL_k1_t1 trip_k1_t1
    dsimp only
    rw [List.cons_append, View.read_writes_cons_put _ _ _ _ _ (k1_off1_eq ⟨k, hk'⟩)]
    unfold VecWindow.put
    split
    · rename_i hin
      unfold k1_pay1 x8v
      rw [View.readAt_unit arg1.view X1 _ (k1_off1_eq ⟨k, hk'⟩)]
      · rw [shapeCast_self, shapeCast_self]
        show truncf (s := S256x256) .fp8e4m3 (sitofp .bf16 _) _ _ = _
        refine congrArg (fun v => FloatOps.truncf .fp8e4m3 bitsLt_fp8e4m3_bf16 (FloatOps.sitofp .bf16 v)) ?_
        refine congrArg (arg1.view.read (Elt F) X1) (funext fun a => Fin.ext ?_)
        show (![0, 256 * k] : Fin 2 → ℕ) a + 1 * ((y a).val - (![0, 256 * k] : Fin 2 → ℕ) a) = (y a).val
        have := hin a
        dsimp only at this
        omega
      · intro a; fin_cases a <;> simp [S256x14336] <;> omega
    · rename_i hin
      rw [List.nil_append]
      refine ih ?_
      by_contra hc
      refine hin fun a => ?_
      have hy0 : (y 0).val < 256 := (y 0).isLt
      fin_cases a
      · simp [S256x256]; exact hy0
      · simp [S256x256]; omega

end Cert.KernelIdeal.Gemm

end
-- ==== Proof.GeRun.lean ====
/- One pass of the weight product run: at the grid's first point it converts the codes and keeps them; at every point
   it leaves the output block `outv` of the blocks it reads and the kept codes. -/
module

public import proofs.«01_k».proof.Proof.GeLoop
public import proofs.«01_k».proof.Proof.Gen.KernelIdeal.Launch
public import Idealize.ShloMosaic.Lib.WordCmp
public import Idealize.ShloMosaic.Lib.Pipeline.FrameBody
public import Idealize.ShloMosaic.Lib.Ring
public import Idealize.ShloMosaic.Lib.Tactic

@[expose] public section

set_option maxRecDepth 16384

noncomputable section

namespace Cert.KernelIdeal.Gemm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition of the body's `scf.if` 0 (`k1_h1`), from the grid coordinates (the skeleton's scalar
    chain substituted). -/
abbrev cond0_0 (i : grid1.Coords) : Prop := k1_cond1 i = 1#1
/-- It holds at the first point only — by arithmetic of the point. -/
theorem hcond0_0 : ∀ t : Fin cfg1.N, cond0_0 (grid1.coords t) ↔ t.val % 8 = 0 :=
  (fun t => by
    have ht : t.val < 8 := Nat.lt_of_lt_of_eq t.isLt N_1
    have e0 : (grid1.coords t 0).val = t.val / 1 % 8 := Pipeline.Grid.coords_val t 0 (by decide) rfl
    simp only [cond0_0, k1_cond1, e0]
    word_cmp
   : ∀ t : Fin grid1.N, cond0_0 (grid1.coords t) ↔ t.val % 8 = 0)

/-- Each window's current staging memref at point `t`, spelled as the pipeline passes it (`bodyAt1`), and its wholeness. -/
abbrev ms0_0 (t : Fin cfg1.N) : Memref sig .tc .vmem S256x14336 .i8 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S256x128 .f32 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S256x128 .f32 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S7168x512 .i8 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S1x512 .f32 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S256x512 .bf16 := win1_5.stage (cfg1.slots t 5)
abbrev hs0_5 (t : Fin cfg1.N) : (ms0_5 t).IsWhole := hstage1_5 ((cfg1.slots t 5).cast nbuf1_5)
/-- The scratch operands: whole scoped buffers of the kernel's own, passed beside the windows. -/
abbrev scM0_0 : Memref sig .tc .vmem S256x512 .f32 := Memref.whole cc1_scratch0
abbrev scM0_1 : Memref sig .tc .vmem S256x14336 .fp8e4m3 := Memref.whole cc1_scratch1
/-- The scratch `arg8` the kernel carries between points, as a view: what it holds is stated through it. -/
abbrev VS0_1 : View sig .tc .vmem S256x14336 .fp8e4m3 := scM0_1.view

/-- The scoped buffers that are neither this region's staging buffers nor its scratch, each at anything. -/
def Rest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_stg4_0), ((c : Thread nD τ).loc cc0_stg4_0) ↦{fullShare} f))

/-- The scoped buffers no window stages are the two scratch operands and the rest. -/
theorem scoped_open (c : Dev nD) : (Pipeline.scopedRest spec1 c : sProp 𝕄)
    ⊢ iprop((∃ d, owns (c : Thread nD τ) scM0_0 fullShare d) ∗ (∃ d, owns (c : Thread nD τ) scM0_1 fullShare d) ∗ Rest (F := F) c) := by
  rw [scopedRest1_eq]; unfold Rest; simp only [scM0_0, scM0_1, owns_whole]
  iintro ⟨H0, H1, H2, H3, H4, H5, H6, H7, H8, H9, H10, H11, H12, H13, H14⟩
  isplitl [H12]; · iexact H12
  isplitl [H13]; · iexact H13
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H14

/-- And back. -/
theorem scoped_close (c : Dev nD) :
    iprop((∃ d, owns (c : Thread nD τ) scM0_0 fullShare d) ∗ (∃ d, owns (c : Thread nD τ) scM0_1 fullShare d) ∗ Rest (F := F) c)
      ⊢ (Pipeline.scopedRest spec1 c : sProp 𝕄) := by
  rw [scopedRest1_eq]; unfold Rest; simp only [scM0_0, scM0_1, owns_whole]
  iintro ⟨H12, H13, H0, H1, H2, H3, H4, H5, H6, H7, H8, H9, H10, H11, H14⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem hz2 : (![0, 0] : Fin 2 → Nat) = fun _ => 0 := funext fun a => by fin_cases a <;> rfl

variable (c : Dev nD) (i : grid1.Coords)
  (arg1 : Memref sig .tc .vmem S256x14336 .i8) (harg1 : arg1.IsWhole) (arg2 : Memref sig .tc .vmem S256x128 .f32) (harg2 : arg2.IsWhole)
  (arg3 : Memref sig .tc .vmem S256x128 .f32) (harg3 : arg3.IsWhole) (arg4 : Memref sig .tc .vmem S7168x512 .i8) (harg4 : arg4.IsWhole)
  (arg5 : Memref sig .tc .vmem S1x512 .f32) (harg5 : arg5.IsWhole) (arg6 : Memref sig .tc .vmem S256x512 .bf16) (harg6 : arg6.IsWhole)
  (arg7 : Memref sig .tc .vmem S256x512 .f32) (harg7 : arg7.IsWhole) (arg8 : Memref sig .tc .vmem S256x14336 .fp8e4m3) (harg8 : arg8.IsWhole)

theorem trips1 : Scf.trips k1_t1_loop.lb k1_t1_loop.ub k1_t1_loop.st = 56 := by decide +kernel
theorem trips2 : Scf.trips k1_t2_loop.lb k1_t2_loop.ub k1_t2_loop.st = 56 := by decide +kernel

/-- The kept codes after the first loop: every column converted. -/
theorem kept_eq (h1 : k1_cond1 i = 1#1) (X1 : BufTy.Contents (Elt F) arg1.view.ty) (G8 : BufTy.Contents (Elt F) arg8.view.ty) :
    arg8.view.read (Elt F) (arg8.view.writes (Elt F) G8
        (pb_k1_t1 Variants.none c none i arg1 harg1 arg2 harg2 arg3 harg3 arg4 harg4 arg5 harg5 arg6 harg6 arg7 harg7 arg8 harg8 h1 X1
          (Scf.trips k1_t1_loop.lb k1_t1_loop.ub k1_t1_loop.st)))
      = x8v (arg1.view.read (Elt F) X1) := by
  rw [trips1]
  funext y
  exact pb1_eq _ c _ i arg1 harg1 arg2 harg2 arg3 harg3 arg4 harg4 arg5 harg5 arg6 harg6 arg7 harg7 arg8 harg8 h1 X1 G8 56 le_rfl y
    (show (y 1).val < 14336 from (y 1).isLt)

/-- The output block as the run finds it is `outv`. -/
theorem out_eq (X2 : BufTy.Contents (Elt F) arg2.view.ty) (X3 : BufTy.Contents (Elt F) arg3.view.ty) (X4 : BufTy.Contents (Elt F) arg4.view.ty)
    (X5 : BufTy.Contents (Elt F) arg5.view.ty) (f6 : BufTy.Contents (Elt F) arg6.view.ty) (X8 : BufTy.Contents (Elt F) arg8.view.ty) :
    View.read (Elt F) arg6.view
      (arg6.view.writes (Elt F) f6
        [⟨Rect.unit ![0, 0] S256x512.size inb_S256x512_S256x512_0_0,
            k1_pay7
              (st_k1_t2 Variants.none c none i arg1 harg1 arg2 harg2 arg3 harg3 arg4 harg4 arg5 harg5 arg6 harg6 arg7
                  harg7 arg8 harg8 X4 X8
                  (arg7.view.writes (Elt F) arg7.view.junk
                    [⟨Rect.unit ![0, 0] S256x512.size inb_S256x512_S256x512_0_0, k1_pay2⟩])
                  k1_pay3 (Scf.trips k1_t2_loop.lb k1_t2_loop.ub k1_t2_loop.st)).1
              (View.readAt (Elt F) arg2.view (Rect.unit ![0, 0] S256x128.size inb_S256x128_S256x128_0_0).toLoadRect X2)
              (View.readAt (Elt F) arg3.view (Rect.unit ![0, 0] S256x128.size inb_S256x128_S256x128_0_0).toLoadRect X3)
              (arg7.view.readCov
                ((st_k1_t2 Variants.none c none i arg1 harg1 arg2 harg2 arg3 harg3 arg4 harg4 arg5 harg5 arg6 harg6 arg7
                      harg7 arg8 harg8 X4 X8
                      (arg7.view.writes (Elt F) arg7.view.junk
                        [⟨Rect.unit ![0, 0] S256x512.size inb_S256x512_S256x512_0_0, k1_pay2⟩])
                      k1_pay3 (Scf.trips k1_t2_loop.lb k1_t2_loop.ub k1_t2_loop.st)).2 ++
                  [⟨Rect.unit ![0, 0] S256x512.size inb_S256x512_S256x512_0_0, k1_pay2⟩])
                (Rect.unit ![0, 0] S256x512.size inb_S256x512_S256x512_0_0).toLoadRect)
              (View.readAt (Elt F) arg5.view (Rect.unit ![0, 0] S1x512.size inb_S1x512_S1x512_0_0).toLoadRect X5)⟩])
      = outv (arg2.view.read (Elt F) X2) (arg3.view.read (Elt F) X3) (arg4.view.read (Elt F) X4) (arg5.view.read (Elt F) X5)
          (arg8.view.read (Elt F) X8) := by
  have h := st2_eq Variants.none c none i arg1 harg1 arg2 harg2 arg3 harg3 arg4 harg4 arg5 harg5 arg6 harg6 arg7 harg7 arg8 harg8 X4 X8
    (arg7.view.writes (Elt F) arg7.view.junk [⟨Rect.unit ![0, 0] S256x512.size inb_S256x512_S256x512_0_0, k1_pay2⟩])
    (View.read_writes_full _ _ _ _ _) 56 le_rfl
  rw [trips2]
  unfold View.readCov
  rw [View.read_writes_full, View.writes_append, View.readAt_full, View.readAt_full, View.readAt_full, View.readAt_full, h.1, h.2]
  rfl

set_option maxHeartbeats 4000000 in
/-- The first point: the codes are converted and kept. -/
theorem run_A (hc0 : cond0_0 i)
    (x0 : Vec F S256x14336 .i8) (x1 : Vec F S256x128 .f32) (x2 : Vec F S256x128 .f32) (x3 : Vec F S7168x512 .i8) (x4 : Vec F S1x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outv x1 x2 x3 x4 (x8v x0)) ∗ (∃ d, owns (c : Thread nD τ) arg7 fullShare d) ∗ owns (c : Thread nD τ) arg8 fullShare (x8v x0)) -∗ K ⟨⟩))
      ⊢ wp frame (wpE (defs₀ (F := F)) Variants.none c none) E (cc1_gemm i arg1 harg1 arg2 harg2 arg3 harg3 arg4 harg4 arg5 harg5 arg6 harg6 arg7 harg7 arg8 harg8) K := by
  simp only [cc1_gemm_eq_skeleton]; unfold cc1_gemm_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
  sl_exec (disch := first | sl_exact hc0)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro
    sl_unfold_words
    rw [out_eq c i arg1 harg1 arg2 harg2 arg3 harg3 arg4 harg4 arg5 harg5 arg6 harg6 arg7 harg7 arg8 harg8, kept_eq c i arg1 harg1 arg2 harg2 arg3 harg3 arg4 harg4 arg5 harg5 arg6 harg6 arg7 harg7 arg8 harg8, hf0, hf1, hf2, hf3, hf4]
  isplitl [HS0]
  · iexists _, _; isplitr; swap; · iexact HS0
    ipureintro; rfl
  iexists _; isplitr; swap; · iexact HS1
  ipureintro
  rw [kept_eq c i arg1 harg1 arg2 harg2 arg3 harg3 arg4 harg4 arg5 harg5 arg6 harg6 arg7 harg7 arg8 harg8, hf0]

set_option maxHeartbeats 4000000 in
/-- A later point: the kept codes are used. -/
theorem run_B (hc0 : ¬cond0_0 i)
    (x0 : Vec F S256x14336 .i8) (x1 : Vec F S256x128 .f32) (x2 : Vec F S256x128 .f32) (x3 : Vec F S7168x512 .i8) (x4 : Vec F S1x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare (x8v x0)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outv x1 x2 x3 x4 (x8v x0)) ∗ (∃ d, owns (c : Thread nD τ) arg7 fullShare d) ∗ owns (c : Thread nD τ) arg8 fullShare (x8v x0)) -∗ K ⟨⟩))
      ⊢ wp frame (wpE (defs₀ (F := F)) Variants.none c none) E (cc1_gemm i arg1 harg1 arg2 harg2 arg3 harg3 arg4 harg4 arg5 harg5 arg6 harg6 arg7 harg7 arg8 harg8) K := by
  simp only [cc1_gemm_eq_skeleton]; unfold cc1_gemm_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%fs1, %hfs1, HS1⟩, Hk⟩
  sl_exec (disch := first | sl_exact hc0)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro
    sl_unfold_words
    rw [out_eq c i arg1 harg1 arg2 harg2 arg3 harg3 arg4 harg4 arg5 harg5 arg6 harg6 arg7 harg7 arg8 harg8, hf1, hf2, hf3, hf4, hfs1]
  isplitl [HS0]
  · iexists _, _; isplitr; swap; · iexact HS0
    ipureintro; rfl
  iexists _; isplitr; swap; · iexact HS1
  ipureintro
  exact hfs1

end Cert.KernelIdeal.Gemm

end
-- ==== Proof.GeRegion.lean ====
/- The weight product's pipelined run: what each staging buffer and the kept codes hold between grid points, the body
   obligation at every point, the launch, and the array the run leaves. -/
module

public import proofs.«01_k».proof.Proof.GeRun
public import Idealize.ShloMosaic.Lib.Pipeline.ValueKit

@[expose] public section

set_option maxRecDepth 16384

noncomputable section

namespace Cert.KernelIdeal.Gemm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The codes, as the region finds them. -/
def X0 (c : Dev nD) : Vec F S256x14336 .i8 := V c main_v3_0

/-- The codes' block is the whole array at every point. -/
theorem iblk1_eq (c : Dev nD) (t : Fin cfg1.N) : iblk1 V c 0 t = X0 V c := by
  have hz : (fun a => win1_0.index t a * main_v3_0.ty.shape.size a) = fun _ => 0 := funext fun a => by
    fin_cases a <;> exact Nat.zero_mul _
  exact Memref.read_access_unit_zero (Elt F) main_v3_0 hz (fun a => by rw [congrFun hz a]; simp) (V c main_v3_0)

/-- The output block point `t` leaves. -/
def outAt (c : Dev nD) (t : Fin cfg1.N) : Vec F S256x512 .bf16 :=
  outv (iblk1 V c 1 t) (iblk1 V c 2 t) (iblk1 V c 3 t) (iblk1 V c 4 t) (x8v (X0 V c))

/-- The region invariant before position `n`: before the first point every scratch at anything; afterwards the kept codes
    at the converted codes, the accumulator at anything. -/
def PhiS (c : Dev nD) : ℕ → sProp 𝕄
  | 0 => Pipeline.scopedRest spec1 c
  | n + 1 => iprop((∃ d, owns (c : Thread nD τ) scM0_0 fullShare d) ∗ owns (c : Thread nD τ) scM0_1 fullShare (x8v (X0 V c)) ∗ Rest (F := F) c)

theorem PhiS_succ (c : Dev nD) (n : ℕ) :
    PhiS V c (n + 1) = iprop((∃ d, owns (c : Thread nD τ) scM0_0 fullShare d) ∗ owns (c : Thread nD τ) scM0_1 fullShare (x8v (X0 V c)) ∗ Rest (F := F) c) := rfl

theorem PhiS_pos (c : Dev nD) (n : ℕ) (hz : n ≠ 0) :
    PhiS V c n = iprop((∃ d, owns (c : Thread nD τ) scM0_0 fullShare d) ∗ owns (c : Thread nD τ) scM0_1 fullShare (x8v (X0 V c)) ∗ Rest (F := F) c) := by
  cases n with
  | zero => exact absurd rfl hz
  | succ n => rfl

/-- The proof data of the pipeline on core `c`: each input's buffer at its block, the output's at `outAt`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t
  Φ t := PhiS V c t.val
  q _ := fullShare
  owed _ := 0

theorem A_eq (c : Dev nD) (w : Fin cfg1.W) : (dat1 V c).A w = V c (Pipeline.arrRef spec1 w) := by
  dsimp only [dat1]

theorem after0_0 (c : Dev nD) (t : Fin cfg1.N) : (dat1 V c).after 0 t = iblk1 V c 0 t := by dsimp only [dat1]
theorem after0_1 (c : Dev nD) (t : Fin cfg1.N) : (dat1 V c).after 1 t = iblk1 V c 1 t := by dsimp only [dat1]
theorem after0_2 (c : Dev nD) (t : Fin cfg1.N) : (dat1 V c).after 2 t = iblk1 V c 2 t := by dsimp only [dat1]
theorem after0_3 (c : Dev nD) (t : Fin cfg1.N) : (dat1 V c).after 3 t = iblk1 V c 3 t := by dsimp only [dat1]
theorem after0_4 (c : Dev nD) (t : Fin cfg1.N) : (dat1 V c).after 4 t = iblk1 V c 4 t := by dsimp only [dat1]
theorem after0_5 (c : Dev nD) (t : Fin cfg1.N) : (dat1 V c).after 5 t = outAt V c t := by dsimp only [dat1]

/-- Each input's staging buffer holds its block at every point. -/
theorem before0_0 (c : Dev nD) (t : Fin cfg1.N) (d) : (dat1 V c).before 0 t d = iblk1 V c 0 t :=
  ((dat1 V c).before_in_eq_fetched 0 rfl (fun _ => rfl) (fun _ _ _ => rfl) (fun t => by rw [after0_0]; unfold Dat.blockOf iblk1; rw [A_eq]; try rfl) t d).trans
    (by unfold Dat.fetched Dat.blockOf iblk1; rw [A_eq]; try rfl)
theorem before0_1 (c : Dev nD) (t : Fin cfg1.N) (d) : (dat1 V c).before 1 t d = iblk1 V c 1 t :=
  ((dat1 V c).before_in_eq_fetched 1 rfl (fun _ => rfl) (fun _ _ _ => rfl) (fun t => by rw [after0_1]; unfold Dat.blockOf iblk1; rw [A_eq]; try rfl) t d).trans
    (by unfold Dat.fetched Dat.blockOf iblk1; rw [A_eq]; try rfl)
theorem before0_2 (c : Dev nD) (t : Fin cfg1.N) (d) : (dat1 V c).before 2 t d = iblk1 V c 2 t :=
  ((dat1 V c).before_in_eq_fetched 2 rfl (fun _ => rfl) (fun _ _ _ => rfl) (fun t => by rw [after0_2]; unfold Dat.blockOf iblk1; rw [A_eq]; try rfl) t d).trans
    (by unfold Dat.fetched Dat.blockOf iblk1; rw [A_eq]; try rfl)
theorem before0_3 (c : Dev nD) (t : Fin cfg1.N) (d) : (dat1 V c).before 3 t d = iblk1 V c 3 t :=
  ((dat1 V c).before_in_eq_fetched 3 rfl (fun _ => rfl) (fun _ _ _ => rfl) (fun t => by rw [after0_3]; unfold Dat.blockOf iblk1; rw [A_eq]; try rfl) t d).trans
    (by unfold Dat.fetched Dat.blockOf iblk1; rw [A_eq]; try rfl)
theorem before0_4 (c : Dev nD) (t : Fin cfg1.N) (d) : (dat1 V c).before 4 t d = iblk1 V c 4 t :=
  ((dat1 V c).before_in_eq_fetched 4 rfl (fun _ => rfl) (fun _ _ _ => rfl) (fun t => by rw [after0_4]; unfold Dat.blockOf iblk1; rw [A_eq]; try rfl) t d).trans
    (by unfold Dat.fetched Dat.blockOf iblk1; rw [A_eq]; try rfl)

/-- What the body is called with at point `t`, -/
def bodyPre (c : Dev nD) (t : Fin cfg1.N) : sProp 𝕄 :=
  iprop((dat1 V c).Φ t.castSucc ∗ (dat1 V c).owesAt () t.castSucc
    ∗ (∃ d, owns (c : Thread nD τ) (ms0_0 t) fullShare ((dat1 V c).before 0 t d))
    ∗ (∃ d, owns (c : Thread nD τ) (ms0_1 t) fullShare ((dat1 V c).before 1 t d))
    ∗ (∃ d, owns (c : Thread nD τ) (ms0_2 t) fullShare ((dat1 V c).before 2 t d))
    ∗ (∃ d, owns (c : Thread nD τ) (ms0_3 t) fullShare ((dat1 V c).before 3 t d))
    ∗ (∃ d, owns (c : Thread nD τ) (ms0_4 t) fullShare ((dat1 V c).before 4 t d))
    ∗ (∃ d, owns (c : Thread nD τ) (ms0_5 t) fullShare ((dat1 V c).before 5 t d)))

/-- and what it returns. -/
def bodyPost (c : Dev nD) (t : Fin cfg1.N) : sProp 𝕄 :=
  iprop((dat1 V c).Φ t.succ ∗ (dat1 V c).owesAt () t.succ
    ∗ owns (c : Thread nD τ) (ms0_0 t) fullShare ((dat1 V c).after 0 t)
    ∗ owns (c : Thread nD τ) (ms0_1 t) fullShare ((dat1 V c).after 1 t)
    ∗ owns (c : Thread nD τ) (ms0_2 t) fullShare ((dat1 V c).after 2 t)
    ∗ owns (c : Thread nD τ) (ms0_3 t) fullShare ((dat1 V c).after 3 t)
    ∗ owns (c : Thread nD τ) (ms0_4 t) fullShare ((dat1 V c).after 4 t)
    ∗ owns (c : Thread nD τ) (ms0_5 t) fullShare ((dat1 V c).after 5 t))

/-- The invariant at a point's start, restated at `t.val`. -/
theorem PhiS_castSucc (c : Dev nD) (t : Fin cfg1.N) : (dat1 V c).Φ t.castSucc = PhiS V c t.val := by
  dsimp only [dat1]; rfl

set_option maxHeartbeats 6400000 in
/-- The body at any point: the first converts the codes, the later ones use the kept codes. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1, before0_2, before0_3, before0_4]
  rw [show (dat1 V c).owesAt () t.succ = (dat1 V c).owesAt () t.castSucc from rfl,
    after0_0, after0_1, after0_2, after0_3, after0_4, after0_5]
  rw [show (dat1 V c).Φ t.succ = PhiS V c (t.val + 1) from rfl, PhiS_succ, PhiS_castSucc V c t, iblk1_eq]
  have hN : t.val < 8 := lt_of_lt_of_eq t.isLt (show cfg1.N = 8 from N_1)
  by_cases hz : t.val = 0
  · have h0 : t.val % 8 = 0 := by omega
    rw [show PhiS V c t.val = Pipeline.scopedRest spec1 c from by rw [hz]; rfl]
    iintro ⟨HΦ, Ho, ⟨%d0, H0⟩, ⟨%d1, H1⟩, ⟨%d2, H2⟩, ⟨%d3, H3⟩, ⟨%d4, H4⟩, ⟨%d5, H5⟩⟩
    ihave HΦ' := scoped_open (F := F) c $$ HΦ
    icases HΦ' with ⟨HS0, HS1, Hg⟩
    iapply (run_A c (grid1.coords t) _ _ _ _ _ _ _ _ _ _ _ _ _ _ _ _ ((hcond0_0 t).mpr h0) (X0 V c) (iblk1 V c 1 t) (iblk1 V c 2 t) (iblk1 V c 3 t) (iblk1 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · have h0 : ¬ t.val % 8 = 0 := by omega
    rw [PhiS_pos V c _ hz]
    iintro ⟨⟨HS0, HS1, Hg⟩, Ho, ⟨%d0, H0⟩, ⟨%d1, H1⟩, ⟨%d2, H2⟩, ⟨%d3, H3⟩, ⟨%d4, H4⟩, ⟨%d5, H5⟩⟩
    iapply (run_B c (grid1.coords t) _ _ _ _ _ _ _ _ _ _ _ _ _ _ _ _ (fun h => h0 ((hcond0_0 t).mp h)) (X0 V c) (iblk1 V c 1 t) (iblk1 V c 2 t) (iblk1 V c 3 t) (iblk1 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The body obligation, at every point. -/
theorem body_obligation (c : Dev nD) : BodyObligation (dat1 (F := F) V c) (defs₀ (F := F)) Variants.none () Set.univ := fun t => by
  rw [bigSep_W1, bigSep_W1, defs₀_row]
  exact triple_restated (sound_body V c t) rfl .rfl fun _ => .rfl

/-- What the launch hands the region is the invariant before the first point. -/
theorem hin (c : Dev nD) : Pipeline.scopedRest spec1 c ⊢ (dat1 V c).Φ 0 := by
  rw [show (dat1 V c).Φ 0 = Pipeline.scopedRest spec1 c from rfl]

/-- After the last point the invariant gives it back. -/
theorem hout (c : Dev nD) : (dat1 V c).Φ (Fin.last cfg1.N) ⊢ Pipeline.scopedRest spec1 c := by
  rw [show (dat1 V c).Φ (Fin.last cfg1.N) = PhiS V c cfg1.N from rfl,
    PhiS_pos V c _ (by rw [show cfg1.N = 8 from N_1]; decide)]
  iintro ⟨HS0, HS1, Hg⟩
  iapply (scoped_close (F := F) c)
  isplitl [HS0]; · iexact HS0
  isplitl [HS1]; · iexists _; iexact HS1
  iexact Hg

end Cert.KernelIdeal.Gemm

end
-- ==== Proof.Segs.lean ====
/- The whole program's run: the contents both regions leave, the two regions as segments, and the launch, with every
   result read at the end. -/
module

public import proofs.«01_k».proof.Proof.TrRegion
public import proofs.«01_k».proof.Proof.GeRegion
public import proofs.«01_k».proof.Proof.Gen.KernelIdeal.Regions
public import Idealize.ShloMosaic.Lib.Pipeline.RegionsLoop

@[expose] public section

set_option maxRecDepth 16384

noncomputable section

namespace Cert.KernelIdeal.Whole

open Cert.KernelIdeal Cert.KernelIdeal.Gen Cert.KernelIdeal.Tr Cert.KernelIdeal.Gemm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F]

local notation "𝕄" => MT nD τ sig Unit (Elt F) ℕ (UR sig nD τ) ℕ

variable (m : (ℓ : Loc nD τ sig) → Buf (Elt F) ℓ)

/-- The contents the first region is entered with, -/
def VV1 (c : Dev nD) (b : Ref sig .tc) : Buf (Elt F) ((c : Thread nD τ).loc b) := V1 m c b

/-- those it leaves, -/
def W2 (c : Dev nD) : Valuation τ sig (Elt F) :=
  Function.update (Function.update (Function.update (V1 m c) main_v3_0 ((dat0 (VV1 m) c).arrAt 5 cfg0.N)) main_v3_1 ((dat0 (VV1 m) c).arrAt 6 cfg0.N))
    main_v3_2 ((dat0 (VV1 m) c).arrAt 7 cfg0.N)

def VV2 (c : Dev nD) (b : Ref sig .tc) : Buf (Elt F) ((c : Thread nD τ).loc b) := W2 m c b

/-- those the second is entered with, -/
def W3 (c : Dev nD) : Valuation τ sig (Elt F) := StableHlo.after hostOps1 (W2 m c)

def VV3 (c : Dev nD) (b : Ref sig .tc) : Buf (Elt F) ((c : Thread nD τ).loc b) := W3 m c b

/-- and those it leaves. -/
def W4 (c : Dev nD) : Valuation τ sig (Elt F) := Function.update (W3 m c) main_v5 ((dat1 (VV3 m) c).arrAt 5 cfg1.N)

def VV4 (c : Dev nD) (b : Ref sig .tc) : Buf (Elt F) ((c : Thread nD τ).loc b) := W4 m c b

/-- What the regions leave, as the generated valuations take it. -/
def outs : Outs (F := F) := fun J r c => if J = 2 then VV2 m c r else VV4 m c r

theorem VV2_0 (c : Dev nD) : VV2 m c main_v3_0 = (dat0 (VV1 m) c).arrAt 5 cfg0.N := by
  unfold VV2 W2
  rw [Function.update_of_ne (StableHlo.devRef_ne_of_ne (by decide)), Function.update_of_ne (StableHlo.devRef_ne_of_ne (by decide)), Function.update_self]
theorem VV2_1 (c : Dev nD) : VV2 m c main_v3_1 = (dat0 (VV1 m) c).arrAt 6 cfg0.N := by
  unfold VV2 W2
  rw [Function.update_of_ne (StableHlo.devRef_ne_of_ne (by decide)), Function.update_self]
theorem VV2_2 (c : Dev nD) : VV2 m c main_v3_2 = (dat0 (VV1 m) c).arrAt 7 cfg0.N := by
  unfold VV2 W2
  rw [Function.update_self]
theorem VV4_5 (c : Dev nD) : VV4 m c main_v5 = (dat1 (VV3 m) c).arrAt 5 cfg1.N := by
  unfold VV4 W4
  rw [Function.update_self]

theorem VV2_ne (c : Dev nD) (r : Ref sig .tc) (h0 : r ≠ main_v3_0) (h1 : r ≠ main_v3_1) (h2 : r ≠ main_v3_2) : VV2 m c r = VV1 m c r := by
  unfold VV2 W2 VV1
  rw [Function.update_of_ne (StableHlo.devRef_ne_of_ne h2), Function.update_of_ne (StableHlo.devRef_ne_of_ne h1), Function.update_of_ne (StableHlo.devRef_ne_of_ne h0)]
theorem VV4_ne (c : Dev nD) (r : Ref sig .tc) (h : r ≠ main_v5) : VV4 m c r = VV3 m c r := by
  unfold VV4 W4 VV3
  rw [Function.update_of_ne (StableHlo.devRef_ne_of_ne h)]

theorem V2_eq (c : Dev nD) : V2 m (outs m) c = W2 m c := by
  unfold V2
  rw [show outs m 2 main_v3_0 c = (dat0 (VV1 m) c).arrAt 5 cfg0.N from VV2_0 m c, show outs m 2 main_v3_1 c = (dat0 (VV1 m) c).arrAt 6 cfg0.N from VV2_1 m c,
    show outs m 2 main_v3_2 c = (dat0 (VV1 m) c).arrAt 7 cfg0.N from VV2_2 m c]
  rfl
theorem V3_eq (c : Dev nD) : V3 m (outs m) c = W3 m c := by unfold V3; rw [V2_eq]; rfl
theorem V4_eq (c : Dev nD) : V4 m (outs m) c = W4 m c := by
  unfold V4
  rw [V3_eq, show outs m 4 main_v5 c = (dat1 (VV3 m) c).arrAt 5 cfg1.N from VV4_5 m c]
  rfl
theorem V5_eq (c : Dev nD) : V5 m (outs m) c = StableHlo.after hostOps2 (W4 m c) := by unfold V5; rw [V4_eq]

/-- The two regions' proof data. -/
def pdats : (p : Fin 2) → (c : Dev nD) → Dat τ (Elt F) Unit ℕ (UR sig nD τ) ℕ (cfgs p) c
  | ⟨0, _⟩ => fun c => dat0 (VV1 m) c
  | ⟨1, _⟩ => fun c => dat1 (VV3 m) c

abbrev L : GSem nD τ sig → Finset Unit := fun _ => ∅
abbrev lv : GSem nD τ sig → Unit → ℕ := fun _ _ => 0

/-- What rides beside the buffers: the core's dues, none. -/
abbrev E (_ : Fin 3) (c : Dev nD) : sProp 𝕄 := iprop(∃ W, owes (c : Thread nD τ) (0 : CellTallies nD τ sig Unit) W)

set_option backward.isDefEq.respectTransparency.types false in
/-- The first region, from its entry contents to those it leaves. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (obligation0 (VV1 m) c).loose
  hwaits := Pipeline.hwaits_of_owed_zero _ _ _ _ L lv 0 fun _ _ => rfl
  pre c := iprop(unscopedBufs c (VV1 m c) ∗ ∃ W, owes (c : Thread nD τ) (0 : CellTallies nD τ sig Unit) W)
  post c := iprop(unscopedBufs c (VV2 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest spec0 c from rfl]
    iintro ⟨-, -, Hr⟩; iexact Hr
  hout c := by
    rw [Pipeline.ownSems0_none, show (pdats m 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (VV1 m c) (VV2 m c) ((pdats m 0 c).arrAt · cfg0.N)
      (fun w => by
        fin_cases w
        · exact ((pdats m 0 c).arrAt_in 0 rfl _).trans (VV2_ne m c main_v0 (by decide) (by decide) (by decide)).symm
        · exact ((pdats m 0 c).arrAt_in 1 rfl _).trans (VV2_ne m c main_v1 (by decide) (by decide) (by decide)).symm
        · exact ((pdats m 0 c).arrAt_in 2 rfl _).trans (VV2_ne m c main_arg2 (by decide) (by decide) (by decide)).symm
        · exact ((pdats m 0 c).arrAt_in 3 rfl _).trans (VV2_ne m c main_arg3 (by decide) (by decide) (by decide)).symm
        · exact ((pdats m 0 c).arrAt_in 4 rfl _).trans (VV2_ne m c main_v2 (by decide) (by decide) (by decide)).symm
        · exact (VV2_0 m c).symm
        · exact (VV2_1 m c).symm
        · exact (VV2_2 m c).symm)
      (fun b hb => VV2_ne m c b (fun h => hb (h ▸ Finset.mem_image.mpr ⟨5, Finset.mem_univ _, rfl⟩))
        (fun h => hb (h ▸ Finset.mem_image.mpr ⟨6, Finset.mem_univ _, rfl⟩)) (fun h => hb (h ▸ Finset.mem_image.mpr ⟨7, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem pdats_1 (c : Dev nD) : pdats m 1 c = dat1 (VV3 m) c := rfl
theorem pd1 (c : Dev nD) (w : Fin cfg1.W) : (pdats m 1 c).arrAt w cfg1.N = (dat1 (VV3 m) c).arrAt w cfg1.N :=
  congrArg (fun d : Dat τ (Elt F) Unit ℕ (UR sig nD τ) ℕ cfg1 c => d.arrAt w cfg1.N) (pdats_1 m c)

/-- An input of the second region is left as it was. -/
theorem in1 (c : Dev nD) (w : Fin cfg1.W) (h : (cfg1.win w).isOut = false) :
    (pdats m 1 c).arrAt w cfg1.N = VV3 m c (Pipeline.arrRef spec1 w) :=
  (pd1 m c w).trans <| ((dat1 (VV3 m) c).arrAt_in w h _).trans (A_eq (VV3 m) c w)

set_option backward.isDefEq.respectTransparency.types false in
/-- The second region, likewise. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation (VV3 m) c).loose
  hwaits := Pipeline.hwaits_of_owed_zero _ _ _ _ L lv 1 fun _ _ => rfl
  pre c := iprop(unscopedBufs c (VV3 m c) ∗ ∃ W, owes (c : Thread nD τ) (0 : CellTallies nD τ sig Unit) W)
  post c := iprop(unscopedBufs c (VV4 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (VV3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV3 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    have h : Pipeline.scopedRest spec1 c ⊢ (pdats m 1 c).Φ 0 := hin (VV3 m) c
    iintro ⟨-, -, Hr⟩; iapply h; iexact Hr
  hout c := by
    rw [Pipeline.ownSems0_none]
    have h : (pdats m 1 c).Φ (Fin.last _) ⊢ Pipeline.scopedRest spec1 c := hout (VV3 m) c
    iintro Hr
    isplitr; · iempintro
    isplitr; · iempintro
    iapply h; iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (VV3 m c) (VV4 m c) ((pdats m 1 c).arrAt · cfg1.N)
      (fun w => by
        fin_cases w
        · exact (in1 m c 0 rfl).trans (VV4_ne m c main_v3_0 (by decide)).symm
        · exact (in1 m c 1 rfl).trans (VV4_ne m c main_v3_1 (by decide)).symm
        · exact (in1 m c 2 rfl).trans (VV4_ne m c main_v3_2 (by decide)).symm
        · exact (in1 m c 3 rfl).trans (VV4_ne m c main_arg5 (by decide)).symm
        · exact (in1 m c 4 rfl).trans (VV4_ne m c main_v4 (by decide)).symm
        · exact (pd1 m c 5).trans (VV4_5 m c).symm)
      (fun b hb => VV4_ne m c b (fun h => hb (h ▸ Finset.mem_image.mpr ⟨5, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem pre0 (c : Dev nD) : iprop(StableHlo.held (c : Thread nD τ) (Pipeline.ucRefs τ sig) (V1 m c) ∗ E 0 c) ⊢ (reg0 m).pre c := by
  rw [← Pipeline.unscopedBufs_held (Ix := Unit) (Name := ℕ) (U := UR sig nD τ) (Lvl := ℕ) c (V1 m c)]; exact .rfl
theorem post0 (c : Dev nD) : (reg0 m).post c ⊢ iprop(StableHlo.held (c : Thread nD τ) (Pipeline.ucRefs τ sig) (V2 m (outs m) c) ∗ E 1 c) := by
  rw [V2_eq, ← Pipeline.unscopedBufs_held (Ix := Unit) (Name := ℕ) (U := UR sig nD τ) (Lvl := ℕ) c (W2 m c)]; exact .rfl
theorem pre1 (c : Dev nD) : iprop(StableHlo.held (c : Thread nD τ) (Pipeline.ucRefs τ sig) (V3 m (outs m) c) ∗ E 1 c) ⊢ (reg1 m).pre c := by
  rw [V3_eq, ← Pipeline.unscopedBufs_held (Ix := Unit) (Name := ℕ) (U := UR sig nD τ) (Lvl := ℕ) c (W3 m c)]; exact .rfl
theorem post1 (c : Dev nD) : (reg1 m).post c ⊢ iprop(StableHlo.held (c : Thread nD τ) (Pipeline.ucRefs τ sig) (V4 m (outs m) c) ∗ E 2 c) := by
  rw [V4_eq, ← Pipeline.unscopedBufs_held (Ix := Unit) (Name := ℕ) (U := UR sig nD τ) (Lvl := ℕ) c (W4 m c)]; exact .rfl

/-- The launch's ghost state. -/
theorem hu0 : (ownU (initOf (Pipeline.cells cfgs cellOf_inj) (Pipeline.launchToks cfgs cellOf_inj)) : sProp 𝕄) ⊢ |={Set.univ}=>
    iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]; · iapply (show (ownU _ : sProp 𝕄) ⊢ BI.own (emb₁ (initOf (Pipeline.cells cfgs cellOf_inj) (Pipeline.launchToks cfgs cellOf_inj))) from .rfl); iexact Hu
  iapply (show (BI.emp : sProp 𝕄) ⊢ bigSep Finset.univ (fun _ : Dev nD => (BI.emp : sProp 𝕄)) from by rw [BI.bigSep_emp_const])
  iempintro

theorem hE0 (ρ : Dev nD → PrngReg) : iprop((bigSep Finset.univ fun c : Dev nD => iprop(unscopedSems0 c ∗ owes (c : Thread nD τ) (0 : CellTallies nD τ sig Unit) ∅ ∗ Pipeline.launchCred (fun _ => 0) c ∗ prngReg c (ρ c) ∗ BI.emp)) ∗ levAts L lv)
      ⊢ (|={Set.univ}=> bigSep Finset.univ (E 0) : sProp 𝕄) := by
  have h : (bigSep Finset.univ fun c : Dev nD => iprop(unscopedSems0 c ∗ owes (c : Thread nD τ) (0 : CellTallies nD τ sig Unit) ∅ ∗ Pipeline.launchCred (fun _ => 0) c ∗ prngReg c (ρ c) ∗ BI.emp))
      ⊢ (bigSep Finset.univ (E 0) : sProp 𝕄) := bigSep_mono fun c _ => by
    show iprop(unscopedSems0 c ∗ owes (c : Thread nD τ) (0 : CellTallies nD τ sig Unit) ∅ ∗ Pipeline.launchCred (fun _ => 0) c ∗ prngReg c (ρ c) ∗ BI.emp)
      ⊢ (iprop(∃ W, owes (c : Thread nD τ) (0 : CellTallies nD τ sig Unit) W) : sProp 𝕄)
    iintro ⟨-, HO, -, -, -⟩
    iexists ∅; iexact HO
  iintro ⟨H, -⟩
  imodintro
  iapply h; iexact H

variable (ρ : Dev nD → PrngReg)

set_option backward.isDefEq.respectTransparency.types false in
/-- The frame: every argument as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  frame_cond m emb₁ () Variants.none L lv (fun _ _ => rfl) ρ (outs m) (pdats m) (fun _ => 0) (fun _ => BI.emp) _ hu0 E (hE0 ρ) (fun _ => .rfl)
    (reg0 m) (pre0 m) (post0 m) (reg1 m) (pre1 m) (post1 m)

end Cert.KernelIdeal.Whole

end
-- ==== Proof.TrLoopB.lean ====
/- The transform's three counted loops: one trip of each run over a symbolic trip, the pieces the trips write, and each
   loop by its invariant. -/
module

public import proofs.«01_k».proof.Proof.Gen.Kernel
public import proofs.«01_k».proof.Proof.Gen.Kernel.Skeleton
public import proofs.«01_k».proof.Proof.Gen.Kernel.Loops

@[expose] public section

set_option maxRecDepth 16384

noncomputable section

namespace Cert.Kernel.Tr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable (𝒱 : Variants) (c : Dev nD) (bd : Option 𝒱.V)
  (arg0 : Memref sig .tc .vmem S256x14336 .bf16) (harg0 : arg0.IsWhole)
  (arg1 : Memref sig .tc .vmem S112x128 .f32) (harg1 : arg1.IsWhole)
  (arg2 : Memref sig .tc .vmem S112x112 .bf16) (harg2 : arg2.IsWhole)
  (arg3 : Memref sig .tc .vmem S128x128 .bf16) (harg3 : arg3.IsWhole)
  (arg4 : Memref sig .tc .smem S1 .f32) (harg4 : arg4.IsWhole)
  (arg5 : Memref sig .tc .vmem S256x14336 .i8) (harg5 : arg5.IsWhole)
  (arg6 : Memref sig .tc .vmem S256x128 .f32) (harg6 : arg6.IsWhole)
  (arg7 : Memref sig .tc .vmem S256x128 .f32) (harg7 : arg7.IsWhole)
  (arg8 : Memref sig .tc .vmem S15360x128 .i32) (harg8 : arg8.IsWhole)
  (arg9 : Memref sig .tc .vmem S29120x128 .f32) (harg9 : arg9.IsWhole)
  (arg10 : Memref sig .tc .vmem S256x256 .bf16) (harg10 : arg10.IsWhole)
  (arg11 : Memref sig .tc .vmem S224x256 .bf16) (harg11 : arg11.IsWhole)
  (arg12 : Memref sig .tc .vmem S8x128 .f32) (harg12 : arg12.IsWhole)

/-- What a trip of the first stage touches. -/
abbrev Trip1 (X0 : BufTy.Contents (Elt F) arg0.view.ty) (X1 : BufTy.Contents (Elt F) arg1.view.ty) (X10 : BufTy.Contents (Elt F) arg10.view.ty)
    (f8 : BufTy.Contents (Elt F) arg8.view.ty) : sProp 𝕄 :=
  iprop((arg0.view.loc (c : Thread nD τ) ↦[arg0.view.set]{fullShare} X0) ∗ (arg1.view.loc (c : Thread nD τ) ↦[arg1.view.set]{fullShare} X1)
    ∗ (arg10.view.loc (c : Thread nD τ) ↦[arg10.view.set]{fullShare} X10) ∗ (arg8.view.loc (c : Thread nD τ) ↦[arg8.view.set]{fullShare} f8))

set_option maxHeartbeats 4000000 in
/-- One trip of the first stage: the rows it writes. -/
@[irreducible] def trip1 (X0 : BufTy.Contents (Elt F) arg0.view.ty) (X1 : BufTy.Contents (Elt F) arg1.view.ty) (X10 : BufTy.Contents (Elt F) arg10.view.ty)
    (k : Fin k0_t1_loop.trips) :
    { L : List (View.Piece (Elt F) S15360x128 .i32) // ∀ (E : Set ℕ) (f8 : BufTy.Contents (Elt F) arg8.view.ty),
      Trip1 (F := F) c arg0 arg1 arg8 arg10 X0 X1 X10 f8
      ⊢ wp frame (wpE (defs₀ (F := F)) 𝒱 (c : Thread nD τ) bd) E (k0_t1_body (F := F) arg0 harg0 arg1 harg1 arg2 harg2 arg3 harg3 arg4 harg4 arg5 harg5 arg6 harg6 arg7 harg7 arg8 harg8 arg9 harg9 arg10 harg10 arg11 harg11 arg12 harg12 k ())
          (fun _ => Trip1 (F := F) c arg0 arg1 arg8 arg10 X0 X1 X10 (arg8.view.writes (Elt F) f8 L)) } := by
  have hk : k.val < 56 := k.isLt
  refine ⟨?_, fun E f8 => ?run⟩
  case run =>
    unfold k0_t1_body
    iintro ⟨H0, H1, H10, H8⟩
    sl_exec
    sl_step
    sl_close

/-- What a trip of the second stage touches. -/
abbrev Trip2 (X8 : BufTy.Contents (Elt F) arg8.view.ty) (X11 : BufTy.Contents (Elt F) arg11.view.ty)
    (f9 : BufTy.Contents (Elt F) arg9.view.ty) : sProp 𝕄 :=
  iprop((arg8.view.loc (c : Thread nD τ) ↦[arg8.view.set]{fullShare} X8) ∗ (arg11.view.loc (c : Thread nD τ) ↦[arg11.view.set]{fullShare} X11)
    ∗ (arg9.view.loc (c : Thread nD τ) ↦[arg9.view.set]{fullShare} f9))

set_option maxHeartbeats 4000000 in
/-- One trip of the second stage: the rows it writes. -/
@[irreducible] def trip2 (v27 : FVec F S16x128 .bf16) (X8 : BufTy.Contents (Elt F) arg8.view.ty) (X11 : BufTy.Contents (Elt F) arg11.view.ty)
    (k : Fin k0_t2_loop.trips) :
    { L : List (View.Piece (Elt F) S29120x128 .f32) // ∀ (E : Set ℕ) (f9 : BufTy.Contents (Elt F) arg9.view.ty),
      Trip2 (F := F) c arg8 arg9 arg11 X8 X11 f9
      ⊢ wp frame (wpE (defs₀ (F := F)) 𝒱 (c : Thread nD τ) bd) E (k0_t2_body (F := F) arg0 harg0 arg1 harg1 arg2 harg2 arg3 harg3 arg4 harg4 arg5 harg5 arg6 harg6 arg7 harg7 arg8 harg8 arg9 harg9 arg10 harg10 arg11 harg11 arg12 harg12 v27 k ())
          (fun _ => Trip2 (F := F) c arg8 arg9 arg11 X8 X11 (arg9.view.writes (Elt F) f9 L)) } := by
  have hk : k.val < 64 := k.isLt
  refine ⟨?_, fun E f9 => ?run⟩
  case run =>
    unfold k0_t2_body
    iintro ⟨H8, H11, H9⟩
    sl_exec
    sl_step
    sl_close

/-- What a trip of the quantiser touches. -/
abbrev Trip3 (X9 : BufTy.Contents (Elt F) arg9.view.ty)
    (f5 : BufTy.Contents (Elt F) arg5.view.ty) (f6 : BufTy.Contents (Elt F) arg6.view.ty) (f7 : BufTy.Contents (Elt F) arg7.view.ty) : sProp 𝕄 :=
  iprop((arg9.view.loc (c : Thread nD τ) ↦[arg9.view.set]{fullShare} X9) ∗ (arg5.view.loc (c : Thread nD τ) ↦[arg5.view.set]{fullShare} f5)
    ∗ (arg6.view.loc (c : Thread nD τ) ↦[arg6.view.set]{fullShare} f6) ∗ (arg7.view.loc (c : Thread nD τ) ↦[arg7.view.set]{fullShare} f7))

set_option maxHeartbeats 40000000 in
/-- One trip of the quantiser: the rows it writes of the codes, the scales and the zero points. -/
@[irreducible] def trip3 (v29 : Elt F .f32) (X9 : BufTy.Contents (Elt F) arg9.view.ty) (k : Fin k0_t3_loop.trips) :
    Σ' (L5 : List (View.Piece (Elt F) S256x14336 .i8)) (L6 : List (View.Piece (Elt F) S256x128 .f32)),
    { L7 : List (View.Piece (Elt F) S256x128 .f32) // ∀ (E : Set ℕ) (f5 : BufTy.Contents (Elt F) arg5.view.ty) (f6 : BufTy.Contents (Elt F) arg6.view.ty) (f7 : BufTy.Contents (Elt F) arg7.view.ty),
      Trip3 (F := F) c arg5 arg6 arg7 arg9 X9 f5 f6 f7
      ⊢ wp frame (wpE (defs₀ (F := F)) 𝒱 (c : Thread nD τ) bd) E (k0_t3_body (F := F) arg0 harg0 arg1 harg1 arg2 harg2 arg3 harg3 arg4 harg4 arg5 harg5 arg6 harg6 arg7 harg7 arg8 harg8 arg9 harg9 arg10 harg10 arg11 harg11 arg12 harg12 v29 k ())
          (fun _ => Trip3 (F := F) c arg5 arg6 arg7 arg9 X9 (arg5.view.writes (Elt F) f5 L5) (arg6.view.writes (Elt F) f6 L6) (arg7.view.writes (Elt F) f7 L7)) } := by
  have hk : k.val < 8 := k.isLt
  refine ⟨?_, ?_, ?_, fun E f5 f6 f7 => ?run⟩
  case run =>
    unfold k0_t3_body
    iintro ⟨H9, H5, H6, H7⟩
    sl_exec
    sl_step
    sl_close

/-- The rows of the first stage's trips before `k`, last first. -/
def pb1 (X0 : BufTy.Contents (Elt F) arg0.view.ty) (X1 : BufTy.Contents (Elt F) arg1.view.ty) (X10 : BufTy.Contents (Elt F) arg10.view.ty) : ℕ → List (View.Piece (Elt F) S15360x128 .i32)
  | 0 => []
  | k + 1 => if h : k < k0_t1_loop.trips then
      (trip1 (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 ⟨k, h⟩).1 ++ pb1 X0 X1 X10 k
    else pb1 X0 X1 X10 k

theorem pb1_succ (X0 : BufTy.Contents (Elt F) arg0.view.ty) (X1 : BufTy.Contents (Elt F) arg1.view.ty) (X10 : BufTy.Contents (Elt F) arg10.view.ty) (k : Fin k0_t1_loop.trips) :
    pb1 (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 (k.val + 1)
      = (trip1 (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 k).1 ++ pb1 (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 k.val := by
  rw [pb1.eq_2]; exact dif_pos k.isLt

set_option warn.classDefReducibility false in
/-- The first stage's loop: before trip `k` the words hold the rows of the trips before. -/
@[sl_loop] def loopInv1 (X0 : BufTy.Contents (Elt F) arg0.view.ty) (X1 : BufTy.Contents (Elt F) arg1.view.ty) (X10 : BufTy.Contents (Elt F) arg10.view.ty)
    (G8 : BufTy.Contents (Elt F) arg8.view.ty) :
    LoopInvTy_k0_t1 (F := F) Unit ℕ (UR sig nD τ) ℕ 𝒱 c bd Set.univ arg0 harg0 arg1 harg1 arg2 harg2 arg3 harg3 arg4 harg4 arg5 harg5 arg6 harg6 arg7 harg7 arg8 harg8 arg9 harg9 arg10 harg10 arg11 harg11 arg12 harg12 where
  inv k _ := iprop((arg0.view.loc (c : Thread nD τ) ↦[arg0.view.set]{fullShare} X0) ∗ (arg1.view.loc (c : Thread nD τ) ↦[arg1.view.set]{fullShare} X1)
    ∗ (arg10.view.loc (c : Thread nD τ) ↦[arg10.view.set]{fullShare} X10)
    ∗ (∃ f, (arg8.view.loc (c : Thread nD τ) ↦[arg8.view.set]{fullShare} f) ∗ ⌜f = arg8.view.writes (Elt F) G8 (pb1 (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 k)⌝))
  step k acc := by
    iintro ⟨H0, H1, H10, ⟨%f8, H8, %h8⟩⟩
    iapply (wp_wand_r Idealize.ShloMosaic.frame (wpE (defs₀ (F := F)) 𝒱 (c : Thread nD τ) bd) Set.univ)
    isplitl [H0 H1 H10 H8]
    · iapply ((trip1 (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 k).2 Set.univ f8)
      isplitl [H0]; · iexact H0
      isplitl [H1]; · iexact H1
      isplitl [H10]; · iexact H10
      iexact H8
    · iintro %_ ⟨H0, H1, H10, H8⟩
      isplitl [H0]; · iexact H0
      isplitl [H1]; · iexact H1
      isplitl [H10]; · iexact H10
      rw [pb1_succ]
      iexists _; isplitl [H8]; · iexact H8
      ipureintro; rw [h8, ← View.writes_append]

/-- The rows of the second stage's trips before `k`, last first. -/
def pb2 (v27 : FVec F S16x128 .bf16) (X8 : BufTy.Contents (Elt F) arg8.view.ty) (X11 : BufTy.Contents (Elt F) arg11.view.ty) : ℕ → List (View.Piece (Elt F) S29120x128 .f32)
  | 0 => []
  | k + 1 => if h : k < k0_t2_loop.trips then
      (trip2 (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 ⟨k, h⟩).1 ++ pb2 v27 X8 X11 k
    else pb2 v27 X8 X11 k

theorem pb2_succ (v27 : FVec F S16x128 .bf16) (X8 : BufTy.Contents (Elt F) arg8.view.ty) (X11 : BufTy.Contents (Elt F) arg11.view.ty) (k : Fin k0_t2_loop.trips) :
    pb2 (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 (k.val + 1)
      = (trip2 (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 k).1 ++ pb2 (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 k.val := by
  rw [pb2.eq_2]; exact dif_pos k.isLt

set_option warn.classDefReducibility false in
/-- The second stage's loop: before trip `k` the rotated tokens hold the rows of the trips before. -/
@[sl_loop] def loopInv2 (v27 : FVec F S16x128 .bf16) (X8 : BufTy.Contents (Elt F) arg8.view.ty) (X11 : BufTy.Contents (Elt F) arg11.view.ty)
    (G9 : BufTy.Contents (Elt F) arg9.view.ty) :
    LoopInvTy_k0_t2 (F := F) Unit ℕ (UR sig nD τ) ℕ 𝒱 c bd Set.univ arg0 harg0 arg1 harg1 arg2 harg2 arg3 harg3 arg4 harg4 arg5 harg5 arg6 harg6 arg7 harg7 arg8 harg8 arg9 harg9 arg10 harg10 arg11 harg11 arg12 harg12 v27 where
  inv k _ := iprop((arg8.view.loc (c : Thread nD τ) ↦[arg8.view.set]{fullShare} X8) ∗ (arg11.view.loc (c : Thread nD τ) ↦[arg11.view.set]{fullShare} X11)
    ∗ (∃ f, (arg9.view.loc (c : Thread nD τ) ↦[arg9.view.set]{fullShare} f) ∗ ⌜f = arg9.view.writes (Elt F) G9 (pb2 (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 k)⌝))
  step k acc := by
    iintro ⟨H8, H11, ⟨%f9, H9, %h9⟩⟩
    iapply (wp_wand_r Idealize.ShloMosaic.frame (wpE (defs₀ (F := F)) 𝒱 (c : Thread nD τ) bd) Set.univ)
    isplitl [H8 H11 H9]
    · iapply ((trip2 (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 k).2 Set.univ f9)
      isplitl [H8]; · iexact H8
      isplitl [H11]; · iexact H11
      iexact H9
    · iintro %_ ⟨H8, H11, H9⟩
      isplitl [H8]; · iexact H8
      isplitl [H11]; · iexact H11
      rw [pb2_succ]
      iexists _; isplitl [H9]; · iexact H9
      ipureintro; rw [h9, ← View.writes_append]

/-- The rows of the codes the quantiser's trips before `k` write, last first. -/
def pb3c (v29 : Elt F .f32) (X9 : BufTy.Contents (Elt F) arg9.view.ty) : ℕ → List (View.Piece (Elt F) S256x14336 .i8)
  | 0 => []
  | k + 1 => if h : k < k0_t3_loop.trips then
      (trip3 (F := F) 𝒱 c bd arg0 harg0 arg1 harg1 arg2 harg2 arg3 harg3 arg4 harg4 arg5 harg5 arg6 harg6 arg7 harg7 arg8 harg8 arg9 harg9 arg10 harg10 arg11 harg11 arg12 harg12 v29 X9 ⟨k, h⟩).1 ++ pb3c v29 X9 k
    else pb3c v29 X9 k

theorem pb3c_succ (v29 : Elt F .f32) (X9 : BufTy.Contents (Elt F) arg9.view.ty) (k : Fin k0_t3_loop.trips) :
    pb3c (F := F) 𝒱 c bd arg0 harg0 arg1 harg1 arg2 harg2 arg3 harg3 arg4 harg4 arg5 harg5 arg6 harg6 arg7 harg7 arg8 harg8 arg9 harg9 arg10 harg10 arg11 harg11 arg12 harg12 v29 X9 (k.val + 1)
      = (trip3 (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k).1 ++ pb3c (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k.val := by
  rw [pb3c.eq_2]; exact dif_pos k.isLt

/-- The rows of the scales. -/
def pb3s (v29 : Elt F .f32) (X9 : BufTy.Contents (Elt F) arg9.view.ty) : ℕ → List (View.Piece (Elt F) S256x128 .f32)
  | 0 => []
  | k + 1 => if h : k < k0_t3_loop.trips then
      (trip3 (F := F) 𝒱 c bd arg0 harg0 arg1 harg1 arg2 harg2 arg3 harg3 arg4 harg4 arg5 harg5 arg6 harg6 arg7 harg7 arg8 harg8 arg9 harg9 arg10 harg10 arg11 harg11 arg12 harg12 v29 X9 ⟨k, h⟩).2.1 ++ pb3s v29 X9 k
    else pb3s v29 X9 k

theorem pb3s_succ (v29 : Elt F .f32) (X9 : BufTy.Contents (Elt F) arg9.view.ty) (k : Fin k0_t3_loop.trips) :
    pb3s (F := F) 𝒱 c bd arg0 harg0 arg1 harg1 arg2 harg2 arg3 harg3 arg4 harg4 arg5 harg5 arg6 harg6 arg7 harg7 arg8 harg8 arg9 harg9 arg10 harg10 arg11 harg11 arg12 harg12 v29 X9 (k.val + 1)
      = (trip3 (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k).2.1 ++ pb3s (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k.val := by
  rw [pb3s.eq_2]; exact dif_pos k.isLt

/-- The rows of the zero points. -/
def pb3z (v29 : Elt F .f32) (X9 : BufTy.Contents (Elt F) arg9.view.ty) : ℕ → List (View.Piece (Elt F) S256x128 .f32)
  | 0 => []
  | k + 1 => if h : k < k0_t3_loop.trips then
      (trip3 (F := F) 𝒱 c bd arg0 harg0 arg1 harg1 arg2 harg2 arg3 harg3 arg4 harg4 arg5 harg5 arg6 harg6 arg7 harg7 arg8 harg8 arg9 harg9 arg10 harg10 arg11 harg11 arg12 harg12 v29 X9 ⟨k, h⟩).2.2.1 ++ pb3z v29 X9 k
    else pb3z v29 X9 k

theorem pb3z_succ (v29 : Elt F .f32) (X9 : BufTy.Contents (Elt F) arg9.view.ty) (k : Fin k0_t3_loop.trips) :
    pb3z (F := F) 𝒱 c bd arg0 harg0 arg1 harg1 arg2 harg2 arg3 harg3 arg4 harg4 arg5 harg5 arg6 harg6 arg7 harg7 arg8 harg8 arg9 harg9 arg10 harg10 arg11 harg11 arg12 harg12 v29 X9 (k.val + 1)
      = (trip3 (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k).2.2.1 ++ pb3z (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k.val := by
  rw [pb3z.eq_2]; exact dif_pos k.isLt

set_option warn.classDefReducibility false in
/-- The quantiser's loop: before trip `k` the three results hold the rows of the trips before. -/
@[sl_loop] def loopInv3 (v29 : Elt F .f32) (X9 : BufTy.Contents (Elt F) arg9.view.ty)
    (G5 : BufTy.Contents (Elt F) arg5.view.ty) (G6 : BufTy.Contents (Elt F) arg6.view.ty) (G7 : BufTy.Contents (Elt F) arg7.view.ty) :
    LoopInvTy_k0_t3 (F := F) Unit ℕ (UR sig nD τ) ℕ 𝒱 c bd Set.univ arg0 harg0 arg1 harg1 arg2 harg2 arg3 harg3 arg4 harg4 arg5 harg5 arg6 harg6 arg7 harg7 arg8 harg8 arg9 harg9 arg10 harg10 arg11 harg11 arg12 harg12 v29 where
  inv k _ := iprop((arg9.view.loc (c : Thread nD τ) ↦[arg9.view.set]{fullShare} X9)
    ∗ (∃ f, (arg5.view.loc (c : Thread nD τ) ↦[arg5.view.set]{fullShare} f) ∗ ⌜f = arg5.view.writes (Elt F) G5 (pb3c (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k)⌝)
    ∗ (∃ f, (arg6.view.loc (c : Thread nD τ) ↦[arg6.view.set]{fullShare} f) ∗ ⌜f = arg6.view.writes (Elt F) G6 (pb3s (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k)⌝)
    ∗ (∃ f, (arg7.view.loc (c : Thread nD τ) ↦[arg7.view.set]{fullShare} f) ∗ ⌜f = arg7.view.writes (Elt F) G7 (pb3z (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k)⌝))
  step k acc := by
    iintro ⟨H9, ⟨%f5, H5, %h5⟩, ⟨%f6, H6, %h6⟩, ⟨%f7, H7, %h7⟩⟩
    iapply (wp_wand_r Idealize.ShloMosaic.frame (wpE (defs₀ (F := F)) 𝒱 (c : Thread nD τ) bd) Set.univ)
    isplitl [H9 H5 H6 H7]
    · iapply ((trip3 (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k).2.2.2 Set.univ f5 f6 f7)
      isplitl [H9]; · iexact H9
      isplitl [H5]; · iexact H5
      isplitl [H6]; · iexact H6
      iexact H7
    · iintro %_ ⟨H9, H5, H6, H7⟩
      isplitl [H9]; · iexact H9
      rw [pb3c_succ, pb3s_succ, pb3z_succ]
      isplitl [H5]
      · iexists _; isplitl [H5]; · iexact H5
        ipureintro; rw [h5, ← View.writes_append]
      isplitl [H6]
      · iexists _; isplitl [H6]; · iexact H6
        ipureintro; rw [h6, ← View.writes_append]
      iexists _; isplitl [H7]; · iexact H7
      ipureintro; rw [h7, ← View.writes_append]

end Cert.Kernel.Tr
-- ==== Proof.TrValB.lean ====
/- The values the transform computes, stage by stage, as functions of its operands: the first rotation's tiles, the second
   rotation's rows, each row block's extrema, scale, zero point and codes. -/
module

public import proofs.«01_k».proof.Proof.Gen.Kernel.Skeleton
public import Idealize.ShloMosaic.Lib.VecWindow
public import Idealize.ShloMosaic.Lib.Pointwise

@[expose] public section

set_option maxRecDepth 16384

noncomputable section

namespace Cert.Kernel.Tr

open Cert.Kernel Cert.Kernel.Gen
open Idealize.ShloMosaic Idealize.ShloMosaic.Pointwise

variable {F : FTy → Type} [BitOps F]

/-- The block-diagonal second factor. -/
def bdv (x3 : Vec F S128x128 .bf16) : Vec F S256x256 .bf16 :=
  VecWindow.put (VecWindow.put (k0_pay163 (F := F)) ![0, 0] S128x128.size (k0_pay164 x3)) ![128, 128] S128x128.size (k0_pay165 x3)

/-- The stacked first factor. -/
def ptv (x2 : Vec F S112x112 .bf16) : Vec F S224x256 .bf16 :=
  VecWindow.put (VecWindow.put (k0_pay166 (F := F)) ![0, 0] S112x112.size (k0_pay168 x2)) ![112, 128] S112x112.size (k0_pay169 x2)

/-- The first rotation of column pair `k`, for every token. -/
def T1 (x0 : Vec F S256x14336 .bf16) (x1 : Vec F S112x128 .f32) (bdm : Vec F S256x256 .bf16) (k : Fin k0_t1_loop.trips) : Vec F S256x128 .i32 :=
  k0_pay170 (VecWindow.window x1 (k0_off1 k) S1x128.size (k0_off1_inb k)) (VecWindow.window x1 (k0_off2 k) S1x128.size (k0_off2_inb k))
    (VecWindow.window x0 (k0_off3 k) S256x256.size (k0_off3_inb k)) bdm

/-- One token's rotated tile. -/
def tile (x0 : Vec F S256x14336 .bf16) (x1 : Vec F S112x128 .f32) (bdm : Vec F S256x256 .bf16) (tok : Fin 256) : Vec F S56x128 .i32 :=
  fun y => T1 x0 x1 bdm ⟨(y 0).val, (y 0).isLt⟩ (ix2 tok (y 1))

/-- The four tokens' second rotations of one product. -/
def quad (v27 : FVec F S16x128 .bf16) (a b d e : Vec F S56x128 .i32) (pt : Vec F S224x256 .bf16) : Fin 4 → Vec F S112x128 .f32
  | 0 => k0_pay6 v27 a b d e pt
  | 1 => k0_pay7 v27 a b d e pt
  | 2 => k0_pay1 (k0_pay8 v27 a b d e pt)
  | 3 => k0_pay2 (k0_pay5 v27 a b d e pt)

/-- Token `4 k + r`. -/
def tk (k : Fin 64) (r : Fin 4) : Fin 256 := ⟨4 * k.val + r.val, by omega⟩

/-- One token's second rotation. -/
def zed (v27 : FVec F S16x128 .bf16) (tl : Fin 256 → Vec F S56x128 .i32) (pt : Vec F S224x256 .bf16) (tok : Fin 256) : Vec F S112x128 .f32 :=
  quad v27 (tl (tk ⟨tok.val / 4, by omega⟩ 0)) (tl (tk ⟨tok.val / 4, by omega⟩ 1)) (tl (tk ⟨tok.val / 4, by omega⟩ 2)) (tl (tk ⟨tok.val / 4, by omega⟩ 3)) pt
    ⟨tok.val % 4, by omega⟩

/-- Row block `a` of thirty-two tokens. -/
def chunk (Z : Fin 256 → Vec F S112x128 .f32) (k : Fin 8) (a : Fin 112) : Vec F S32x128 .f32 :=
  fun y => Z ⟨32 * k.val + (y 0).val, by have := (y 0).isLt; have : (y 0).val < 32 := this; omega⟩ (ix2 a (y 1))

/-- The extrema over the first `n + 1` row blocks. -/
def mxmn (Z : Fin 256 → Vec F S112x128 .f32) (k : Fin 8) : ℕ → Vec F S32x128 .f32 × Vec F S32x128 .f32
  | 0 => (chunk Z k 0, chunk Z k 0)
  | n + 1 => if h : n + 1 < 112 then (k0_pay9 (mxmn Z k n).1 (chunk Z k ⟨n + 1, h⟩), k0_pay10 (mxmn Z k n).2 (chunk Z k ⟨n + 1, h⟩)) else mxmn Z k n

/-- The scales of a row block. -/
def sck (g : Elt F .f32) (Z : Fin 256 → Vec F S112x128 .f32) (k : Fin 8) : Vec F S32x128 .f32 :=
  k0_pay12 (k0_pay3 g) (mxmn Z k 111).1 (mxmn Z k 111).2

/-- The zero points of a row block. -/
def zpk (g : Elt F .f32) (Z : Fin 256 → Vec F S112x128 .f32) (k : Fin 8) : Vec F S32x128 .f32 :=
  k0_pay13 (k0_pay3 g) (mxmn Z k 111).1 (mxmn Z k 111).2

/-- The codes of one tile of a row block. -/
def cdk (g : Elt F .f32) (Z : Fin 256 → Vec F S112x128 .f32) (k : Fin 8) (a : Fin 112) : Vec F S32x128 .i8 :=
  k0_pay16 (sck g Z k) (zpk g Z k) (chunk Z k a)

/-- Every token's scale, zero point and codes. -/
def scales (g : Elt F .f32) (Z : Fin 256 → Vec F S112x128 .f32) : Vec F S256x128 .f32 := fun y =>
  have h : (y 0).val < 256 := (y 0).isLt
  sck g Z ⟨(y 0).val / 32, by omega⟩ (ix2 ⟨(y 0).val % 32, by omega⟩ (y 1))
def zeros (g : Elt F .f32) (Z : Fin 256 → Vec F S112x128 .f32) : Vec F S256x128 .f32 := fun y =>
  have h : (y 0).val < 256 := (y 0).isLt
  zpk g Z ⟨(y 0).val / 32, by omega⟩ (ix2 ⟨(y 0).val % 32, by omega⟩ (y 1))
def codes (g : Elt F .f32) (Z : Fin 256 → Vec F S112x128 .f32) : Vec F S256x14336 .i8 := fun y =>
  have h : (y 0).val < 256 := (y 0).isLt
  have h' : (y 1).val < 14336 := (y 1).isLt
  cdk g Z ⟨(y 0).val / 32, by omega⟩ ⟨(y 1).val / 128, by omega⟩ (ix2 ⟨(y 0).val % 32, by omega⟩ ⟨(y 1).val % 128, by omega⟩)

/-- The rotated tokens of the whole transform. -/
def Zof (x0 : Vec F S256x14336 .bf16) (x1 : Vec F S112x128 .f32) (x2 : Vec F S112x112 .bf16) (x3 : Vec F S128x128 .bf16) : Fin 256 → Vec F S112x128 .f32 :=
  zed (k0_pay171 (F := F)) (tile x0 x1 (bdv x3)) (ptv x2)

end Cert.Kernel.Tr

end
-- ==== Proof.TrReadB.lean ====
/- The transform's loops read back: the rows each loop wrote hold the stage's value at every place. -/
module

public import proofs.«01_k».proof.Proof.TrLoopB
public import proofs.«01_k».proof.Proof.TrValB
public import Idealize.ShloMosaic.Lib.VecWindow

@[expose] public section

set_option maxRecDepth 16384

noncomputable section

namespace Cert.Kernel.Tr

open Cert.Kernel Cert.Kernel.Gen
open Idealize.ShloMosaic Idealize.ShloMosaic.TcCoe Idealize.ShloMosaic.Tactic Idealize.ShloMosaic.Pointwise
open Idealize.SL Idealize.SL.Sem

variable {F : FTy → Type} [BitOps F]
variable (𝒱 : Variants) (c : Dev nD) (bd : Option 𝒱.V)
  (arg0 : Memref sig .tc .vmem S256x14336 .bf16) (harg0 : arg0.IsWhole)
  (arg1 : Memref sig .tc .vmem S112x128 .f32) (harg1 : arg1.IsWhole)
  (arg2 : Memref sig .tc .vmem S112x112 .bf16) (harg2 : arg2.IsWhole)
  (arg3 : Memref sig .tc .vmem S128x128 .bf16) (harg3 : arg3.IsWhole)
  (arg4 : Memref sig .tc .smem S1 .f32) (harg4 : arg4.IsWhole)
  (arg5 : Memref sig .tc .vmem S256x14336 .i8) (harg5 : arg5.IsWhole)
  (arg6 : Memref sig .tc .vmem S256x128 .f32) (harg6 : arg6.IsWhole)
  (arg7 : Memref sig .tc .vmem S256x128 .f32) (harg7 : arg7.IsWhole)
  (arg8 : Memref sig .tc .vmem S15360x128 .i32) (harg8 : arg8.IsWhole)
  (arg9 : Memref sig .tc .vmem S29120x128 .f32) (harg9 : arg9.IsWhole)
  (arg10 : Memref sig .tc .vmem S256x256 .bf16) (harg10 : arg10.IsWhole)
  (arg11 : Memref sig .tc .vmem S224x256 .bf16) (harg11 : arg11.IsWhole)
  (arg12 : Memref sig .tc .vmem S8x128 .f32) (harg12 : arg12.IsWhole)

theorem nz (n : ℕ) : n = 0 + 1 * n := by omega

/-- Every piece of a list holds the values `G`, and the list covers the places `P`. -/
structure Good {s : Shape} {e : EltTy} (G : s.Idx → Elt F e) (P : s.Idx → Prop) (L : List (View.Piece (Elt F) s e)) : Prop where
  val : ∀ p ∈ L, ∀ x : p.1.shape.Idx, p.2 x = G (p.1.emb x)
  cov : ∀ y, P y → ∃ p ∈ L, y ∈ p.1.set

theorem Good.nil {s : Shape} {e : EltTy} (G : s.Idx → Elt F e) (P : s.Idx → Prop) (h : ∀ y, ¬ P y) : Good G P ([] : List (View.Piece (Elt F) s e)) :=
  ⟨fun _ hp => absurd hp List.not_mem_nil, fun y hy => absurd hy (h y)⟩

theorem Good.append {s : Shape} {e : EltTy} {G : s.Idx → Elt F e} {P Q R : s.Idx → Prop} {L L' : List (View.Piece (Elt F) s e)}
    (h : Good G P L) (h' : Good G Q L') (hR : ∀ y, R y → P y ∨ Q y) : Good G R (L ++ L') where
  val p hp := (List.mem_append.mp hp).elim (h.val p) (h'.val p)
  cov y hy := (hR y hy).elim
    (fun hP => let ⟨p, hp, hm⟩ := h.cov y hP; ⟨p, List.mem_append_left _ hp, hm⟩)
    (fun hQ => let ⟨p, hp, hm⟩ := h'.cov y hQ; ⟨p, List.mem_append_right _ hp, hm⟩)

theorem Good.cons {s : Shape} {e : EltTy} {G : s.Idx → Elt F e} {P Q R : s.Idx → Prop} {p : View.Piece (Elt F) s e} {L : List (View.Piece (Elt F) s e)}
    (hv : ∀ x : p.1.shape.Idx, p.2 x = G (p.1.emb x)) (hc : ∀ y, Q y → y ∈ p.1.set) (h : Good G P L) (hR : ∀ y, R y → Q y ∨ P y) : Good G R (p :: L) where
  val q hq := by
    rcases List.mem_cons.mp hq with rfl | hq
    · exact hv
    · exact h.val q hq
  cov y hy := (hR y hy).elim (fun hQ => ⟨p, List.mem_cons_self, hc y hQ⟩)
    (fun hP => let ⟨q, hq, hm⟩ := h.cov y hP; ⟨q, List.mem_cons_of_mem _ hq, hm⟩)

theorem Good.read {sig : RefSig} {κ : Kind} {sp : Space} {s : Shape} {e : EltTy} {G : s.Idx → Elt F e} {P : s.Idx → Prop} {L : List (View.Piece (Elt F) s e)}
    (h : Good G P L) (v : View sig κ sp s e) (f : v.ty.Contents (Elt F)) (y : s.Idx) (hy : P y) : v.read (Elt F) (v.writes (Elt F) f L) y = G y :=
  View.read_writes_apply_of_pieces v f G L h.val y (h.cov y hy)

/-- What the first stage leaves in its buffer, over all of it. -/
def G1 (x0 : Vec F S256x14336 .bf16) (x1 : Vec F S112x128 .f32) (bdm : Vec F S256x256 .bf16) : Vec F S15360x128 .i32 := fun y =>
  have h : (y 0).val < 15360 := (y 0).isLt
  tile x0 x1 bdm ⟨(y 0).val / 60, by omega⟩ (ix2 ⟨(y 0).val % 60 % 56, Nat.mod_lt _ (by decide)⟩ (y 1))

/-- Places of the first stage's rows `n`. -/
def P1 (Q : ℕ → Prop) (y : S15360x128.Idx) : Prop := (y 0).val % 60 < 56 ∧ Q ((y 0).val % 60)

theorem G1_at (x0 : Vec F S256x14336 .bf16) (x1 : Vec F S112x128 .f32) (bdm : Vec F S256x256 .bf16) (z : S15360x128.Idx) (k : Fin k0_t1_loop.trips) (tok : Fin 256)
    (h : (z 0).val = k.val + 60 * tok.val) : G1 x0 x1 bdm z = T1 x0 x1 bdm k (ix2 tok (z 1)) := by
  have hk : k.val < 56 := k.isLt
  have e1 : (z 0).val % 60 % 56 = k.val := by omega
  have e2 : (z 0).val / 60 = tok.val := by omega
  obtain ⟨k, hk'⟩ := k
  obtain ⟨t, ht⟩ := tok
  dsimp only at e1 e2
  subst e1 e2
  rfl

theorem trip1_good (X0 : BufTy.Contents (Elt F) arg0.view.ty) (X1 : BufTy.Contents (Elt F) arg1.view.ty) (X10 : BufTy.Contents (Elt F) arg10.view.ty) (k : Fin k0_t1_loop.trips) :
    Good (G1 (arg0.view.read (Elt F) X0) (arg1.view.read (Elt F) X1) (arg10.view.read (Elt F) X10)) (P1 (· = k.val))
      (trip1 (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 k).1 := by
  have hk : k.val < 56 := k.isLt
  unfold trip1
  dsimp only
  refine Good.cons (Q := P1 (· = k.val)) (P := fun _ => False) ?_ ?_ (Good.nil _ _ fun _ => id) fun y hy => Or.inl hy
  · intro x
    refine Eq.trans ?_ (G1_at _ _ _ _ k (x 0) ?_).symm
    · refine Eq.trans (b := T1 (arg0.view.read (Elt F) X0) (arg1.view.read (Elt F) X1) (arg10.view.read (Elt F) X10) k x) ?_ (congrArg _ ?_)
      · unfold T1
        dsimp only
        rw [← View.readAt_full arg10.view X10 inb_S256x256_S256x256_0_0]
        rfl
      · funext a
        apply Fin.ext
        fin_cases a
        · rfl
        · show (x 1).val = k0_off4 k 1 + 1 * (x 1).val; rw [congrFun (k0_off4_eq k) 1]; exact nz _
    · exact congrArg (fun o => o + 60 * (x 0).val) (congrFun (k0_off4_eq k) 0)
  · intro y hy
    refine (LoadRect.mem_set _).mpr fun a => ?_
    have h1 : (y 0).val % 60 = k.val := hy.2
    have h2 : (y 0).val < 15360 := (y 0).isLt
    fin_cases a
    · refine ⟨(y 0).val / 60, (by omega : (y 0).val / 60 < 256), ?_⟩
      refine Eq.trans ?_ (congrArg (fun o => o + 60 * ((y 0).val / 60)) (congrFun (k0_off4_eq k) 0)).symm
      show (y 0).val = k.val + 60 * ((y 0).val / 60)
      omega
    · have := (y 1).isLt; exact ⟨(y 1).val, this, by show (y 1).val = k0_off4 k 1 + 1 * (y 1).val; rw [congrFun (k0_off4_eq k) 1]; exact nz _⟩

/-- The rows of all trips before `n`. -/
theorem pb1_good (X0 : BufTy.Contents (Elt F) arg0.view.ty) (X1 : BufTy.Contents (Elt F) arg1.view.ty) (X10 : BufTy.Contents (Elt F) arg10.view.ty) :
    ∀ n : ℕ, n ≤ 56 → Good (G1 (arg0.view.read (Elt F) X0) (arg1.view.read (Elt F) X1) (arg10.view.read (Elt F) X10)) (P1 (· < n))
      (pb1 (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 n)
  | 0, _ => Good.nil _ _ fun _ h => absurd h.2 (Nat.not_lt_zero _)
  | n + 1, h => by
    have hk : n < k0_t1_loop.trips := h
    rw [pb1_succ (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 ⟨n, hk⟩]
    refine Good.append (trip1_good (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 ⟨n, hk⟩) (pb1_good X0 X1 X10 n (Nat.le_of_succ_le h)) fun y hy => ?_
    rcases Nat.lt_succ_iff_lt_or_eq.mp hy.2 with h' | h'
    · exact Or.inr ⟨hy.1, h'⟩
    · exact Or.inl ⟨hy.1, h'⟩

/-- The first stage's buffer after its loop: every token's tile. -/
theorem read1 (X0 : BufTy.Contents (Elt F) arg0.view.ty) (X1 : BufTy.Contents (Elt F) arg1.view.ty) (X10 : BufTy.Contents (Elt F) arg10.view.ty)
    (G8 : BufTy.Contents (Elt F) arg8.view.ty) (tok : Fin 256) (y : S56x128.Idx) :
    arg8.view.read (Elt F) (arg8.view.writes (Elt F) G8 (pb1 (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 56)) (ix2 ⟨(y 0).val + 60 * tok.val, by have : (y 0).val < 56 := (y 0).isLt; have := tok.isLt; omega⟩ (y 1))
      = tile (arg0.view.read (Elt F) X0) (arg1.view.read (Elt F) X1) (arg10.view.read (Elt F) X10) tok y := by
  have h : (y 0).val < 56 := (y 0).isLt
  have e : ((y 0).val + 60 * tok.val) % 60 = (y 0).val := by omega
  rw [(pb1_good (F := F) 𝒱 c bd arg0 harg0 arg1 harg1 arg2 harg2 arg3 harg3 arg4 harg4 arg5 harg5 arg6 harg6 arg7 harg7 arg8 harg8 arg9 harg9 arg10 harg10 arg11 harg11 arg12 harg12 X0 X1 X10 56 le_rfl).read arg8.view G8 _ ⟨e.trans_lt h, e.trans_lt h⟩]
  exact G1_at _ _ _ _ ⟨(y 0).val, h⟩ tok rfl

/-- A load of one token's tile. -/
theorem load2 (X8 : BufTy.Contents (Elt F) arg8.view.ty) (tl : Fin 256 → Vec F S56x128 .i32)
    (h8 : ∀ (tok : Fin 256) (y : S56x128.Idx), arg8.view.read (Elt F) X8 (ix2 ⟨(y 0).val + 60 * tok.val, by have : (y 0).val < 56 := (y 0).isLt; have := tok.isLt; omega⟩ (y 1)) = tl tok y)
    (k : Fin 64) (r : Fin 4) {o : Fin (S15360x128).rank → ℕ} (inb : ∀ a, o a + S56x128.size a ≤ (S15360x128).size a) (ho : o = ![240 * k.val + 60 * r.val, 0]) :
    arg8.view.readAt (Elt F) (Rect.unit (s := S15360x128) o S56x128.size inb).toLoadRect X8 = tl (tk k r) := by
  subst ho
  funext y
  rw [← h8]
  refine congrArg (arg8.view.read (Elt F) X8) (funext fun a => Fin.ext ?_)
  fin_cases a
  · show 240 * k.val + 60 * r.val + 1 * (y 0).val = (y 0).val + 60 * (4 * k.val + r.val)
    omega
  all_goals exact (nz _).symm

/-- What the second stage leaves in its buffer, over all of it. -/
def G2 (v27 : FVec F S16x128 .bf16) (tl : Fin 256 → Vec F S56x128 .i32) (pt : Vec F S224x256 .bf16) : Vec F S29120x128 .f32 := fun y =>
  have h : (y 0).val < 29120 := (y 0).isLt
  zed v27 tl pt ⟨(y 0).val % 260 % 256, by omega⟩ (ix2 ⟨(y 0).val / 260, by omega⟩ (y 1))

/-- Places of the second stage's rows `n`. -/
def P2 (Q : ℕ → Prop) (y : S29120x128.Idx) : Prop := (y 0).val % 260 < 256 ∧ Q ((y 0).val % 260)

theorem G2_at (v27 : FVec F S16x128 .bf16) (tl : Fin 256 → Vec F S56x128 .i32) (pt : Vec F S224x256 .bf16) (z : S29120x128.Idx) (tok : Fin 256) (a : Fin 112)
    (h : (z 0).val = tok.val + 260 * a.val) : G2 v27 tl pt z = zed v27 tl pt tok (ix2 a (z 1)) := by
  have e1 : (z 0).val % 260 % 256 = tok.val := by omega
  have e2 : (z 0).val / 260 = a.val := by omega
  obtain ⟨a, ha⟩ := a
  obtain ⟨t, ht⟩ := tok
  dsimp only at e1 e2
  subst e1 e2
  rfl

theorem zed_tk (v27 : FVec F S16x128 .bf16) (tl : Fin 256 → Vec F S56x128 .i32) (pt : Vec F S224x256 .bf16) (k : Fin 64) (r : Fin 4) :
    zed v27 tl pt (tk k r) = quad v27 (tl (tk k 0)) (tl (tk k 1)) (tl (tk k 2)) (tl (tk k 3)) pt r := by
  have e1 : (4 * k.val + r.val) / 4 = k.val := by omega
  have e2 : (4 * k.val + r.val) % 4 = r.val := by omega
  have f1 : (⟨(4 * k.val + r.val) / 4, by omega⟩ : Fin 64) = k := Fin.ext e1
  have f2 : (⟨(4 * k.val + r.val) % 4, by omega⟩ : Fin 4) = r := Fin.ext e2
  show quad v27 (tl (tk ⟨(4 * k.val + r.val) / 4, _⟩ 0)) (tl (tk ⟨(4 * k.val + r.val) / 4, _⟩ 1)) (tl (tk ⟨(4 * k.val + r.val) / 4, _⟩ 2))
    (tl (tk ⟨(4 * k.val + r.val) / 4, _⟩ 3)) pt ⟨(4 * k.val + r.val) % 4, _⟩ = _
  rw [f1, f2]

/-- One piece of the second stage: a token's rows. -/
theorem piece2 (v27 : FVec F S16x128 .bf16) (tl : Fin 256 → Vec F S56x128 .i32) (pt : Vec F S224x256 .bf16) (k : Fin 64) (r : Fin 4)
    {P R : S29120x128.Idx → Prop} {L : List (View.Piece (Elt F) S29120x128 .f32)} (hL : Good (G2 v27 tl pt) P L)
    (hR : ∀ y, R y → P2 (· = 4 * k.val + r.val) y ∨ P y)
    {o : Fin 2 → ℕ} (ho : o = ![4 * k.val + r.val, 0]) (inb : ∀ a, S112x128.size a = 0 ∨ o a + (![260, 1] : Fin 2 → Nat) a * (S112x128.size a - 1) < S29120x128.size a)
    (w : Vec F S112x128 .f32) (hw : w = quad v27 (tl (tk k 0)) (tl (tk k 1)) (tl (tk k 2)) (tl (tk k 3)) pt r) :
    Good (G2 v27 tl pt) R (⟨⟨⟨o, S112x128.size, ![260, 1], inb⟩, spos_260_1⟩, w⟩ :: L) := by
  subst ho
  refine Good.cons (Q := P2 (· = 4 * k.val + r.val)) (P := P) ?_ ?_ hL hR
  · intro x
    refine Eq.trans ?_ (G2_at v27 tl pt _ (tk k r) (x 0) rfl).symm
    rw [zed_tk, ← hw]
    refine congrArg w (funext fun a => Fin.ext ?_)
    fin_cases a
    · rfl
    · exact nz _
  · intro y hy
    have h1 : (y 0).val % 260 = 4 * k.val + r.val := hy.2
    have h2 : (y 0).val < 29120 := (y 0).isLt
    refine (LoadRect.mem_set _).mpr fun a => ?_
    fin_cases a
    · refine ⟨(y 0).val / 260, (by omega : (y 0).val / 260 < 112), ?_⟩
      show (y 0).val = 4 * k.val + r.val + 260 * ((y 0).val / 260)
      omega
    · exact ⟨(y 1).val, (y 1).isLt, nz _⟩

theorem trip2_good (v27 : FVec F S16x128 .bf16) (X8 : BufTy.Contents (Elt F) arg8.view.ty) (X11 : BufTy.Contents (Elt F) arg11.view.ty) (tl : Fin 256 → Vec F S56x128 .i32)
    (h8 : ∀ (tok : Fin 256) (y : S56x128.Idx), arg8.view.read (Elt F) X8 (ix2 ⟨(y 0).val + 60 * tok.val, by have : (y 0).val < 56 := (y 0).isLt; have := tok.isLt; omega⟩ (y 1)) = tl tok y) (k : Fin k0_t2_loop.trips) :
    Good (G2 v27 tl (arg11.view.read (Elt F) X11)) (P2 (· / 4 = k.val)) (trip2 (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 k).1 := by
  have hk : k.val < 64 := k.isLt
  have l0 := load2 arg8 X8 tl h8 k 0 (k0_off5_inb k 0) (k0_off5_eq k 0)
  have l1 := load2 arg8 X8 tl h8 k 1 (k0_off5_inb k 1) (k0_off5_eq k 1)
  have l2 := load2 arg8 X8 tl h8 k 2 (k0_off5_inb k 2) (k0_off5_eq k 2)
  have l3 := load2 arg8 X8 tl h8 k 3 (k0_off5_inb k 3) (k0_off5_eq k 3)
  have lp := View.readAt_full arg11.view X11 inb_S224x256_S224x256_0_0
  unfold trip2
  dsimp only
  rw [← lp]
  refine piece2 v27 tl _ k 3 (P := P2 fun n => n = 4 * k.val ∨ n = 4 * k.val + 1 ∨ n = 4 * k.val + 2) ?_ ?_ (k0_off7_eq k 2) _ _ ?_
  · refine piece2 v27 tl _ k 2 (P := P2 fun n => n = 4 * k.val ∨ n = 4 * k.val + 1) ?_ ?_ (k0_off7_eq k 1) _ _ ?_
    · refine piece2 v27 tl _ k 1 (P := P2 fun n => n = 4 * k.val) ?_ ?_ (k0_off7_eq k 0) _ _ ?_
      · refine piece2 v27 tl _ k 0 (P := fun _ => False) (Good.nil _ _ fun _ => id) (fun y hy => Or.inl hy) (k0_off6_eq k) _ _ ?_
        rw [← l0, ← l1, ← l2, ← l3]; rfl
      · exact fun y hy => hy.2.elim (fun h => Or.inr ⟨hy.1, h⟩) fun h => Or.inl ⟨hy.1, h⟩
      · rw [← l0, ← l1, ← l2, ← l3]; rfl
    · exact fun y hy => hy.2.elim (fun h => Or.inr ⟨hy.1, Or.inl h⟩) fun h => h.elim (fun h => Or.inr ⟨hy.1, Or.inr h⟩) fun h => Or.inl ⟨hy.1, h⟩
    · rw [← l0, ← l1, ← l2, ← l3]; rfl
  · intro y hy
    have h1 := hy.1
    have h2 : (y 0).val % 260 / 4 = k.val := hy.2
    by_cases h3 : (y 0).val % 260 = 4 * k.val + 3
    · exact Or.inl ⟨h1, h3⟩
    · exact Or.inr ⟨h1, by show (y 0).val % 260 = 4 * k.val ∨ (y 0).val % 260 = 4 * k.val + 1 ∨ (y 0).val % 260 = 4 * k.val + 2; omega⟩
  · rw [← l0, ← l1, ← l2, ← l3]; rfl

theorem pb2_good (v27 : FVec F S16x128 .bf16) (X8 : BufTy.Contents (Elt F) arg8.view.ty) (X11 : BufTy.Contents (Elt F) arg11.view.ty) (tl : Fin 256 → Vec F S56x128 .i32)
    (h8 : ∀ (tok : Fin 256) (y : S56x128.Idx), arg8.view.read (Elt F) X8 (ix2 ⟨(y 0).val + 60 * tok.val, by have : (y 0).val < 56 := (y 0).isLt; have := tok.isLt; omega⟩ (y 1)) = tl tok y) :
    ∀ n : ℕ, n ≤ 64 → Good (G2 v27 tl (arg11.view.read (Elt F) X11)) (P2 (· / 4 < n)) (pb2 (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 n)
  | 0, _ => Good.nil _ _ fun _ h => absurd h.2 (Nat.not_lt_zero _)
  | n + 1, h => by
    have hk : n < k0_t2_loop.trips := h
    rw [pb2_succ (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 ⟨n, hk⟩]
    refine Good.append (trip2_good (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 tl h8 ⟨n, hk⟩) (pb2_good v27 X8 X11 tl h8 n (Nat.le_of_succ_le h)) fun y hy => ?_
    rcases Nat.lt_succ_iff_lt_or_eq.mp hy.2 with h' | h'
    · exact Or.inr ⟨hy.1, h'⟩
    · exact Or.inl ⟨hy.1, h'⟩

/-- The second stage's buffer after its loop: every token's rotated rows. -/
theorem read2 (v27 : FVec F S16x128 .bf16) (X8 : BufTy.Contents (Elt F) arg8.view.ty) (X11 : BufTy.Contents (Elt F) arg11.view.ty) (tl : Fin 256 → Vec F S56x128 .i32)
    (h8 : ∀ (tok : Fin 256) (y : S56x128.Idx), arg8.view.read (Elt F) X8 (ix2 ⟨(y 0).val + 60 * tok.val, by have : (y 0).val < 56 := (y 0).isLt; have := tok.isLt; omega⟩ (y 1)) = tl tok y)
    (G9 : BufTy.Contents (Elt F) arg9.view.ty) (z : S29120x128.Idx) (tok : Fin 256) (a : Fin 112) (hz : (z 0).val = tok.val + 260 * a.val) :
    arg9.view.read (Elt F) (arg9.view.writes (Elt F) G9 (pb2 (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 64)) z
      = zed v27 tl (arg11.view.read (Elt F) X11) tok (ix2 a (z 1)) := by
  have e : (z 0).val % 260 = tok.val := by omega
  have ht := tok.isLt
  rw [(pb2_good (F := F) 𝒱 c bd arg0 harg0 arg1 harg1 arg2 harg2 arg3 harg3 arg4 harg4 arg5 harg5 arg6 harg6 arg7 harg7 arg8 harg8 arg9 harg9 arg10 harg10 arg11 harg11 arg12 harg12 v27 X8 X11 tl h8 64 le_rfl).read arg9.view G9 _ ⟨by omega, by show (z 0).val % 260 / 4 < 64; omega⟩]
  exact G2_at _ _ _ _ _ _ hz

end Cert.Kernel.Tr

end
-- ==== Proof.TrQuantB.lean ====
/- The transform's last loop read back: the scales, the zero points and the codes of every token. -/
module

public import proofs.«01_k».proof.Proof.TrReadB

@[expose] public section

set_option maxRecDepth 16384

noncomputable section

namespace Cert.Kernel.Tr

open Cert.Kernel Cert.Kernel.Gen
open Idealize.ShloMosaic Idealize.ShloMosaic.TcCoe Idealize.ShloMosaic.Tactic Idealize.ShloMosaic.Pointwise
open Idealize.SL Idealize.SL.Sem

variable {F : FTy → Type} [BitOps F]
variable (𝒱 : Variants) (c : Dev nD) (bd : Option 𝒱.V)
  (arg0 : Memref sig .tc .vmem S256x14336 .bf16) (harg0 : arg0.IsWhole)
  (arg1 : Memref sig .tc .vmem S112x128 .f32) (harg1 : arg1.IsWhole)
  (arg2 : Memref sig .tc .vmem S112x112 .bf16) (harg2 : arg2.IsWhole)
  (arg3 : Memref sig .tc .vmem S128x128 .bf16) (harg3 : arg3.IsWhole)
  (arg4 : Memref sig .tc .smem S1 .f32) (harg4 : arg4.IsWhole)
  (arg5 : Memref sig .tc .vmem S256x14336 .i8) (harg5 : arg5.IsWhole)
  (arg6 : Memref sig .tc .vmem S256x128 .f32) (harg6 : arg6.IsWhole)
  (arg7 : Memref sig .tc .vmem S256x128 .f32) (harg7 : arg7.IsWhole)
  (arg8 : Memref sig .tc .vmem S15360x128 .i32) (harg8 : arg8.IsWhole)
  (arg9 : Memref sig .tc .vmem S29120x128 .f32) (harg9 : arg9.IsWhole)
  (arg10 : Memref sig .tc .vmem S256x256 .bf16) (harg10 : arg10.IsWhole)
  (arg11 : Memref sig .tc .vmem S224x256 .bf16) (harg11 : arg11.IsWhole)
  (arg12 : Memref sig .tc .vmem S8x128 .f32) (harg12 : arg12.IsWhole)

/-- The rotated rows as the last loop finds them. -/
def Holds (X9 : BufTy.Contents (Elt F) arg9.view.ty) (Z : Fin 256 → Vec F S112x128 .f32) : Prop :=
  ∀ (z : S29120x128.Idx) (tok : Fin 256) (a : Fin 112), (z 0).val = tok.val + 260 * a.val → arg9.view.read (Elt F) X9 z = Z tok (ix2 a (z 1))

/-- A load of one tile of a row block. -/
theorem load3 (X9 : BufTy.Contents (Elt F) arg9.view.ty) (Z : Fin 256 → Vec F S112x128 .f32) (h9 : Holds arg9 X9 Z)
    (k : Fin 8) (a : Fin 112) {o : Fin S29120x128.rank → ℕ} (inb : ∀ b, o b + S32x128.size b ≤ S29120x128.size b) (ho : o = ![260 * a.val + 32 * k.val, 0]) :
    arg9.view.readAt (Elt F) (Rect.unit (s := S29120x128) o S32x128.size inb).toLoadRect X9 = chunk Z k a := by
  subst ho
  funext y
  have hy : (y 0).val < 32 := (y 0).isLt
  refine (h9 _ ⟨32 * k.val + (y 0).val, by omega⟩ a ?_).trans ?_
  · show 260 * a.val + 32 * k.val + 1 * (y 0).val = 32 * k.val + (y 0).val + 260 * a.val
    omega
  · exact congrArg (Z _) (congrArg (ix2 a) (Fin.ext (nz _).symm))

theorem mxmn_succ (Z : Fin 256 → Vec F S112x128 .f32) (k : Fin 8) (n : ℕ) (h : n + 1 < 112) :
    mxmn Z k (n + 1) = (k0_pay9 (mxmn Z k n).1 (chunk Z k ⟨n + 1, h⟩), k0_pay10 (mxmn Z k n).2 (chunk Z k ⟨n + 1, h⟩)) := by
  rw [mxmn.eq_2]; exact dif_pos h

/-- The carried extrema before trip `n`. -/
theorem st_eq (X9 : BufTy.Contents (Elt F) arg9.view.ty) (Z : Fin 256 → Vec F S112x128 .f32) (h9 : Holds arg9 X9 Z)
    (v31 : FVec F S32x128 .f32) (u w : BitVec 32) (k : Fin k0_t3_loop.trips) (init : Vec F S32x128 .f32 × Vec F S32x128 .f32) (hi : init = (chunk Z k 0, chunk Z k 0)) :
    ∀ n : ℕ, n ≤ 111 → st_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 v31 u w k X9 init n = mxmn Z k n
  | 0, _ => hi
  | n + 1, h => by
    have hk : n < k0_t4_loop.trips := h
    have h112 : n + 1 < 112 := by omega
    rw [st_k0_t4_succ (F := F) 𝒱 c bd arg0 harg0 arg1 harg1 arg2 harg2 arg3 harg3 arg4 harg4 arg5 harg5 arg6 harg6 arg7 harg7 arg8 harg8 arg9 harg9 arg10 harg10 arg11 harg11 arg12 harg12 v31 u w k X9 init ⟨n, hk⟩, st_eq X9 Z h9 v31 u w k init hi n (Nat.le_of_succ_le h)]
    have l := load3 arg9 X9 Z h9 k ⟨n + 1, h112⟩ (k0_off9_inb k ⟨n, hk⟩) ((k0_off9_eq k ⟨n, hk⟩).trans (by
      congr 1; show 260 * n + 32 * k.val + 260 = 260 * (n + 1) + 32 * k.val; omega))
    rw [mxmn_succ Z k n h112, ← l]
    unfold tripR_k0_t4 trip_k0_t4
    rfl

theorem sck_eq (g : Elt F .f32) (Z : Fin 256 → Vec F S112x128 .f32) (k : Fin 8) : sck g Z k = k0_pay12 (k0_pay3 g) (mxmn Z k 111).1 (mxmn Z k 111).2 := rfl
theorem zpk_eq (g : Elt F .f32) (Z : Fin 256 → Vec F S112x128 .f32) (k : Fin 8) : zpk g Z k = k0_pay13 (k0_pay3 g) (mxmn Z k 111).1 (mxmn Z k 111).2 := rfl
theorem cdk_eq (g : Elt F .f32) (Z : Fin 256 → Vec F S112x128 .f32) (k : Fin 8) (a : Fin 112) : cdk g Z k a = k0_pay16 (sck g Z k) (zpk g Z k) (chunk Z k a) := rfl

theorem scales_at (g : Elt F .f32) (Z : Fin 256 → Vec F S112x128 .f32) (z : S256x128.Idx) (k : Fin 8) (t : Fin 32) (h : (z 0).val = 32 * k.val + t.val) :
    scales g Z z = sck g Z k (ix2 t (z 1)) ∧ zeros g Z z = zpk g Z k (ix2 t (z 1)) := by
  have e1 : (z 0).val / 32 = k.val := by omega
  have e2 : (z 0).val % 32 = t.val := by omega
  obtain ⟨k, hk⟩ := k
  obtain ⟨t, ht⟩ := t
  dsimp only at e1 e2
  subst e1 e2
  exact ⟨rfl, rfl⟩

theorem codes_at (g : Elt F .f32) (Z : Fin 256 → Vec F S112x128 .f32) (z : S256x14336.Idx) (k : Fin 8) (t : Fin 32) (h : (z 0).val = 32 * k.val + t.val)
    (a : Fin 112) (l : Fin 128) (h' : (z 1).val = 128 * a.val + l.val) :
    codes g Z z = cdk g Z k a (ix2 t l) := by
  have e1 : (z 0).val / 32 = k.val := by omega
  have e2 : (z 0).val % 32 = t.val := by omega
  have e3 : (z 1).val / 128 = a.val := by omega
  have e4 : (z 1).val % 128 = l.val := by omega
  obtain ⟨k, hk⟩ := k
  obtain ⟨t, ht⟩ := t
  obtain ⟨a, ha⟩ := a
  obtain ⟨l, hl⟩ := l
  dsimp only at e1 e2 e3 e4
  subst e1 e2 e3 e4
  rfl

/-- One row block of a result of 128 lanes. -/
theorem piece3 (G : Vec F S256x128 .f32) (k : Fin 8) (w : Vec F S32x128 .f32)
    (hw : ∀ (z : S256x128.Idx) (t : Fin 32), (z 0).val = 32 * k.val + t.val → G z = w (ix2 t (z 1)))
    {o : Fin 2 → ℕ} (ho : o = ![32 * k.val, 0]) (inb : ∀ a, o a + S32x128.size a ≤ S256x128.size a) :
    Good G (fun y => (y 0).val / 32 = k.val) [⟨Rect.unit (s := S256x128) o S32x128.size inb, w⟩] := by
  subst ho
  refine Good.cons (Q := fun y => (y 0).val / 32 = k.val) (P := fun _ => False) ?_ ?_ (Good.nil _ _ fun _ => id) fun y hy => Or.inl hy
  · intro x
    refine Eq.trans ?_ (hw _ (x 0) ?_).symm
    · refine congrArg w (funext fun a => Fin.ext ?_)
      fin_cases a
      · rfl
      · exact nz _
    · show 32 * k.val + 1 * (x 0).val = 32 * k.val + (x 0).val
      omega
  · intro y hy
    have h1 : (y 0).val / 32 = k.val := hy
    refine (LoadRect.mem_set _).mpr fun a => ?_
    fin_cases a
    · refine ⟨(y 0).val % 32, (by omega : (y 0).val % 32 < 32), ?_⟩
      show (y 0).val = 32 * k.val + 1 * ((y 0).val % 32)
      omega
    · exact ⟨(y 1).val, (y 1).isLt, nz _⟩

/-- Places of the first `n` code tiles of row block `k`. -/
def PC (k : Fin 8) (n : ℕ) (y : S256x14336.Idx) : Prop := (y 0).val / 32 = k.val ∧ (y 1).val < 128 * n

/-- One more tile of codes. -/
theorem pieceC (g : Elt F .f32) (Z : Fin 256 → Vec F S112x128 .f32) (k : Fin 8) (n : ℕ) (hn : n < 112) {L : List (View.Piece (Elt F) S256x14336 .i8)}
    {o : Fin 2 → ℕ} (ho : o = ![32 * k.val, 128 * n]) (inb : ∀ a, o a + S32x128.size a ≤ S256x14336.size a)
    (w : Vec F S32x128 .i8) (hw : w = cdk g Z k ⟨n, hn⟩) (hL : Good (codes g Z) (PC k n) L) :
    Good (codes g Z) (PC k (n + 1)) (⟨Rect.unit (s := S256x14336) o S32x128.size inb, w⟩ :: L) := by
  subst ho
  refine Good.cons (Q := fun y => (y 0).val / 32 = k.val ∧ (y 1).val / 128 = n) (P := PC k n) ?_ ?_ hL fun y hy => ?_
  · intro x
    refine Eq.trans ?_ (codes_at g Z _ k (x 0) ?_ ⟨n, hn⟩ (x 1) ?_).symm
    · rw [← hw]
      exact congrArg w (eq_ix2 x)
    · show 32 * k.val + 1 * (x 0).val = 32 * k.val + (x 0).val
      omega
    · show 128 * n + 1 * (x 1).val = 128 * n + (x 1).val
      omega
  · intro y hy
    have h1 := hy.1
    have h2 := hy.2
    refine (LoadRect.mem_set _).mpr fun a => ?_
    fin_cases a
    · refine ⟨(y 0).val % 32, (by omega : (y 0).val % 32 < 32), ?_⟩
      show (y 0).val = 32 * k.val + 1 * ((y 0).val % 32)
      omega
    · refine ⟨(y 1).val % 128, (by omega : (y 1).val % 128 < 128), ?_⟩
      show (y 1).val = 128 * n + 1 * ((y 1).val % 128)
      omega
  · have h1 := hy.1
    have h2 : (y 1).val < 128 * (n + 1) := hy.2
    by_cases h : (y 1).val < 128 * n
    · exact Or.inr ⟨h1, h⟩
    · exact Or.inl ⟨h1, by omega⟩

/-- A trip's scales and zero points. -/
theorem trip3_sz (v29 : Elt F .f32) (X9 : BufTy.Contents (Elt F) arg9.view.ty) (Z : Fin 256 → Vec F S112x128 .f32) (h9 : Holds arg9 X9 Z) (k : Fin k0_t3_loop.trips) :
    Good (scales v29 Z) (fun y => (y 0).val / 32 = k.val) (trip3 (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k).2.1
      ∧ Good (zeros v29 Z) (fun y => (y 0).val / 32 = k.val) (trip3 (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k).2.2.1 := by
  have hk : k.val < 8 := k.isLt
  have l0 := load3 arg9 X9 Z h9 k 0 (k0_off8_inb k) ((k0_off8_eq k).trans (by simp))
  have hs := st_eq (F := F) 𝒱 c bd arg0 harg0 arg1 harg1 arg2 harg2 arg3 harg3 arg4 harg4 arg5 harg5 arg6 harg6 arg7 harg7 arg8 harg8 arg9 harg9 arg10 harg10 arg11 harg11 arg12 harg12 X9 Z h9 (k0_pay3 v29) 0#32 1#32 k _ (congrArg₂ Prod.mk l0 l0) 111 le_rfl
  have hS := (sck_eq v29 Z k).trans (congrArg₂ (k0_pay12 (k0_pay3 v29)) (congrArg Prod.fst hs.symm) (congrArg Prod.snd hs.symm))
  have hZ := (zpk_eq v29 Z k).trans (congrArg₂ (k0_pay13 (k0_pay3 v29)) (congrArg Prod.fst hs.symm) (congrArg Prod.snd hs.symm))
  unfold trip3
  dsimp only
  constructor
  · refine piece3 _ k _ (fun z t hz => ?_) (k0_off10_eq k) _
    exact (scales_at v29 Z z k t hz).1.trans (congrFun hS _)
  · refine piece3 _ k _ (fun z t hz => ?_) (k0_off10_eq k) _
    exact (scales_at v29 Z z k t hz).2.trans (congrFun hZ _)

set_option maxHeartbeats 40000000 in
/-- A trip's codes. -/
theorem trip3_c (v29 : Elt F .f32) (X9 : BufTy.Contents (Elt F) arg9.view.ty) (Z : Fin 256 → Vec F S112x128 .f32) (h9 : Holds arg9 X9 Z) (k : Fin k0_t3_loop.trips) :
    Good (codes v29 Z) (PC k 112) (trip3 (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k).1 := by
  have hk : k.val < 8 := k.isLt
  have l0 := load3 arg9 X9 Z h9 k 0 (k0_off8_inb k) ((k0_off8_eq k).trans (by simp))
  have hs := st_eq (F := F) 𝒱 c bd arg0 harg0 arg1 harg1 arg2 harg2 arg3 harg3 arg4 harg4 arg5 harg5 arg6 harg6 arg7 harg7 arg8 harg8 arg9 harg9 arg10 harg10 arg11 harg11 arg12 harg12 X9 Z h9 (k0_pay3 v29) 0#32 1#32 k _ (congrArg₂ Prod.mk l0 l0) 111 le_rfl
  have hS := (sck_eq v29 Z k).trans (congrArg₂ (k0_pay12 (k0_pay3 v29)) (congrArg Prod.fst hs.symm) (congrArg Prod.snd hs.symm))
  have hZ := (zpk_eq v29 Z k).trans (congrArg₂ (k0_pay13 (k0_pay3 v29)) (congrArg Prod.fst hs.symm) (congrArg Prod.snd hs.symm))
  have hC : ∀ (n : ℕ) (hn : n < 112), cdk v29 Z k ⟨n, hn⟩ = k0_pay16 (trip3.sl.r (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k) (trip3.sl.r_1 (F := F) 𝒱 c bd arg0 harg0 arg1 harg1 arg2 harg2 arg3 harg3 arg4 harg4 arg5 harg5 arg6 harg6 arg7 harg7 arg8 harg8 arg9 harg9 arg10 harg10 arg11 harg11 arg12 harg12 v29 X9 k)
      (arg9.view.readAt (Elt F) (Rect.unit (s := S29120x128) (k0_off11 k (BitVec.ofNat 32 (260 * n))) S32x128.size (k0_off11_inb k ⟨n, hn⟩)).toLoadRect X9) := fun n hn => by
    exact (cdk_eq v29 Z k ⟨n, hn⟩).trans (congr (congrArg₂ k0_pay16 hS hZ) (load3 arg9 X9 Z h9 k ⟨n, hn⟩ (k0_off11_inb k ⟨n, hn⟩) (k0_off11_eq k ⟨n, hn⟩)).symm)
  unfold trip3
  dsimp only
  iterate 10
    repeat
    refine pieceC v29 Z k _ (by decide) ClosedOff.eq _ _ ?_ ?_
    · rw [hC]; try rfl
  exact Good.nil _ _ fun y hy => absurd hy.2 (Nat.not_lt_zero _)

theorem pb3_good (v29 : Elt F .f32) (X9 : BufTy.Contents (Elt F) arg9.view.ty) (Z : Fin 256 → Vec F S112x128 .f32) (h9 : Holds arg9 X9 Z) :
    ∀ n : ℕ, n ≤ 8 → Good (codes v29 Z) (fun y => (y 0).val / 32 < n) (pb3c (F := F) 𝒱 c bd arg0 harg0 arg1 harg1 arg2 harg2 arg3 harg3 arg4 harg4 arg5 harg5 arg6 harg6 arg7 harg7 arg8 harg8 arg9 harg9 arg10 harg10 arg11 harg11 arg12 harg12 v29 X9 n)
      ∧ Good (scales v29 Z) (fun y => (y 0).val / 32 < n) (pb3s (F := F) 𝒱 c bd arg0 harg0 arg1 harg1 arg2 harg2 arg3 harg3 arg4 harg4 arg5 harg5 arg6 harg6 arg7 harg7 arg8 harg8 arg9 harg9 arg10 harg10 arg11 harg11 arg12 harg12 v29 X9 n)
      ∧ Good (zeros v29 Z) (fun y => (y 0).val / 32 < n) (pb3z (F := F) 𝒱 c bd arg0 harg0 arg1 harg1 arg2 harg2 arg3 harg3 arg4 harg4 arg5 harg5 arg6 harg6 arg7 harg7 arg8 harg8 arg9 harg9 arg10 harg10 arg11 harg11 arg12 harg12 v29 X9 n)
  | 0, _ => ⟨Good.nil _ _ fun _ h => absurd h (Nat.not_lt_zero _), Good.nil _ _ fun _ h => absurd h (Nat.not_lt_zero _), Good.nil _ _ fun _ h => absurd h (Nat.not_lt_zero _)⟩
  | n + 1, h => by
    have hk : n < k0_t3_loop.trips := h
    obtain ⟨i1, i2, i3⟩ := pb3_good v29 X9 Z h9 n (Nat.le_of_succ_le h)
    have ts := trip3_sz (F := F) 𝒱 c bd arg0 harg0 arg1 harg1 arg2 harg2 arg3 harg3 arg4 harg4 arg5 harg5 arg6 harg6 arg7 harg7 arg8 harg8 arg9 harg9 arg10 harg10 arg11 harg11 arg12 harg12 v29 X9 Z h9 ⟨n, hk⟩
    have e : ∀ m : ℕ, m < n + 1 → m = n ∨ m < n := fun m hm => by omega
    rw [pb3c_succ (F := F) 𝒱 c bd arg0 harg0 arg1 harg1 arg2 harg2 arg3 harg3 arg4 harg4 arg5 harg5 arg6 harg6 arg7 harg7 arg8 harg8 arg9 harg9 arg10 harg10 arg11 harg11 arg12 harg12 v29 X9 ⟨n, hk⟩, pb3s_succ (F := F) 𝒱 c bd arg0 harg0 arg1 harg1 arg2 harg2 arg3 harg3 arg4 harg4 arg5 harg5 arg6 harg6 arg7 harg7 arg8 harg8 arg9 harg9 arg10 harg10 arg11 harg11 arg12 harg12 v29 X9 ⟨n, hk⟩, pb3z_succ (F := F) 𝒱 c bd arg0 harg0 arg1 harg1 arg2 harg2 arg3 harg3 arg4 harg4 arg5 harg5 arg6 harg6 arg7 harg7 arg8 harg8 arg9 harg9 arg10 harg10 arg11 harg11 arg12 harg12 v29 X9 ⟨n, hk⟩]
    refine ⟨Good.append (trip3_c (F := F) 𝒱 c bd arg0 harg0 arg1 harg1 arg2 harg2 arg3 harg3 arg4 harg4 arg5 harg5 arg6 harg6 arg7 harg7 arg8 harg8 arg9 harg9 arg10 harg10 arg11 harg11 arg12 harg12 v29 X9 Z h9 ⟨n, hk⟩) i1 fun y hy => ?_, Good.append ts.1 i2 fun y hy => e _ hy, Good.append ts.2 i3 fun y hy => e _ hy⟩
    rcases e _ hy with h' | h'
    · exact Or.inl ⟨h', (y 1).isLt⟩
    · exact Or.inr h'

/-- The three results after the last loop. -/
theorem read3 (v29 : Elt F .f32) (X9 : BufTy.Contents (Elt F) arg9.view.ty) (Z : Fin 256 → Vec F S112x128 .f32) (h9 : Holds arg9 X9 Z)
    (G5 : BufTy.Contents (Elt F) arg5.view.ty) (G6 : BufTy.Contents (Elt F) arg6.view.ty) (G7 : BufTy.Contents (Elt F) arg7.view.ty) :
    arg5.view.read (Elt F) (arg5.view.writes (Elt F) G5 (pb3c (F := F) 𝒱 c bd arg0 harg0 arg1 harg1 arg2 harg2 arg3 harg3 arg4 harg4 arg5 harg5 arg6 harg6 arg7 harg7 arg8 harg8 arg9 harg9 arg10 harg10 arg11 harg11 arg12 harg12 v29 X9 8)) = codes v29 Z
      ∧ arg6.view.read (Elt F) (arg6.view.writes (Elt F) G6 (pb3s (F := F) 𝒱 c bd arg0 harg0 arg1 harg1 arg2 harg2 arg3 harg3 arg4 harg4 arg5 harg5 arg6 harg6 arg7 harg7 arg8 harg8 arg9 harg9 arg10 harg10 arg11 harg11 arg12 harg12 v29 X9 8)) = scales v29 Z
      ∧ arg7.view.read (Elt F) (arg7.view.writes (Elt F) G7 (pb3z (F := F) 𝒱 c bd arg0 harg0 arg1 harg1 arg2 harg2 arg3 harg3 arg4 harg4 arg5 harg5 arg6 harg6 arg7 harg7 arg8 harg8 arg9 harg9 arg10 harg10 arg11 harg11 arg12 harg12 v29 X9 8)) = zeros v29 Z := by
  obtain ⟨h5, h6, h7⟩ := pb3_good (F := F) 𝒱 c bd arg0 harg0 arg1 harg1 arg2 harg2 arg3 harg3 arg4 harg4 arg5 harg5 arg6 harg6 arg7 harg7 arg8 harg8 arg9 harg9 arg10 harg10 arg11 harg11 arg12 harg12 v29 X9 Z h9 8 le_rfl
  refine ⟨funext fun y => h5.read _ _ y ?_, funext fun y => h6.read _ _ y ?_, funext fun y => h7.read _ _ y ?_⟩ <;>
  · have h : (y 0).val < 256 := (y 0).isLt
    show (y 0).val / 32 < 8
    omega

end Cert.Kernel.Tr

end
-- ==== Proof.TrRunB.lean ====
/- The transform's body run: over its operands it leaves the codes, the scales and the zero points. -/
module

public import proofs.«01_k».proof.Proof.TrQuantB

@[expose] public section

set_option maxRecDepth 16384

noncomputable section

namespace Cert.Kernel.Tr

open Cert.Kernel Cert.Kernel.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable (c : Dev nD)
  (arg0 : Memref sig .tc .vmem S256x14336 .bf16) (harg0 : arg0.IsWhole)
  (arg1 : Memref sig .tc .vmem S112x128 .f32) (harg1 : arg1.IsWhole)
  (arg2 : Memref sig .tc .vmem S112x112 .bf16) (harg2 : arg2.IsWhole)
  (arg3 : Memref sig .tc .vmem S128x128 .bf16) (harg3 : arg3.IsWhole)
  (arg4 : Memref sig .tc .smem S1 .f32) (harg4 : arg4.IsWhole)
  (arg5 : Memref sig .tc .vmem S256x14336 .i8) (harg5 : arg5.IsWhole)
  (arg6 : Memref sig .tc .vmem S256x128 .f32) (harg6 : arg6.IsWhole)
  (arg7 : Memref sig .tc .vmem S256x128 .f32) (harg7 : arg7.IsWhole)
  (arg8 : Memref sig .tc .vmem S15360x128 .i32) (harg8 : arg8.IsWhole)
  (arg9 : Memref sig .tc .vmem S29120x128 .f32) (harg9 : arg9.IsWhole)
  (arg10 : Memref sig .tc .vmem S256x256 .bf16) (harg10 : arg10.IsWhole)
  (arg11 : Memref sig .tc .vmem S224x256 .bf16) (harg11 : arg11.IsWhole)
  (arg12 : Memref sig .tc .vmem S8x128 .f32) (harg12 : arg12.IsWhole)

/-- The block-diagonal factor as the run leaves it. -/
theorem bd_read (X3 : BufTy.Contents (Elt F) arg3.view.ty) (G : BufTy.Contents (Elt F) arg10.view.ty) :
    arg10.view.read (Elt F) (arg10.view.writes (Elt F) G
      [⟨Rect.unit ![128, 128] S128x128.size inb_S256x256_S128x128_128_128,
          k0_pay165 (View.readAt (Elt F) arg3.view (Rect.unit ![0, 0] S128x128.size inb_S128x128_S128x128_0_0).toLoadRect X3)⟩,
        ⟨Rect.unit ![0, 0] S128x128.size inb_S256x256_S128x128_0_0,
          k0_pay164 (View.readAt (Elt F) arg3.view (Rect.unit ![0, 0] S128x128.size inb_S128x128_S128x128_0_0).toLoadRect X3)⟩,
        ⟨Rect.unit ![0, 0] S256x256.size inb_S256x256_S256x256_0_0, k0_pay163⟩])
      = bdv (arg3.view.read (Elt F) X3) := by
  rw [View.read_writes_cons_put _ _ _ _ _ rfl, View.read_writes_cons_put _ _ _ _ _ rfl, View.read_writes_full, View.readAt_full]
  rfl

/-- The stacked factor as the run leaves it. -/
theorem pt_read (X2 : BufTy.Contents (Elt F) arg2.view.ty) (G : BufTy.Contents (Elt F) arg11.view.ty) :
    arg11.view.read (Elt F) (arg11.view.writes (Elt F) G
      [⟨Rect.unit ![112, 128] S112x112.size inb_S224x256_S112x112_112_128,
          k0_pay169 (View.readAt (Elt F) arg2.view (Rect.unit ![0, 0] S112x112.size inb_S112x112_S112x112_0_0).toLoadRect X2)⟩,
        ⟨Rect.unit ![0, 0] S112x112.size inb_S224x256_S112x112_0_0,
          k0_pay168 (View.readAt (Elt F) arg2.view (Rect.unit ![0, 0] S112x112.size inb_S112x112_S112x112_0_0).toLoadRect X2)⟩,
        ⟨Rect.unit ![0, 0] S224x256.size inb_S224x256_S224x256_0_0, k0_pay166⟩])
      = ptv (arg2.view.read (Elt F) X2) := by
  rw [View.read_writes_cons_put _ _ _ _ _ rfl, View.read_writes_cons_put _ _ _ _ _ rfl, View.read_writes_full, View.readAt_full]
  rfl

/-- The loaded bound is the scalar operand's one entry. -/
theorem at4 (X4 : BufTy.Contents (Elt F) arg4.view.ty) (y : S1.Idx) :
    View.readAt (Elt F) arg4.view (Rect.unit ![0] S1.size inb_S1_S1_0).toLoadRect X4 y = arg4.view.read (Elt F) X4 (ix1 0) := by
  rw [View.readAt_full]
  refine congrArg _ (funext fun a => ?_)
  match a with
  | ⟨0, h⟩ => exact Fin.ext (Nat.lt_one_iff.mp (y ⟨0, h⟩).isLt)

/-- The rotated rows as the first two loops leave them. -/
theorem holds9 (X0 : BufTy.Contents (Elt F) arg0.view.ty) (X1 : BufTy.Contents (Elt F) arg1.view.ty) (X10 : BufTy.Contents (Elt F) arg10.view.ty)
    (X11 : BufTy.Contents (Elt F) arg11.view.ty) (G8 : BufTy.Contents (Elt F) arg8.view.ty) (G9 : BufTy.Contents (Elt F) arg9.view.ty)
    (x2 : Vec F S112x112 .bf16) (x3 : Vec F S128x128 .bf16) (h10 : arg10.view.read (Elt F) X10 = bdv x3) (h11 : arg11.view.read (Elt F) X11 = ptv x2) :
    Holds arg9 (arg9.view.writes (Elt F) G9 (pb2 (F := F) Variants.none c none arg0 harg0 arg1 harg1 arg2 harg2 arg3 harg3 arg4 harg4 arg5 harg5 arg6 harg6 arg7 harg7 arg8 harg8 arg9 harg9 arg10 harg10 arg11 harg11 arg12 harg12 k0_pay171
      (arg8.view.writes (Elt F) G8 (pb1 (F := F) Variants.none c none arg0 harg0 arg1 harg1 arg2 harg2 arg3 harg3 arg4 harg4 arg5 harg5 arg6 harg6 arg7 harg7 arg8 harg8 arg9 harg9 arg10 harg10 arg11 harg11 arg12 harg12 X0 X1 X10 (Scf.trips k0_t1_loop.lb k0_t1_loop.ub k0_t1_loop.st))) X11
        (Scf.trips k0_t2_loop.lb k0_t2_loop.ub k0_t2_loop.st)))
      (Zof (arg0.view.read (Elt F) X0) (arg1.view.read (Elt F) X1) x2 x3) := by
  rw [show Scf.trips k0_t1_loop.lb k0_t1_loop.ub k0_t1_loop.st = 56 by decide +kernel,
    show Scf.trips k0_t2_loop.lb k0_t2_loop.ub k0_t2_loop.st = 64 by decide +kernel]
  unfold Zof
  rw [← h10, ← h11]
  intro z tok a hz
  exact read2 (F := F) Variants.none c none arg0 harg0 arg1 harg1 arg2 harg2 arg3 harg3 arg4 harg4 arg5 harg5 arg6 harg6 arg7 harg7 arg8 harg8 arg9 harg9 arg10 harg10 arg11 harg11 arg12 harg12 k0_pay171 _ X11 _ (fun tok y => read1 (F := F) Variants.none c none arg0 harg0 arg1 harg1 arg2 harg2 arg3 harg3 arg4 harg4 arg5 harg5 arg6 harg6 arg7 harg7 arg8 harg8 arg9 harg9 arg10 harg10 arg11 harg11 arg12 harg12 X0 X1 X10 G8 tok y) G9 z tok a hz

set_option maxHeartbeats 8000000 in
/-- The whole body. -/
theorem run (x0 : Vec F S256x14336 .bf16) (x1 : Vec F S112x128 .f32) (x2 : Vec F S112x112 .bf16) (x3 : Vec F S128x128 .bf16) (x4 : Vec F S1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (codes (x4 (ix1 0)) (Zof x0 x1 x2 x3)) ∗ owns (c : Thread nD τ) arg6 fullShare (scales (x4 (ix1 0)) (Zof x0 x1 x2 x3)) ∗ owns (c : Thread nD τ) arg7 fullShare (zeros (x4 (ix1 0)) (Zof x0 x1 x2 x3)) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) Set.univ (cc0_transform_quant arg0 harg0 arg1 harg1 arg2 harg2 arg3 harg3 arg4 harg4 arg5 harg5 arg6 harg6 arg7 harg7 arg8 harg8 arg9 harg9 arg10 harg10 arg11 harg11 arg12 harg12) K := by
  simp only [cc0_transform_quant_eq_skeleton]; unfold cc0_transform_quant_skel
  simp only [k0_part40_eq_skeleton]; unfold k0_part40_skel
  simp only [bind_assoc, pure_bind]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  sl_exec
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro
    rw [show Scf.trips k0_t3_loop.lb k0_t3_loop.ub k0_t3_loop.st = 8 by decide +kernel]
    sl_unfold_words
    refine (read3 (F := F) Variants.none c none arg0 harg0 arg1 harg1 arg2 harg2 arg3 harg3 arg4 harg4 arg5 harg5 arg6 harg6 arg7 harg7 arg8 harg8 arg9 harg9 arg10 harg10 arg11 harg11 arg12 harg12 _ _ _ (holds9 (F := F) c arg0 harg0 arg1 harg1 arg2 harg2 arg3 harg3 arg4 harg4 arg5 harg5 arg6 harg6 arg7 harg7 arg8 harg8 arg9 harg9 arg10 harg10 arg11 harg11 arg12 harg12 f0 f1 _ _ f8 f9 x2 x3 ((bd_read (F := F) arg3 arg10 f3 _).trans (congrArg _ hf3)) ((pt_read (F := F) arg2 arg11 f2 _).trans (congrArg _ hf2))) f5 f6 f7).1.trans ?_
    rw [hf0, hf1, ← hf4]
    exact congrArg (codes · _) (at4 (F := F) arg4 f4 _)
  isplitl [H6]
  · iexists _; isplitr; swap; · iexact H6
    ipureintro
    rw [show Scf.trips k0_t3_loop.lb k0_t3_loop.ub k0_t3_loop.st = 8 by decide +kernel]
    sl_unfold_words
    refine (read3 (F := F) Variants.none c none arg0 harg0 arg1 harg1 arg2 harg2 arg3 harg3 arg4 harg4 arg5 harg5 arg6 harg6 arg7 harg7 arg8 harg8 arg9 harg9 arg10 harg10 arg11 harg11 arg12 harg12 _ _ _ (holds9 (F := F) c arg0 harg0 arg1 harg1 arg2 harg2 arg3 harg3 arg4 harg4 arg5 harg5 arg6 harg6 arg7 harg7 arg8 harg8 arg9 harg9 arg10 harg10 arg11 harg11 arg12 harg12 f0 f1 _ _ f8 f9 x2 x3 ((bd_read (F := F) arg3 arg10 f3 _).trans (congrArg _ hf3)) ((pt_read (F := F) arg2 arg11 f2 _).trans (congrArg _ hf2))) f5 f6 f7).2.1.trans ?_
    rw [hf0, hf1, ← hf4]
    exact congrArg (scales · _) (at4 (F := F) arg4 f4 _)
  isplitl [H7]
  · iexists _; isplitr; swap; · iexact H7
    ipureintro
    rw [show Scf.trips k0_t3_loop.lb k0_t3_loop.ub k0_t3_loop.st = 8 by decide +kernel]
    sl_unfold_words
    refine (read3 (F := F) Variants.none c none arg0 harg0 arg1 harg1 arg2 harg2 arg3 harg3 arg4 harg4 arg5 harg5 arg6 harg6 arg7 harg7 arg8 harg8 arg9 harg9 arg10 harg10 arg11 harg11 arg12 harg12 _ _ _ (holds9 (F := F) c arg0 harg0 arg1 harg1 arg2 harg2 arg3 harg3 arg4 harg4 arg5 harg5 arg6 harg6 arg7 harg7 arg8 harg8 arg9 harg9 arg10 harg10 arg11 harg11 arg12 harg12 f0 f1 _ _ f8 f9 x2 x3 ((bd_read (F := F) arg3 arg10 f3 _).trans (congrArg _ hf3)) ((pt_read (F := F) arg2 arg11 f2 _).trans (congrArg _ hf2))) f5 f6 f7).2.2.trans ?_
    rw [hf0, hf1, ← hf4]
    exact congrArg (zeros · _) (at4 (F := F) arg4 f4 _)
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Cert.Kernel.Tr

end
-- ==== Proof.TrRegionB.lean ====
/- The transform's region: its proof data at any entry contents, and the body obligation at its one point. -/
module

public import proofs.«01_k».proof.Proof.TrRunB
public import proofs.«01_k».proof.Proof.Gen.Kernel.Points
public import proofs.«01_k».proof.Proof.Gen.Kernel.Launch
public import Idealize.ShloMosaic.Lib.Pipeline.FrameBody
public import Idealize.ShloMosaic.Lib.Pipeline.ValueKit

@[expose] public section

set_option maxRecDepth 16384

noncomputable section

namespace Cert.Kernel.Tr

open Cert.Kernel Cert.Kernel.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [BitOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rotated rows of the staged operands. -/
def Z0 (c : Dev nD) (t : Fin cfg0.N) : Fin 256 → Vec F S112x128 .f32 :=
  Zof (iblk0 V c 0 t) (iblk0 V c 1 t) (iblk0 V c 2 t) (iblk0 V c 3 t)

/-- The staged bound. -/
def g0 (c : Dev nD) (t : Fin cfg0.N) : Elt F .f32 := iblk0 V c 4 t (ix1 0)

/-- The proof data: each input's buffer at its block, the outputs' at the run's values. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => codes (g0 V c t) (Z0 V c t)
    | ⟨6, _⟩ => scales (g0 V c t) (Z0 V c t)
    | ⟨7, _⟩ => zeros (g0 V c t) (Z0 V c t)
  Φ _ := Pipeline.scopedRest spec0 c
  q _ := fullShare
  owed _ := 0

theorem A0_eq (c : Dev nD) (w : Fin cfg0.W) : (dat0 V c).A w = V c (Pipeline.arrRef spec0 w) := by
  dsimp only [dat0]

theorem aft0_0 (c : Dev nD) (t : Fin cfg0.N) : (dat0 V c).after 0 t = iblk0 V c 0 t := by dsimp only [dat0]
theorem aft0_1 (c : Dev nD) (t : Fin cfg0.N) : (dat0 V c).after 1 t = iblk0 V c 1 t := by dsimp only [dat0]
theorem aft0_2 (c : Dev nD) (t : Fin cfg0.N) : (dat0 V c).after 2 t = iblk0 V c 2 t := by dsimp only [dat0]
theorem aft0_3 (c : Dev nD) (t : Fin cfg0.N) : (dat0 V c).after 3 t = iblk0 V c 3 t := by dsimp only [dat0]
theorem aft0_4 (c : Dev nD) (t : Fin cfg0.N) : (dat0 V c).after 4 t = iblk0 V c 4 t := by dsimp only [dat0]
theorem aft0_5 (c : Dev nD) (t : Fin cfg0.N) : (dat0 V c).after 5 t = codes (g0 V c t) (Z0 V c t) := by dsimp only [dat0]
theorem aft0_6 (c : Dev nD) (t : Fin cfg0.N) : (dat0 V c).after 6 t = scales (g0 V c t) (Z0 V c t) := by dsimp only [dat0]
theorem aft0_7 (c : Dev nD) (t : Fin cfg0.N) : (dat0 V c).after 7 t = zeros (g0 V c t) (Z0 V c t) := by dsimp only [dat0]

/-- An input's staging buffer holds its block at every point. -/
theorem bef0 (c : Dev nD) (w : Fin cfg0.W) (hw : (cfg0.win w).isOut = false) (hlive : ∀ i, cfg0.idle w i = false)
    (hclip : ∀ t t' : Fin cfg0.N, (cfg0.win w).index t = (cfg0.win w).index t' → (cfg0.win w).clip (cfg0.grid.coords t) = (cfg0.win w).clip (cfg0.grid.coords t'))
    (hkeep : ∀ t, (cfg0.win w).cut (cfg0.grid.coords t) ((dat0 V c).after w t) = (dat0 V c).blockOf w t) (t : Fin cfg0.N) (d) :
    (dat0 V c).before w t d = (dat0 V c).fetched w t d := (dat0 V c).before_in_eq_fetched w hw hlive hclip hkeep t d

theorem bef0_0 (c : Dev nD) (t : Fin cfg0.N) (d) : (dat0 V c).before 0 t d = iblk0 V c 0 t :=
  (bef0 V c 0 rfl (fun _ => rfl) (fun _ _ _ => rfl) (fun t => by rw [aft0_0]; unfold Dat.blockOf iblk0; rw [A0_eq]; try rfl) t d).trans
    (by unfold Dat.fetched Dat.blockOf iblk0; rw [A0_eq]; try rfl)
theorem bef0_1 (c : Dev nD) (t : Fin cfg0.N) (d) : (dat0 V c).before 1 t d = iblk0 V c 1 t :=
  (bef0 V c 1 rfl (fun _ => rfl) (fun _ _ _ => rfl) (fun t => by rw [aft0_1]; unfold Dat.blockOf iblk0; rw [A0_eq]; try rfl) t d).trans
    (by unfold Dat.fetched Dat.blockOf iblk0; rw [A0_eq]; try rfl)
theorem bef0_2 (c : Dev nD) (t : Fin cfg0.N) (d) : (dat0 V c).before 2 t d = iblk0 V c 2 t :=
  (bef0 V c 2 rfl (fun _ => rfl) (fun _ _ _ => rfl) (fun t => by rw [aft0_2]; unfold Dat.blockOf iblk0; rw [A0_eq]; try rfl) t d).trans
    (by unfold Dat.fetched Dat.blockOf iblk0; rw [A0_eq]; try rfl)
theorem bef0_3 (c : Dev nD) (t : Fin cfg0.N) (d) : (dat0 V c).before 3 t d = iblk0 V c 3 t :=
  (bef0 V c 3 rfl (fun _ => rfl) (fun _ _ _ => rfl) (fun t => by rw [aft0_3]; unfold Dat.blockOf iblk0; rw [A0_eq]; try rfl) t d).trans
    (by unfold Dat.fetched Dat.blockOf iblk0; rw [A0_eq]; try rfl)
theorem bef0_4 (c : Dev nD) (t : Fin cfg0.N) (d) : (dat0 V c).before 4 t d = iblk0 V c 4 t :=
  (bef0 V c 4 rfl (fun _ => rfl) (fun _ _ _ => rfl) (fun t => by rw [aft0_4]; unfold Dat.blockOf iblk0; rw [A0_eq]; try rfl) t d).trans
    (by unfold Dat.fetched Dat.blockOf iblk0; rw [A0_eq]; try rfl)

theorem defs0_row (t : Fin cfg0.N) :
    defs₀ (F := F) .tc cfg0.body (cfg0.bodyArgs t (cfg0.slots t)) = bodyAt0 t := by
  unfold defs₀; rw [Defs.onTc_tc]

/-- What the body is called with, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d)) ∗ (∃ d, owns (c : Thread nD τ) (st0_1 t) fullShare ((dat0 V c).before 1 t d)) ∗ (∃ d, owns (c : Thread nD τ) (st0_2 t) fullShare ((dat0 V c).before 2 t d)) ∗ (∃ d, owns (c : Thread nD τ) (st0_3 t) fullShare ((dat0 V c).before 3 t d)) ∗ (∃ d, owns (c : Thread nD τ) (st0_4 t) fullShare ((dat0 V c).before 4 t d)) ∗ (∃ d, owns (c : Thread nD τ) (st0_5 t) fullShare ((dat0 V c).before 5 t d)) ∗ (∃ d, owns (c : Thread nD τ) (st0_6 t) fullShare ((dat0 V c).before 6 t d)) ∗ (∃ d, owns (c : Thread nD τ) (st0_7 t) fullShare ((dat0 V c).before 7 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t) ∗ owns (c : Thread nD τ) (st0_1 t) fullShare ((dat0 V c).after 1 t) ∗ owns (c : Thread nD τ) (st0_2 t) fullShare ((dat0 V c).after 2 t) ∗ owns (c : Thread nD τ) (st0_3 t) fullShare ((dat0 V c).after 3 t) ∗ owns (c : Thread nD τ) (st0_4 t) fullShare ((dat0 V c).after 4 t) ∗ owns (c : Thread nD τ) (st0_5 t) fullShare ((dat0 V c).after 5 t) ∗ owns (c : Thread nD τ) (st0_6 t) fullShare ((dat0 V c).after 6 t) ∗ owns (c : Thread nD τ) (st0_7 t) fullShare ((dat0 V c).after 7 t))

set_option maxHeartbeats 6400000 in
/-- The body at its point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [bef0_0, bef0_1, bef0_2, bef0_3, bef0_4]
  rw [show (dat0 V c).owesAt () t.succ = (dat0 V c).owesAt () t.castSucc from rfl,
    aft0_0, aft0_1, aft0_2, aft0_3, aft0_4, aft0_5, aft0_6, aft0_7]
  rw [show (dat0 V c).Φ t.succ = Pipeline.scopedRest spec0 c from rfl, show (dat0 V c).Φ t.castSucc = Pipeline.scopedRest spec0 c from rfl,
    scopedRest0_eq]
  simp only [← owns_whole]
  iintro ⟨⟨HS0, HS1, HS2, HS3, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run (F := F) c _ _ _ _ _ _ _ _ _ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HS0 HS1 HS2 HS3 HR]
  · isplitl [HS0]; · iexact HS0
    isplitl [HS1]; · iexact HS1
    isplitl [HS2]; · iexact HS2
    isplitl [HS3]; · iexact HS3
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation. -/
theorem obligation0 (c : Dev nD) : BodyObligation (dat0 (F := F) V c) (defs₀ (F := F)) Variants.none () Set.univ := fun t => by
  rw [bigSep_W0, bigSep_W0, defs0_row]
  exact triple_restated (sound_body V c t) rfl .rfl fun _ => .rfl

end Cert.Kernel.Tr

end
-- ==== Proof.GeValB.lean ====
/- What one pass of the weight product leaves in its buffers, as plain functions of the blocks it reads:
   the widened codes, the accumulator and the column sums before each trip, and the output block. -/
module

public import proofs.«01_k».proof.Proof.Gen.Kernel.Points
public import proofs.«01_k».proof.Proof.Gen.Kernel.Loops
public import Idealize.ShloMosaic.Lib.VecWindow
public import Idealize.ShloMosaic.Lib.Pipeline.Value

@[expose] public section

set_option maxRecDepth 16384

noncomputable section

namespace Cert.Kernel.Gemm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The codes in the multiplier's format: every element converted. -/
def x8v (x0 : Vec F S256x14336 .i8) : Vec F S256x14336 .fp8e4m3 :=
  truncf (s := S256x14336) .fp8e4m3 (sitofp .bf16 x0) bitsLt_fp8e4m3_bf16

/-- The weight rows of trip `k`. -/
def wTile (x3 : Vec F S7168x512 .i8) (k : ℕ) (h : k < 56) : Vec F S128x512 .i8 :=
  VecWindow.window x3 ![128 * k, 0] S128x512.size (by intro a; fin_cases a <;> simp [S128x512, S7168x512] <;> omega)

/-- The code columns of trip `k`. -/
def xTile (x8 : Vec F S256x14336 .fp8e4m3) (k : ℕ) (h : k < 56) : Vec F S256x256 .fp8e4m3 :=
  VecWindow.window x8 ![0, 256 * k] S256x256.size (by intro a; fin_cases a <;> simp [S256x256, S256x14336] <;> omega)

/-- The accumulator before trip `k`. -/
def accAt (x3 : Vec F S7168x512 .i8) (x8 : Vec F S256x14336 .fp8e4m3) : ℕ → Vec F S256x512 .f32
  | 0 => k1_pay2
  | k + 1 => if h : k < 56 then k1_pay5 (wTile x3 k h) (accAt x3 x8 k) (xTile x8 k h) else accAt x3 x8 k

/-- The eight partial column sums before trip `k`. -/
def csAt (x3 : Vec F S7168x512 .i8) : ℕ → Vec F S8x512 .f32
  | 0 => k1_pay3
  | k + 1 => if h : k < 56 then k1_pay6 (csAt x3 k) (wTile x3 k h) else csAt x3 k

/-- The output block: the epilogue of the finished accumulator. -/
def outv (x1 x2 : Vec F S256x128 .f32) (x3 : Vec F S7168x512 .i8) (x4 : Vec F S1x512 .f32)
    (x8 : Vec F S256x14336 .fp8e4m3) : Vec F S256x512 .bf16 :=
  k1_pay7 (csAt x3 56) x1 x2 (accAt x3 x8 56) x4

theorem accAt_succ (x3 : Vec F S7168x512 .i8) (x8 : Vec F S256x14336 .fp8e4m3) (k : ℕ) (h : k < 56) :
    accAt x3 x8 (k + 1) = k1_pay5 (wTile x3 k h) (accAt x3 x8 k) (xTile x8 k h) := by
  rw [accAt]; exact dif_pos h

theorem csAt_succ (x3 : Vec F S7168x512 .i8) (k : ℕ) (h : k < 56) :
    csAt x3 (k + 1) = k1_pay6 (csAt x3 k) (wTile x3 k h) := by
  rw [csAt]; exact dif_pos h

end Cert.Kernel.Gemm

end
-- ==== Proof.GeLoopB.lean ====
/- The two counted loops of the weight product, their pieces read back as values. -/
module

public import proofs.«01_k».proof.Proof.GeValB

@[expose] public section

set_option maxRecDepth 16384

noncomputable section

namespace Cert.Kernel.Gemm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

variable (𝒱 : Variants) (c : Dev nD) (bd : Option 𝒱.V) (i : grid1.Coords)
  (arg1 : Memref sig .tc .vmem S256x14336 .i8) (harg1 : arg1.IsWhole) (arg2 : Memref sig .tc .vmem S256x128 .f32) (harg2 : arg2.IsWhole)
  (arg3 : Memref sig .tc .vmem S256x128 .f32) (harg3 : arg3.IsWhole) (arg4 : Memref sig .tc .vmem S7168x512 .i8) (harg4 : arg4.IsWhole)
  (arg5 : Memref sig .tc .vmem S1x512 .f32) (harg5 : arg5.IsWhole) (arg6 : Memref sig .tc .vmem S256x512 .bf16) (harg6 : arg6.IsWhole)
  (arg7 : Memref sig .tc .vmem S256x512 .f32) (harg7 : arg7.IsWhole) (arg8 : Memref sig .tc .vmem S256x14336 .fp8e4m3) (harg8 : arg8.IsWhole)

/-- The second loop's state before trip `k`: the column sums, and the accumulator its pieces read back as. -/
theorem st2_eq (X4 : BufTy.Contents (Elt F) arg4.view.ty) (X8 : BufTy.Contents (Elt F) arg8.view.ty) (G7 : BufTy.Contents (Elt F) arg7.view.ty)
    (h0 : arg7.view.read (Elt F) G7 = k1_pay2) : ∀ k : ℕ, k ≤ 56 →
    (st_k1_t2 𝒱 c bd i arg1 harg1 arg2 harg2 arg3 harg3 arg4 harg4 arg5 harg5 arg6 harg6 arg7 harg7 arg8 harg8 X4 X8 G7 k1_pay3 k).1 = csAt (arg4.view.read (Elt F) X4) k
    ∧ arg7.view.read (Elt F) (arg7.view.writes (Elt F) G7
        (st_k1_t2 𝒱 c bd i arg1 harg1 arg2 harg2 arg3 harg3 arg4 harg4 arg5 harg5 arg6 harg6 arg7 harg7 arg8 harg8 X4 X8 G7 k1_pay3 k).2)
      = accAt (arg4.view.read (Elt F) X4) (arg8.view.read (Elt F) X8) k
  | 0, _ => ⟨rfl, h0⟩
  | k + 1, hk => by
    have hk' : k < 56 := hk
    obtain ⟨e1, e2⟩ := st2_eq X4 X8 G7 h0 k (by omega)
    have hs := st_k1_t2_succ (F := F) 𝒱 c bd i arg1 harg1 arg2 harg2 arg3 harg3 arg4 harg4 arg5 harg5 arg6 harg6 arg7 harg7 arg8 harg8 X4 X8 G7 k1_pay3 ⟨k, hk'⟩
    simp only at hs
    rw [hs, csAt_succ _ _ hk', accAt_succ _ _ _ hk', ← e1, ← e2]
    generalize (st_k1_t2 𝒱 c bd i arg1 harg1 arg2 harg2 arg3 harg3 arg4 harg4 arg5 harg5 arg6 harg6 arg7 harg7 arg8 harg8 X4 X8 G7 k1_pay3 k) = s
    unfold tripR_k1_t2 tripL_k1_t2 trip_k1_t2
    dsimp only
    refine ⟨?_, ?_⟩
    · rw [View.readAt_unit arg4.view X4 _ (k1_off2_eq ⟨k, hk'⟩)]; rfl
    · rw [List.cons_append, View.read_writes_full]
      rw [View.readAt_unit arg4.view X4 _ (k1_off2_eq ⟨k, hk'⟩), View.readAt_unit arg8.view X8 _ (k1_off3_eq ⟨k, hk'⟩), View.readAt_full]
      rfl

/-- The first loop's pieces before trip `k`, read back: the columns of the trips before are converted. -/
theorem pb1_eq (h1 : k1_cond1 i = 1#1) (X1 : BufTy.Contents (Elt F) arg1.view.ty) (G8 : BufTy.Contents (Elt F) arg8.view.ty) : ∀ k : ℕ, k ≤ 56 →
    ∀ y : S256x14336.Idx, (y 1).val < 256 * k →
      arg8.view.read (Elt F) (arg8.view.writes (Elt F) G8
        (pb_k1_t1 𝒱 c bd i arg1 harg1 arg2 harg2 arg3 harg3 arg4 harg4 arg5 harg5 arg6 harg6 arg7 harg7 arg8 harg8 h1 X1 k)) y
      = x8v (arg1.view.read (Elt F) X1) y
  | 0, _, y, hy => absurd hy (by omega)
  | k + 1, hk, y, hy => by
    have hk' : k < 56 := hk
    have ih := pb1_eq h1 X1 G8 k (by omega) y
    have hs := pb_k1_t1_succ (F := F) 𝒱 c bd i arg1 harg1 arg2 harg2 arg3 harg3 arg4 harg4 arg5 harg5 arg6 harg6 arg7 harg7 arg8 harg8 h1 X1 ⟨k, hk'⟩
    simp only at hs
    rw [hs]
    generalize (pb_k1_t1 𝒱 c bd i arg1 harg1 arg2 harg2 arg3 harg3 arg4 harg4 arg5 harg5 arg6 harg6 arg7 harg7 arg8 harg8 h1 X1 k) = s at ih ⊢
    unfold tripL_k1_t1 trip_k1_t1
    dsimp only
    rw [List.cons_append, View.read_writes_cons_put _ _ _ _ _ (k1_off1_eq ⟨k, hk'⟩)]
    unfold VecWindow.put
    split
    · rename_i hin
      unfold k1_pay1 x8v
      rw [View.readAt_unit arg1.view X1 _ (k1_off1_eq ⟨k, hk'⟩)]
      · rw [shapeCast_self, shapeCast_self]
        show truncf (s := S256x256) .fp8e4m3 (sitofp .bf16 _) _ _ = _
        refine congrArg (fun v => FloatOps.truncf .fp8e4m3 bitsLt_fp8e4m3_bf16 (FloatOps.sitofp .bf16 v)) ?_
        refine congrArg (arg1.view.read (Elt F) X1) (funext fun a => Fin.ext ?_)
        show (![0, 256 * k] : Fin 2 → ℕ) a + 1 * ((y a).val - (![0, 256 * k] : Fin 2 → ℕ) a) = (y a).val
        have := hin a
        dsimp only at this
        omega
      · intro a; fin_cases a <;> simp [S256x14336] <;> omega
    · rename_i hin
      rw [List.nil_append]
      refine ih ?_
      by_contra hc
      refine hin fun a => ?_
      have hy0 : (y 0).val < 256 := (y 0).isLt
      fin_cases a
      · simp [S256x256]; exact hy0
      · simp [S256x256]; omega

end Cert.Kernel.Gemm

end
-- ==== Proof.GeRunB.lean ====
/- One pass of the weight product run: at the grid's first point it converts the codes and keeps them; at every point
   it leaves the output block `outv` of the blocks it reads and the kept codes. -/
module

public import proofs.«01_k».proof.Proof.GeLoopB
public import proofs.«01_k».proof.Proof.Gen.Kernel.Launch
public import Idealize.ShloMosaic.Lib.WordCmp
public import Idealize.ShloMosaic.Lib.Pipeline.FrameBody
public import Idealize.ShloMosaic.Lib.Ring
public import Idealize.ShloMosaic.Lib.Tactic

@[expose] public section

set_option maxRecDepth 16384

noncomputable section

namespace Cert.Kernel.Gemm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The condition of the body's `scf.if` 0 (`k1_h1`), from the grid coordinates (the skeleton's scalar
    chain substituted). -/
abbrev cond0_0 (i : grid1.Coords) : Prop := k1_cond1 i = 1#1
/-- It holds at the first point only — by arithmetic of the point. -/
theorem hcond0_0 : ∀ t : Fin cfg1.N, cond0_0 (grid1.coords t) ↔ t.val % 8 = 0 :=
  (fun t => by
    have ht : t.val < 8 := Nat.lt_of_lt_of_eq t.isLt N_1
    have e0 : (grid1.coords t 0).val = t.val / 1 % 8 := Pipeline.Grid.coords_val t 0 (by decide) rfl
    simp only [cond0_0, k1_cond1, e0]
    word_cmp
   : ∀ t : Fin grid1.N, cond0_0 (grid1.coords t) ↔ t.val % 8 = 0)

/-- Each window's current staging memref at point `t`, spelled as the pipeline passes it (`bodyAt1`), and its wholeness. -/
abbrev ms0_0 (t : Fin cfg1.N) : Memref sig .tc .vmem S256x14336 .i8 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S256x128 .f32 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S256x128 .f32 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S7168x512 .i8 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S1x512 .f32 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S256x512 .bf16 := win1_5.stage (cfg1.slots t 5)
abbrev hs0_5 (t : Fin cfg1.N) : (ms0_5 t).IsWhole := hstage1_5 ((cfg1.slots t 5).cast nbuf1_5)
/-- The scratch operands: whole scoped buffers of the kernel's own, passed beside the windows. -/
abbrev scM0_0 : Memref sig .tc .vmem S256x512 .f32 := Memref.whole cc1_scratch0
abbrev scM0_1 : Memref sig .tc .vmem S256x14336 .fp8e4m3 := Memref.whole cc1_scratch1
/-- The scratch `arg8` the kernel carries between points, as a view: what it holds is stated through it. -/
abbrev VS0_1 : View sig .tc .vmem S256x14336 .fp8e4m3 := scM0_1.view

/-- The scoped buffers that are neither this region's staging buffers nor its scratch, each at anything. -/
def Rest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_stg4_0), ((c : Thread nD τ).loc cc0_stg4_0) ↦{fullShare} f))

/-- The scoped buffers no window stages are the two scratch operands and the rest. -/
theorem scoped_open (c : Dev nD) : (Pipeline.scopedRest spec1 c : sProp 𝕄)
    ⊢ iprop((∃ d, owns (c : Thread nD τ) scM0_0 fullShare d) ∗ (∃ d, owns (c : Thread nD τ) scM0_1 fullShare d) ∗ Rest (F := F) c) := by
  rw [scopedRest1_eq]; unfold Rest; simp only [scM0_0, scM0_1, owns_whole]
  iintro ⟨H0, H1, H2, H3, H4, H5, H6, H7, H8, H9, H10, H11, H12, H13, H14⟩
  isplitl [H12]; · iexact H12
  isplitl [H13]; · iexact H13
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H14

/-- And back. -/
theorem scoped_close (c : Dev nD) :
    iprop((∃ d, owns (c : Thread nD τ) scM0_0 fullShare d) ∗ (∃ d, owns (c : Thread nD τ) scM0_1 fullShare d) ∗ Rest (F := F) c)
      ⊢ (Pipeline.scopedRest spec1 c : sProp 𝕄) := by
  rw [scopedRest1_eq]; unfold Rest; simp only [scM0_0, scM0_1, owns_whole]
  iintro ⟨H12, H13, H0, H1, H2, H3, H4, H5, H6, H7, H8, H9, H10, H11, H14⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem hz2 : (![0, 0] : Fin 2 → Nat) = fun _ => 0 := funext fun a => by fin_cases a <;> rfl

variable (c : Dev nD) (i : grid1.Coords)
  (arg1 : Memref sig .tc .vmem S256x14336 .i8) (harg1 : arg1.IsWhole) (arg2 : Memref sig .tc .vmem S256x128 .f32) (harg2 : arg2.IsWhole)
  (arg3 : Memref sig .tc .vmem S256x128 .f32) (harg3 : arg3.IsWhole) (arg4 : Memref sig .tc .vmem S7168x512 .i8) (harg4 : arg4.IsWhole)
  (arg5 : Memref sig .tc .vmem S1x512 .f32) (harg5 : arg5.IsWhole) (arg6 : Memref sig .tc .vmem S256x512 .bf16) (harg6 : arg6.IsWhole)
  (arg7 : Memref sig .tc .vmem S256x512 .f32) (harg7 : arg7.IsWhole) (arg8 : Memref sig .tc .vmem S256x14336 .fp8e4m3) (harg8 : arg8.IsWhole)

theorem trips1 : Scf.trips k1_t1_loop.lb k1_t1_loop.ub k1_t1_loop.st = 56 := by decide +kernel
theorem trips2 : Scf.trips k1_t2_loop.lb k1_t2_loop.ub k1_t2_loop.st = 56 := by decide +kernel

/-- The kept codes after the first loop: every column converted. -/
theorem kept_eq (h1 : k1_cond1 i = 1#1) (X1 : BufTy.Contents (Elt F) arg1.view.ty) (G8 : BufTy.Contents (Elt F) arg8.view.ty) :
    arg8.view.read (Elt F) (arg8.view.writes (Elt F) G8
        (pb_k1_t1 Variants.none c none i arg1 harg1 arg2 harg2 arg3 harg3 arg4 harg4 arg5 harg5 arg6 harg6 arg7 harg7 arg8 harg8 h1 X1
          (Scf.trips k1_t1_loop.lb k1_t1_loop.ub k1_t1_loop.st)))
      = x8v (arg1.view.read (Elt F) X1) := by
  rw [trips1]
  funext y
  exact pb1_eq _ c _ i arg1 harg1 arg2 harg2 arg3 harg3 arg4 harg4 arg5 harg5 arg6 harg6 arg7 harg7 arg8 harg8 h1 X1 G8 56 le_rfl y
    (show (y 1).val < 14336 from (y 1).isLt)

/-- The output block as the run finds it is `outv`. -/
theorem out_eq (X2 : BufTy.Contents (Elt F) arg2.view.ty) (X3 : BufTy.Contents (Elt F) arg3.view.ty) (X4 : BufTy.Contents (Elt F) arg4.view.ty)
    (X5 : BufTy.Contents (Elt F) arg5.view.ty) (f6 : BufTy.Contents (Elt F) arg6.view.ty) (X8 : BufTy.Contents (Elt F) arg8.view.ty) :
    View.read (Elt F) arg6.view
      (arg6.view.writes (Elt F) f6
        [⟨Rect.unit ![0, 0] S256x512.size inb_S256x512_S256x512_0_0,
            k1_pay7
              (st_k1_t2 Variants.none c none i arg1 harg1 arg2 harg2 arg3 harg3 arg4 harg4 arg5 harg5 arg6 harg6 arg7
                  harg7 arg8 harg8 X4 X8
                  (arg7.view.writes (Elt F) arg7.view.junk
                    [⟨Rect.unit ![0, 0] S256x512.size inb_S256x512_S256x512_0_0, k1_pay2⟩])
                  k1_pay3 (Scf.trips k1_t2_loop.lb k1_t2_loop.ub k1_t2_loop.st)).1
              (View.readAt (Elt F) arg2.view (Rect.unit ![0, 0] S256x128.size inb_S256x128_S256x128_0_0).toLoadRect X2)
              (View.readAt (Elt F) arg3.view (Rect.unit ![0, 0] S256x128.size inb_S256x128_S256x128_0_0).toLoadRect X3)
              (arg7.view.readCov
                ((st_k1_t2 Variants.none c none i arg1 harg1 arg2 harg2 arg3 harg3 arg4 harg4 arg5 harg5 arg6 harg6 arg7
                      harg7 arg8 harg8 X4 X8
                      (arg7.view.writes (Elt F) arg7.view.junk
                        [⟨Rect.unit ![0, 0] S256x512.size inb_S256x512_S256x512_0_0, k1_pay2⟩])
                      k1_pay3 (Scf.trips k1_t2_loop.lb k1_t2_loop.ub k1_t2_loop.st)).2 ++
                  [⟨Rect.unit ![0, 0] S256x512.size inb_S256x512_S256x512_0_0, k1_pay2⟩])
                (Rect.unit ![0, 0] S256x512.size inb_S256x512_S256x512_0_0).toLoadRect)
              (View.readAt (Elt F) arg5.view (Rect.unit ![0, 0] S1x512.size inb_S1x512_S1x512_0_0).toLoadRect X5)⟩])
      = outv (arg2.view.read (Elt F) X2) (arg3.view.read (Elt F) X3) (arg4.view.read (Elt F) X4) (arg5.view.read (Elt F) X5)
          (arg8.view.read (Elt F) X8) := by
  have h := st2_eq Variants.none c none i arg1 harg1 arg2 harg2 arg3 harg3 arg4 harg4 arg5 harg5 arg6 harg6 arg7 harg7 arg8 harg8 X4 X8
    (arg7.view.writes (Elt F) arg7.view.junk [⟨Rect.unit ![0, 0] S256x512.size inb_S256x512_S256x512_0_0, k1_pay2⟩])
    (View.read_writes_full _ _ _ _ _) 56 le_rfl
  rw [trips2]
  unfold View.readCov
  rw [View.read_writes_full, View.writes_append, View.readAt_full, View.readAt_full, View.readAt_full, View.readAt_full, h.1, h.2]
  rfl

set_option maxHeartbeats 4000000 in
/-- The first point: the codes are converted and kept. -/
theorem run_A (hc0 : cond0_0 i)
    (x0 : Vec F S256x14336 .i8) (x1 : Vec F S256x128 .f32) (x2 : Vec F S256x128 .f32) (x3 : Vec F S7168x512 .i8) (x4 : Vec F S1x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outv x1 x2 x3 x4 (x8v x0)) ∗ (∃ d, owns (c : Thread nD τ) arg7 fullShare d) ∗ owns (c : Thread nD τ) arg8 fullShare (x8v x0)) -∗ K ⟨⟩))
      ⊢ wp frame (wpE (defs₀ (F := F)) Variants.none c none) E (cc1_gemm i arg1 harg1 arg2 harg2 arg3 harg3 arg4 harg4 arg5 harg5 arg6 harg6 arg7 harg7 arg8 harg8) K := by
  simp only [cc1_gemm_eq_skeleton]; unfold cc1_gemm_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
  sl_exec (disch := first | sl_exact hc0)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro
    sl_unfold_words
    rw [out_eq c i arg1 harg1 arg2 harg2 arg3 harg3 arg4 harg4 arg5 harg5 arg6 harg6 arg7 harg7 arg8 harg8, kept_eq c i arg1 harg1 arg2 harg2 arg3 harg3 arg4 harg4 arg5 harg5 arg6 harg6 arg7 harg7 arg8 harg8, hf0, hf1, hf2, hf3, hf4]
  isplitl [HS0]
  · iexists _, _; isplitr; swap; · iexact HS0
    ipureintro; rfl
  iexists _; isplitr; swap; · iexact HS1
  ipureintro
  rw [kept_eq c i arg1 harg1 arg2 harg2 arg3 harg3 arg4 harg4 arg5 harg5 arg6 harg6 arg7 harg7 arg8 harg8, hf0]

set_option maxHeartbeats 4000000 in
/-- A later point: the kept codes are used. -/
theorem run_B (hc0 : ¬cond0_0 i)
    (x0 : Vec F S256x14336 .i8) (x1 : Vec F S256x128 .f32) (x2 : Vec F S256x128 .f32) (x3 : Vec F S7168x512 .i8) (x4 : Vec F S1x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare (x8v x0)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outv x1 x2 x3 x4 (x8v x0)) ∗ (∃ d, owns (c : Thread nD τ) arg7 fullShare d) ∗ owns (c : Thread nD τ) arg8 fullShare (x8v x0)) -∗ K ⟨⟩))
      ⊢ wp frame (wpE (defs₀ (F := F)) Variants.none c none) E (cc1_gemm i arg1 harg1 arg2 harg2 arg3 harg3 arg4 harg4 arg5 harg5 arg6 harg6 arg7 harg7 arg8 harg8) K := by
  simp only [cc1_gemm_eq_skeleton]; unfold cc1_gemm_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%fs1, %hfs1, HS1⟩, Hk⟩
  sl_exec (disch := first | sl_exact hc0)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro
    sl_unfold_words
    rw [out_eq c i arg1 harg1 arg2 harg2 arg3 harg3 arg4 harg4 arg5 harg5 arg6 harg6 arg7 harg7 arg8 harg8, hf1, hf2, hf3, hf4, hfs1]
  isplitl [HS0]
  · iexists _, _; isplitr; swap; · iexact HS0
    ipureintro; rfl
  iexists _; isplitr; swap; · iexact HS1
  ipureintro
  exact hfs1

end Cert.Kernel.Gemm

end
-- ==== Proof.GeRegionB.lean ====
/- The weight product's pipelined run: what each staging buffer and the kept codes hold between grid points, the body
   obligation at every point, the launch, and the array the run leaves. -/
module

public import proofs.«01_k».proof.Proof.GeRunB
public import Idealize.ShloMosaic.Lib.Pipeline.ValueKit

@[expose] public section

set_option maxRecDepth 16384

noncomputable section

namespace Cert.Kernel.Gemm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [BitOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The codes, as the region finds them. -/
def X0 (c : Dev nD) : Vec F S256x14336 .i8 := V c main_v3_0

/-- The codes' block is the whole array at every point. -/
theorem iblk1_eq (c : Dev nD) (t : Fin cfg1.N) : iblk1 V c 0 t = X0 V c := by
  have hz : (fun a => win1_0.index t a * main_v3_0.ty.shape.size a) = fun _ => 0 := funext fun a => by
    fin_cases a <;> exact Nat.zero_mul _
  exact Memref.read_access_unit_zero (Elt F) main_v3_0 hz (fun a => by rw [congrFun hz a]; simp) (V c main_v3_0)

/-- The output block point `t` leaves. -/
def outAt (c : Dev nD) (t : Fin cfg1.N) : Vec F S256x512 .bf16 :=
  outv (iblk1 V c 1 t) (iblk1 V c 2 t) (iblk1 V c 3 t) (iblk1 V c 4 t) (x8v (X0 V c))

/-- The region invariant before position `n`: before the first point every scratch at anything; afterwards the kept codes
    at the converted codes, the accumulator at anything. -/
def PhiS (c : Dev nD) : ℕ → sProp 𝕄
  | 0 => Pipeline.scopedRest spec1 c
  | n + 1 => iprop((∃ d, owns (c : Thread nD τ) scM0_0 fullShare d) ∗ owns (c : Thread nD τ) scM0_1 fullShare (x8v (X0 V c)) ∗ Rest (F := F) c)

theorem PhiS_succ (c : Dev nD) (n : ℕ) :
    PhiS V c (n + 1) = iprop((∃ d, owns (c : Thread nD τ) scM0_0 fullShare d) ∗ owns (c : Thread nD τ) scM0_1 fullShare (x8v (X0 V c)) ∗ Rest (F := F) c) := rfl

theorem PhiS_pos (c : Dev nD) (n : ℕ) (hz : n ≠ 0) :
    PhiS V c n = iprop((∃ d, owns (c : Thread nD τ) scM0_0 fullShare d) ∗ owns (c : Thread nD τ) scM0_1 fullShare (x8v (X0 V c)) ∗ Rest (F := F) c) := by
  cases n with
  | zero => exact absurd rfl hz
  | succ n => rfl

/-- The proof data of the pipeline on core `c`: each input's buffer at its block, the output's at `outAt`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t
  Φ t := PhiS V c t.val
  q _ := fullShare
  owed _ := 0

theorem A_eq (c : Dev nD) (w : Fin cfg1.W) : (dat1 V c).A w = V c (Pipeline.arrRef spec1 w) := by
  dsimp only [dat1]

theorem after0_0 (c : Dev nD) (t : Fin cfg1.N) : (dat1 V c).after 0 t = iblk1 V c 0 t := by dsimp only [dat1]
theorem after0_1 (c : Dev nD) (t : Fin cfg1.N) : (dat1 V c).after 1 t = iblk1 V c 1 t := by dsimp only [dat1]
theorem after0_2 (c : Dev nD) (t : Fin cfg1.N) : (dat1 V c).after 2 t = iblk1 V c 2 t := by dsimp only [dat1]
theorem after0_3 (c : Dev nD) (t : Fin cfg1.N) : (dat1 V c).after 3 t = iblk1 V c 3 t := by dsimp only [dat1]
theorem after0_4 (c : Dev nD) (t : Fin cfg1.N) : (dat1 V c).after 4 t = iblk1 V c 4 t := by dsimp only [dat1]
theorem after0_5 (c : Dev nD) (t : Fin cfg1.N) : (dat1 V c).after 5 t = outAt V c t := by dsimp only [dat1]

/-- Each input's staging buffer holds its block at every point. -/
theorem before0_0 (c : Dev nD) (t : Fin cfg1.N) (d) : (dat1 V c).before 0 t d = iblk1 V c 0 t :=
  ((dat1 V c).before_in_eq_fetched 0 rfl (fun _ => rfl) (fun _ _ _ => rfl) (fun t => by rw [after0_0]; unfold Dat.blockOf iblk1; rw [A_eq]; try rfl) t d).trans
    (by unfold Dat.fetched Dat.blockOf iblk1; rw [A_eq]; try rfl)
theorem before0_1 (c : Dev nD) (t : Fin cfg1.N) (d) : (dat1 V c).before 1 t d = iblk1 V c 1 t :=
  ((dat1 V c).before_in_eq_fetched 1 rfl (fun _ => rfl) (fun _ _ _ => rfl) (fun t => by rw [after0_1]; unfold Dat.blockOf iblk1; rw [A_eq]; try rfl) t d).trans
    (by unfold Dat.fetched Dat.blockOf iblk1; rw [A_eq]; try rfl)
theorem before0_2 (c : Dev nD) (t : Fin cfg1.N) (d) : (dat1 V c).before 2 t d = iblk1 V c 2 t :=
  ((dat1 V c).before_in_eq_fetched 2 rfl (fun _ => rfl) (fun _ _ _ => rfl) (fun t => by rw [after0_2]; unfold Dat.blockOf iblk1; rw [A_eq]; try rfl) t d).trans
    (by unfold Dat.fetched Dat.blockOf iblk1; rw [A_eq]; try rfl)
theorem before0_3 (c : Dev nD) (t : Fin cfg1.N) (d) : (dat1 V c).before 3 t d = iblk1 V c 3 t :=
  ((dat1 V c).before_in_eq_fetched 3 rfl (fun _ => rfl) (fun _ _ _ => rfl) (fun t => by rw [after0_3]; unfold Dat.blockOf iblk1; rw [A_eq]; try rfl) t d).trans
    (by unfold Dat.fetched Dat.blockOf iblk1; rw [A_eq]; try rfl)
theorem before0_4 (c : Dev nD) (t : Fin cfg1.N) (d) : (dat1 V c).before 4 t d = iblk1 V c 4 t :=
  ((dat1 V c).before_in_eq_fetched 4 rfl (fun _ => rfl) (fun _ _ _ => rfl) (fun t => by rw [after0_4]; unfold Dat.blockOf iblk1; rw [A_eq]; try rfl) t d).trans
    (by unfold Dat.fetched Dat.blockOf iblk1; rw [A_eq]; try rfl)

/-- What the body is called with at point `t`, -/
def bodyPre (c : Dev nD) (t : Fin cfg1.N) : sProp 𝕄 :=
  iprop((dat1 V c).Φ t.castSucc ∗ (dat1 V c).owesAt () t.castSucc
    ∗ (∃ d, owns (c : Thread nD τ) (ms0_0 t) fullShare ((dat1 V c).before 0 t d))
    ∗ (∃ d, owns (c : Thread nD τ) (ms0_1 t) fullShare ((dat1 V c).before 1 t d))
    ∗ (∃ d, owns (c : Thread nD τ) (ms0_2 t) fullShare ((dat1 V c).before 2 t d))
    ∗ (∃ d, owns (c : Thread nD τ) (ms0_3 t) fullShare ((dat1 V c).before 3 t d))
    ∗ (∃ d, owns (c : Thread nD τ) (ms0_4 t) fullShare ((dat1 V c).before 4 t d))
    ∗ (∃ d, owns (c : Thread nD τ) (ms0_5 t) fullShare ((dat1 V c).before 5 t d)))

/-- and what it returns. -/
def bodyPost (c : Dev nD) (t : Fin cfg1.N) : sProp 𝕄 :=
  iprop((dat1 V c).Φ t.succ ∗ (dat1 V c).owesAt () t.succ
    ∗ owns (c : Thread nD τ) (ms0_0 t) fullShare ((dat1 V c).after 0 t)
    ∗ owns (c : Thread nD τ) (ms0_1 t) fullShare ((dat1 V c).after 1 t)
    ∗ owns (c : Thread nD τ) (ms0_2 t) fullShare ((dat1 V c).after 2 t)
    ∗ owns (c : Thread nD τ) (ms0_3 t) fullShare ((dat1 V c).after 3 t)
    ∗ owns (c : Thread nD τ) (ms0_4 t) fullShare ((dat1 V c).after 4 t)
    ∗ owns (c : Thread nD τ) (ms0_5 t) fullShare ((dat1 V c).after 5 t))

/-- The invariant at a point's start, restated at `t.val`. -/
theorem PhiS_castSucc (c : Dev nD) (t : Fin cfg1.N) : (dat1 V c).Φ t.castSucc = PhiS V c t.val := by
  dsimp only [dat1]; rfl

set_option maxHeartbeats 6400000 in
/-- The body at any point: the first converts the codes, the later ones use the kept codes. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1, before0_2, before0_3, before0_4]
  rw [show (dat1 V c).owesAt () t.succ = (dat1 V c).owesAt () t.castSucc from rfl,
    after0_0, after0_1, after0_2, after0_3, after0_4, after0_5]
  rw [show (dat1 V c).Φ t.succ = PhiS V c (t.val + 1) from rfl, PhiS_succ, PhiS_castSucc V c t, iblk1_eq]
  have hN : t.val < 8 := lt_of_lt_of_eq t.isLt (show cfg1.N = 8 from N_1)
  by_cases hz : t.val = 0
  · have h0 : t.val % 8 = 0 := by omega
    rw [show PhiS V c t.val = Pipeline.scopedRest spec1 c from by rw [hz]; rfl]
    iintro ⟨HΦ, Ho, ⟨%d0, H0⟩, ⟨%d1, H1⟩, ⟨%d2, H2⟩, ⟨%d3, H3⟩, ⟨%d4, H4⟩, ⟨%d5, H5⟩⟩
    ihave HΦ' := scoped_open (F := F) c $$ HΦ
    icases HΦ' with ⟨HS0, HS1, Hg⟩
    iapply (run_A c (grid1.coords t) _ _ _ _ _ _ _ _ _ _ _ _ _ _ _ _ ((hcond0_0 t).mpr h0) (X0 V c) (iblk1 V c 1 t) (iblk1 V c 2 t) (iblk1 V c 3 t) (iblk1 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · have h0 : ¬ t.val % 8 = 0 := by omega
    rw [PhiS_pos V c _ hz]
    iintro ⟨⟨HS0, HS1, Hg⟩, Ho, ⟨%d0, H0⟩, ⟨%d1, H1⟩, ⟨%d2, H2⟩, ⟨%d3, H3⟩, ⟨%d4, H4⟩, ⟨%d5, H5⟩⟩
    iapply (run_B c (grid1.coords t) _ _ _ _ _ _ _ _ _ _ _ _ _ _ _ _ (fun h => h0 ((hcond0_0 t).mp h)) (X0 V c) (iblk1 V c 1 t) (iblk1 V c 2 t) (iblk1 V c 3 t) (iblk1 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The body obligation, at every point. -/
theorem body_obligation (c : Dev nD) : BodyObligation (dat1 (F := F) V c) (defs₀ (F := F)) Variants.none () Set.univ := fun t => by
  rw [bigSep_W1, bigSep_W1, defs₀_row]
  exact triple_restated (sound_body V c t) rfl .rfl fun _ => .rfl

/-- What the launch hands the region is the invariant before the first point. -/
theorem hin (c : Dev nD) : Pipeline.scopedRest spec1 c ⊢ (dat1 V c).Φ 0 := by
  rw [show (dat1 V c).Φ 0 = Pipeline.scopedRest spec1 c from rfl]

/-- After the last point the invariant gives it back. -/
theorem hout (c : Dev nD) : (dat1 V c).Φ (Fin.last cfg1.N) ⊢ Pipeline.scopedRest spec1 c := by
  rw [show (dat1 V c).Φ (Fin.last cfg1.N) = PhiS V c cfg1.N from rfl,
    PhiS_pos V c _ (by rw [show cfg1.N = 8 from N_1]; decide)]
  iintro ⟨HS0, HS1, Hg⟩
  iapply (scoped_close (F := F) c)
  isplitl [HS0]; · iexact HS0
  isplitl [HS1]; · iexists _; iexact HS1
  iexact Hg

end Cert.Kernel.Gemm

end
-- ==== Proof.SegsB.lean ====
/- The whole program's run: the contents both regions leave, the two regions as segments, and the launch, with every
   result read at the end. -/
module

public import proofs.«01_k».proof.Proof.TrRegionB
public import proofs.«01_k».proof.Proof.GeRegionB
public import proofs.«01_k».proof.Proof.Gen.Kernel.Regions
public import Idealize.ShloMosaic.Lib.Pipeline.RegionsLoop

@[expose] public section

set_option maxRecDepth 16384

noncomputable section

namespace Cert.Kernel.Whole

open Cert.Kernel Cert.Kernel.Gen Cert.Kernel.Tr Cert.Kernel.Gemm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [BitOps F]

local notation "𝕄" => MT nD τ sig Unit (Elt F) ℕ (UR sig nD τ) ℕ

variable (m : (ℓ : Loc nD τ sig) → Buf (Elt F) ℓ)

/-- The contents the first region is entered with, -/
def VV1 (c : Dev nD) (b : Ref sig .tc) : Buf (Elt F) ((c : Thread nD τ).loc b) := V1 m c b

/-- those it leaves, -/
def W2 (c : Dev nD) : Valuation τ sig (Elt F) :=
  Function.update (Function.update (Function.update (V1 m c) main_v3_0 ((dat0 (VV1 m) c).arrAt 5 cfg0.N)) main_v3_1 ((dat0 (VV1 m) c).arrAt 6 cfg0.N))
    main_v3_2 ((dat0 (VV1 m) c).arrAt 7 cfg0.N)

def VV2 (c : Dev nD) (b : Ref sig .tc) : Buf (Elt F) ((c : Thread nD τ).loc b) := W2 m c b

/-- those the second is entered with, -/
def W3 (c : Dev nD) : Valuation τ sig (Elt F) := StableHlo.after hostOps1 (W2 m c)

def VV3 (c : Dev nD) (b : Ref sig .tc) : Buf (Elt F) ((c : Thread nD τ).loc b) := W3 m c b

/-- and those it leaves. -/
def W4 (c : Dev nD) : Valuation τ sig (Elt F) := Function.update (W3 m c) main_v5 ((dat1 (VV3 m) c).arrAt 5 cfg1.N)

def VV4 (c : Dev nD) (b : Ref sig .tc) : Buf (Elt F) ((c : Thread nD τ).loc b) := W4 m c b

/-- What the regions leave, as the generated valuations take it. -/
def outs : Outs (F := F) := fun J r c => if J = 2 then VV2 m c r else VV4 m c r

theorem VV2_0 (c : Dev nD) : VV2 m c main_v3_0 = (dat0 (VV1 m) c).arrAt 5 cfg0.N := by
  unfold VV2 W2
  rw [Function.update_of_ne (StableHlo.devRef_ne_of_ne (by decide)), Function.update_of_ne (StableHlo.devRef_ne_of_ne (by decide)), Function.update_self]
theorem VV2_1 (c : Dev nD) : VV2 m c main_v3_1 = (dat0 (VV1 m) c).arrAt 6 cfg0.N := by
  unfold VV2 W2
  rw [Function.update_of_ne (StableHlo.devRef_ne_of_ne (by decide)), Function.update_self]
theorem VV2_2 (c : Dev nD) : VV2 m c main_v3_2 = (dat0 (VV1 m) c).arrAt 7 cfg0.N := by
  unfold VV2 W2
  rw [Function.update_self]
theorem VV4_5 (c : Dev nD) : VV4 m c main_v5 = (dat1 (VV3 m) c).arrAt 5 cfg1.N := by
  unfold VV4 W4
  rw [Function.update_self]

theorem VV2_ne (c : Dev nD) (r : Ref sig .tc) (h0 : r ≠ main_v3_0) (h1 : r ≠ main_v3_1) (h2 : r ≠ main_v3_2) : VV2 m c r = VV1 m c r := by
  unfold VV2 W2 VV1
  rw [Function.update_of_ne (StableHlo.devRef_ne_of_ne h2), Function.update_of_ne (StableHlo.devRef_ne_of_ne h1), Function.update_of_ne (StableHlo.devRef_ne_of_ne h0)]
theorem VV4_ne (c : Dev nD) (r : Ref sig .tc) (h : r ≠ main_v5) : VV4 m c r = VV3 m c r := by
  unfold VV4 W4 VV3
  rw [Function.update_of_ne (StableHlo.devRef_ne_of_ne h)]

theorem V2_eq (c : Dev nD) : V2 m (outs m) c = W2 m c := by
  unfold V2
  rw [show outs m 2 main_v3_0 c = (dat0 (VV1 m) c).arrAt 5 cfg0.N from VV2_0 m c, show outs m 2 main_v3_1 c = (dat0 (VV1 m) c).arrAt 6 cfg0.N from VV2_1 m c,
    show outs m 2 main_v3_2 c = (dat0 (VV1 m) c).arrAt 7 cfg0.N from VV2_2 m c]
  rfl
theorem V3_eq (c : Dev nD) : V3 m (outs m) c = W3 m c := by unfold V3; rw [V2_eq]; rfl
theorem V4_eq (c : Dev nD) : V4 m (outs m) c = W4 m c := by
  unfold V4
  rw [V3_eq, show outs m 4 main_v5 c = (dat1 (VV3 m) c).arrAt 5 cfg1.N from VV4_5 m c]
  rfl
theorem V5_eq (c : Dev nD) : V5 m (outs m) c = StableHlo.after hostOps2 (W4 m c) := by unfold V5; rw [V4_eq]

/-- The two regions' proof data. -/
def pdats : (p : Fin 2) → (c : Dev nD) → Dat τ (Elt F) Unit ℕ (UR sig nD τ) ℕ (cfgs p) c
  | ⟨0, _⟩ => fun c => dat0 (VV1 m) c
  | ⟨1, _⟩ => fun c => dat1 (VV3 m) c

abbrev L : GSem nD τ sig → Finset Unit := fun _ => ∅
abbrev lv : GSem nD τ sig → Unit → ℕ := fun _ _ => 0

/-- What rides beside the buffers: the core's dues, none. -/
abbrev E (_ : Fin 3) (c : Dev nD) : sProp 𝕄 := iprop(∃ W, owes (c : Thread nD τ) (0 : CellTallies nD τ sig Unit) W)

set_option backward.isDefEq.respectTransparency.types false in
/-- The first region, from its entry contents to those it leaves. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (obligation0 (VV1 m) c).loose
  hwaits := Pipeline.hwaits_of_owed_zero _ _ _ _ L lv 0 fun _ _ => rfl
  pre c := iprop(unscopedBufs c (VV1 m c) ∗ ∃ W, owes (c : Thread nD τ) (0 : CellTallies nD τ sig Unit) W)
  post c := iprop(unscopedBufs c (VV2 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest spec0 c from rfl]
    iintro ⟨-, -, Hr⟩; iexact Hr
  hout c := by
    rw [Pipeline.ownSems0_none, show (pdats m 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (VV1 m c) (VV2 m c) ((pdats m 0 c).arrAt · cfg0.N)
      (fun w => by
        fin_cases w
        · exact ((pdats m 0 c).arrAt_in 0 rfl _).trans (VV2_ne m c main_v0 (by decide) (by decide) (by decide)).symm
        · exact ((pdats m 0 c).arrAt_in 1 rfl _).trans (VV2_ne m c main_v1 (by decide) (by decide) (by decide)).symm
        · exact ((pdats m 0 c).arrAt_in 2 rfl _).trans (VV2_ne m c main_arg2 (by decide) (by decide) (by decide)).symm
        · exact ((pdats m 0 c).arrAt_in 3 rfl _).trans (VV2_ne m c main_arg3 (by decide) (by decide) (by decide)).symm
        · exact ((pdats m 0 c).arrAt_in 4 rfl _).trans (VV2_ne m c main_v2 (by decide) (by decide) (by decide)).symm
        · exact (VV2_0 m c).symm
        · exact (VV2_1 m c).symm
        · exact (VV2_2 m c).symm)
      (fun b hb => VV2_ne m c b (fun h => hb (h ▸ Finset.mem_image.mpr ⟨5, Finset.mem_univ _, rfl⟩))
        (fun h => hb (h ▸ Finset.mem_image.mpr ⟨6, Finset.mem_univ _, rfl⟩)) (fun h => hb (h ▸ Finset.mem_image.mpr ⟨7, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem pdats_1 (c : Dev nD) : pdats m 1 c = dat1 (VV3 m) c := rfl
theorem pd1 (c : Dev nD) (w : Fin cfg1.W) : (pdats m 1 c).arrAt w cfg1.N = (dat1 (VV3 m) c).arrAt w cfg1.N :=
  congrArg (fun d : Dat τ (Elt F) Unit ℕ (UR sig nD τ) ℕ cfg1 c => d.arrAt w cfg1.N) (pdats_1 m c)

/-- An input of the second region is left as it was. -/
theorem in1 (c : Dev nD) (w : Fin cfg1.W) (h : (cfg1.win w).isOut = false) :
    (pdats m 1 c).arrAt w cfg1.N = VV3 m c (Pipeline.arrRef spec1 w) :=
  (pd1 m c w).trans <| ((dat1 (VV3 m) c).arrAt_in w h _).trans (A_eq (VV3 m) c w)

set_option backward.isDefEq.respectTransparency.types false in
/-- The second region, likewise. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation (VV3 m) c).loose
  hwaits := Pipeline.hwaits_of_owed_zero _ _ _ _ L lv 1 fun _ _ => rfl
  pre c := iprop(unscopedBufs c (VV3 m c) ∗ ∃ W, owes (c : Thread nD τ) (0 : CellTallies nD τ sig Unit) W)
  post c := iprop(unscopedBufs c (VV4 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (VV3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV3 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    have h : Pipeline.scopedRest spec1 c ⊢ (pdats m 1 c).Φ 0 := hin (VV3 m) c
    iintro ⟨-, -, Hr⟩; iapply h; iexact Hr
  hout c := by
    rw [Pipeline.ownSems0_none]
    have h : (pdats m 1 c).Φ (Fin.last _) ⊢ Pipeline.scopedRest spec1 c := hout (VV3 m) c
    iintro Hr
    isplitr; · iempintro
    isplitr; · iempintro
    iapply h; iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (VV3 m c) (VV4 m c) ((pdats m 1 c).arrAt · cfg1.N)
      (fun w => by
        fin_cases w
        · exact (in1 m c 0 rfl).trans (VV4_ne m c main_v3_0 (by decide)).symm
        · exact (in1 m c 1 rfl).trans (VV4_ne m c main_v3_1 (by decide)).symm
        · exact (in1 m c 2 rfl).trans (VV4_ne m c main_v3_2 (by decide)).symm
        · exact (in1 m c 3 rfl).trans (VV4_ne m c main_arg5 (by decide)).symm
        · exact (in1 m c 4 rfl).trans (VV4_ne m c main_v4 (by decide)).symm
        · exact (pd1 m c 5).trans (VV4_5 m c).symm)
      (fun b hb => VV4_ne m c b (fun h => hb (h ▸ Finset.mem_image.mpr ⟨5, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem pre0 (c : Dev nD) : iprop(StableHlo.held (c : Thread nD τ) (Pipeline.ucRefs τ sig) (V1 m c) ∗ E 0 c) ⊢ (reg0 m).pre c := by
  rw [← Pipeline.unscopedBufs_held (Ix := Unit) (Name := ℕ) (U := UR sig nD τ) (Lvl := ℕ) c (V1 m c)]; exact .rfl
theorem post0 (c : Dev nD) : (reg0 m).post c ⊢ iprop(StableHlo.held (c : Thread nD τ) (Pipeline.ucRefs τ sig) (V2 m (outs m) c) ∗ E 1 c) := by
  rw [V2_eq, ← Pipeline.unscopedBufs_held (Ix := Unit) (Name := ℕ) (U := UR sig nD τ) (Lvl := ℕ) c (W2 m c)]; exact .rfl
theorem pre1 (c : Dev nD) : iprop(StableHlo.held (c : Thread nD τ) (Pipeline.ucRefs τ sig) (V3 m (outs m) c) ∗ E 1 c) ⊢ (reg1 m).pre c := by
  rw [V3_eq, ← Pipeline.unscopedBufs_held (Ix := Unit) (Name := ℕ) (U := UR sig nD τ) (Lvl := ℕ) c (W3 m c)]; exact .rfl
theorem post1 (c : Dev nD) : (reg1 m).post c ⊢ iprop(StableHlo.held (c : Thread nD τ) (Pipeline.ucRefs τ sig) (V4 m (outs m) c) ∗ E 2 c) := by
  rw [V4_eq, ← Pipeline.unscopedBufs_held (Ix := Unit) (Name := ℕ) (U := UR sig nD τ) (Lvl := ℕ) c (W4 m c)]; exact .rfl

/-- The launch's ghost state. -/
theorem hu0 : (ownU (initOf (Pipeline.cells cfgs cellOf_inj) (Pipeline.launchToks cfgs cellOf_inj)) : sProp 𝕄) ⊢ |={Set.univ}=>
    iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]; · iapply (show (ownU _ : sProp 𝕄) ⊢ BI.own (emb₁ (initOf (Pipeline.cells cfgs cellOf_inj) (Pipeline.launchToks cfgs cellOf_inj))) from .rfl); iexact Hu
  iapply (show (BI.emp : sProp 𝕄) ⊢ bigSep Finset.univ (fun _ : Dev nD => (BI.emp : sProp 𝕄)) from by rw [BI.bigSep_emp_const])
  iempintro

theorem hE0 (ρ : Dev nD → PrngReg) : iprop((bigSep Finset.univ fun c : Dev nD => iprop(unscopedSems0 c ∗ owes (c : Thread nD τ) (0 : CellTallies nD τ sig Unit) ∅ ∗ Pipeline.launchCred (fun _ => 0) c ∗ prngReg c (ρ c) ∗ BI.emp)) ∗ levAts L lv)
      ⊢ (|={Set.univ}=> bigSep Finset.univ (E 0) : sProp 𝕄) := by
  have h : (bigSep Finset.univ fun c : Dev nD => iprop(unscopedSems0 c ∗ owes (c : Thread nD τ) (0 : CellTallies nD τ sig Unit) ∅ ∗ Pipeline.launchCred (fun _ => 0) c ∗ prngReg c (ρ c) ∗ BI.emp))
      ⊢ (bigSep Finset.univ (E 0) : sProp 𝕄) := bigSep_mono fun c _ => by
    show iprop(unscopedSems0 c ∗ owes (c : Thread nD τ) (0 : CellTallies nD τ sig Unit) ∅ ∗ Pipeline.launchCred (fun _ => 0) c ∗ prngReg c (ρ c) ∗ BI.emp)
      ⊢ (iprop(∃ W, owes (c : Thread nD τ) (0 : CellTallies nD τ sig Unit) W) : sProp 𝕄)
    iintro ⟨-, HO, -, -, -⟩
    iexists ∅; iexact HO
  iintro ⟨H, -⟩
  imodintro
  iapply h; iexact H

variable (ρ : Dev nD → PrngReg)

set_option backward.isDefEq.respectTransparency.types false in
/-- The frame: every argument as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  frame_cond m emb₁ () Variants.none L lv (fun _ _ => rfl) ρ (outs m) (pdats m) (fun _ => 0) (fun _ => BI.emp) _ hu0 E (hE0 ρ) (fun _ => .rfl)
    (reg0 m) (pre0 m) (post0 m) (reg1 m) (pre1 m) (post1 m)

end Cert.Kernel.Whole

end
-- ==== Proof.WholeRun.lean ====
/- The whole program's run with its four results read off the last contents. -/
module

public import proofs.«01_k».proof.Proof.Segs

@[expose] public section

set_option maxRecDepth 16384

noncomputable section

namespace Cert.KernelIdeal.Whole

open Cert.KernelIdeal Cert.KernelIdeal.Gen Cert.KernelIdeal.Tr Cert.KernelIdeal.Gemm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

set_option backward.isDefEq.respectTransparency.types false in
/-- The run: each result as the last contents give it, each argument as launched. -/
theorem run : θ_run defs (onTc (τ := τ) (main (F := F))) ⟨m, fun _ => 0, ρ⟩ (fun r => ∀ c : Dev nD,
      r.2.mem ((c.tc : Thread nD τ).loc main_v6) = V5 m (outs m) c main_v6 ∧ r.2.mem ((c.tc : Thread nD τ).loc main_v7) = V5 m (outs m) c main_v7 ∧ r.2.mem ((c.tc : Thread nD τ).loc main_v10) = V5 m (outs m) c main_v10 ∧ r.2.mem ((c.tc : Thread nD τ).loc main_v14) = V5 m (outs m) c main_v14 ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) := by
  refine Pipeline.θ_run_regions_kit_dev_sems (pcfgs (F := F)) adm (pdats m) () cellOf_inj emb₁ defs₀ Variants.none L lv m ρ main
    (segs m (outs m) Variants.none L lv E () (pdats m) (reg0 m) (reg1 m))
    (fun c Q => by
      rewrite [main_chain c, Seg.run_eq_chain,
        show (segs m (outs m) Variants.none L lv E () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl) (fun _ => BI.emp) _ hu0
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, pre0 m c, post0 m c, pre1 m c, post1 m c, sep_mono .rfl .rfl⟩)
    (hinit := ?_) (QY := fun c s => s.mem ((c.tc : Thread nD τ).loc main_v6) = V5 m (outs m) c main_v6 ∧ s.mem ((c.tc : Thread nD τ).loc main_v7) = V5 m (outs m) c main_v7 ∧ s.mem ((c.tc : Thread nD τ).loc main_v10) = V5 m (outs m) c main_v10 ∧ s.mem ((c.tc : Thread nD τ).loc main_v14) = V5 m (outs m) c main_v14 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h _ => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (BI.emp : sProp 𝕄)))
            : sProp (MT nD τ sig Unit (Elt F) ℕ (UR sig nD τ) ℕ)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: each buffer read off the last valuation
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨h (Proc.devRef .tc main_v6) (Finset.mem_filter.mpr ⟨StableHlo.devRef_mem_tcRefs main_v6, by decide⟩),
        h (Proc.devRef .tc main_v7) (Finset.mem_filter.mpr ⟨StableHlo.devRef_mem_tcRefs main_v7, by decide⟩),
        h (Proc.devRef .tc main_v10) (Finset.mem_filter.mpr ⟨StableHlo.devRef_mem_tcRefs main_v10, by decide⟩),
        h (Proc.devRef .tc main_v14) (Finset.mem_filter.mpr ⟨StableHlo.devRef_mem_tcRefs main_v14, by decide⟩),
        (h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        (h (Proc.devRef .tc main_arg3) (Finset.mem_filter.mpr ⟨StableHlo.devRef_mem_tcRefs main_arg3, by decide⟩)).trans (V5_main_arg3 m (outs m) c),
        (h (Proc.devRef .tc main_arg4) (Finset.mem_filter.mpr ⟨StableHlo.devRef_mem_tcRefs main_arg4, by decide⟩)).trans (V5_main_arg4 m (outs m) c),
        (h (Proc.devRef .tc main_arg5) (Finset.mem_filter.mpr ⟨StableHlo.devRef_mem_tcRefs main_arg5, by decide⟩)).trans (V5_main_arg5 m (outs m) c),
        (h (Proc.devRef .tc main_arg6) (Finset.mem_filter.mpr ⟨StableHlo.devRef_mem_tcRefs main_arg6, by decide⟩)).trans (V5_main_arg6 m (outs m) c)⟩
    · iexact HSI

end Cert.KernelIdeal.Whole

end
-- ==== Proof.WhMath.lean ====
/- The transform's and the quantiser's arithmetic over the extended reals, in no program's terms: the rotated activation, a
   token's extrema, its scale, its zero point and its codes. -/
module

public import Idealize.ShloMosaic.PureOps.Ideal
public import Idealize.ShloMosaic.PureOps.Ideal.Laws
public import Idealize.ShloMosaic.PureOps.Reduce
public import Idealize.ShloMosaic.Lib.Pointwise

@[expose] public section

noncomputable section

namespace Cert.WhMath

open Idealize.ShloMosaic

/-- Column `128 i + j` of a row. -/
def col (i : Fin 112) (j : Fin 128) : Fin 14336 := ⟨128 * i.val + j.val, by omega⟩

/-- One token's activation, scaled by column and rotated on both sides. -/
def rot (x cs : Fin 14336 → EReal) (p1 : Fin 112 → Fin 112 → EReal) (p2 : Fin 128 → Fin 128 → EReal) (a : Fin 112) (k : Fin 128) : EReal :=
  ∑ i : Fin 112, p1 i a * ∑ j : Fin 128, (x (col i j) * cs (col i j)) * p2 j k

/-- The constant fifteen. -/
def c15 : EReal := ((15 : ℝ) : EReal)

theorem ofBits_15 : Ideal.ofBits .f32 0x41700000#32 = c15 := by
  unfold c15; simp [Ideal.ofBits, Ideal.ieee, -EReal.coe_mul]; norm_num
theorem ofBits_1 : Ideal.ofBits .f32 0x3F800000#32 = 1 := by simp [Ideal.ofBits, Ideal.ieee, -EReal.coe_mul]; norm_num
theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

/-- To the nearest whole number, ties to even. -/
def rnd (x : EReal) : EReal := Ideal.liftRound Ideal.roundHalfEven x

/-- The largest and the smallest of a token's rotated elements. -/
def rmax (z : Fin 112 → Fin 128 → EReal) : EReal := ⨆ k, ⨆ a, z a k
def rmin (z : Fin 112 → Fin 128 → EReal) : EReal := ⨅ k, ⨅ a, z a k

/-- The scale from the clipping factor `α` and the extrema. -/
def scl (α mn mx : EReal) : EReal := if α * mx = α * mn then 1 else Ideal.div (α * mx - α * mn) c15

/-- Into `[0, 15]`. -/
def clip15 (x : EReal) : EReal := min c15 (max 0 x)

/-- The zero point. -/
def zpt (α mn mx : EReal) : EReal := clip15 (rnd (Ideal.div (-(α * mn)) (scl α mn mx)))

/-- One code, before it becomes an integer. -/
def cod (α mn mx z : EReal) : EReal := clip15 (rnd (Ideal.div z (scl α mn mx)) + zpt α mn mx)

theorem clip15_real (x : EReal) : ∃ r : ℝ, clip15 x = (r : EReal) ∧ 0 ≤ r ∧ r ≤ 15 := by
  have h0 : (0 : EReal) ≤ clip15 x := le_min (by unfold c15; exact_mod_cast (by norm_num : (0:ℝ) ≤ 15)) (le_max_left _ _)
  have h1 : clip15 x ≤ c15 := min_le_left _ _
  generalize clip15 x = v at h0 h1
  unfold c15 at h1
  induction v with
  | bot => exact absurd h0 (by simp)
  | top => exact absurd h1 (by simp)
  | coe r => exact ⟨r, rfl, by exact_mod_cast h0, by exact_mod_cast h1⟩

/-- A value in `[0, 15]` taken to an 8-bit integer through a 32-bit one, or at once. -/
theorem fptosi_narrow (x : EReal) : BitVec.setWidth 8 (Ideal.fptosi 32 (clip15 x)) = Ideal.fptosi 8 (clip15 x) := by
  obtain ⟨r, h, h0, h1⟩ := clip15_real x
  rw [h, Ideal.fptosi, Ideal.fptosi, Ideal.toIntClamped_coe, Ideal.toIntClamped_coe, if_pos h0]
  have a0 : 0 ≤ ⌊r⌋ := Int.floor_nonneg.mpr h0
  have a1 : ⌊r⌋ ≤ 15 := by
    have := Int.floor_le_floor h1
    simpa using this
  generalize ⌊r⌋ = n at a0 a1
  interval_cases n <;> decide

/-- A zero point kept as a 32-bit integer comes back unchanged. -/
theorem zpt_int (α mn mx : EReal) : (((Ideal.fptosi 32 (zpt α mn mx)).toInt : ℝ) : EReal) = zpt α mn mx := by
  have hi : ∃ n : ℤ, zpt α mn mx = (((n : ℤ) : ℝ) : EReal) ∧ 0 ≤ n ∧ n ≤ 15 := by
    obtain ⟨r, h, h0, h1⟩ := clip15_real (rnd (Ideal.div (-(α * mn)) (scl α mn mx)))
    unfold zpt
    generalize Ideal.div (-(α * mn)) (scl α mn mx) = v at h
    have key : ∃ n : ℤ, clip15 (rnd v) = (((n : ℤ) : ℝ) : EReal) := by
      have hz : ∃ n : ℤ, (0 : EReal) = (((n : ℤ) : ℝ) : EReal) := ⟨0, by simp⟩
      have hf : ∃ n : ℤ, c15 = (((n : ℤ) : ℝ) : EReal) := ⟨15, by unfold c15; norm_num⟩
      have hm : max 0 (rnd v) = ⊤ ∨ ∃ n : ℤ, max 0 (rnd v) = (((n : ℤ) : ℝ) : EReal) := by
        induction v with
        | bot => right; rw [show rnd ⊥ = ⊥ from rfl, max_eq_left bot_le]; exact hz
        | top => left; rw [show rnd ⊤ = ⊤ from rfl, max_eq_right le_top]
        | coe r =>
          right
          rcases max_choice (0 : EReal) (rnd r) with e | e
          · rw [e]; exact hz
          · rw [e]; exact ⟨_, rfl⟩
      unfold clip15
      rcases hm with e | ⟨n, e⟩
      · rw [e, min_eq_left le_top]; exact hf
      · rw [e]
        rcases min_choice c15 (((n : ℤ) : ℝ) : EReal) with e' | e'
        · rw [e']; exact hf
        · rw [e']; exact ⟨n, rfl⟩
    obtain ⟨n, hn⟩ := key
    refine ⟨n, hn, ?_, ?_⟩
    · rw [hn] at h
      have : ((n : ℤ) : ℝ) = r := by exact_mod_cast h
      exact_mod_cast this ▸ h0
    · rw [hn] at h
      have : ((n : ℤ) : ℝ) = r := by exact_mod_cast h
      exact_mod_cast this ▸ h1
  obtain ⟨n, h, h0, h1⟩ := hi
  have e : (Ideal.fptosi 32 (((n : ℤ) : ℝ) : EReal)).toInt = n := by
    rw [Ideal.fptosi, Ideal.toIntClamped_coe, if_pos (by exact_mod_cast h0), Int.floor_intCast]
    interval_cases n <;> decide
  rw [h, e]

/-- A running maximum or minimum over an index set is the supremum or infimum. -/
theorem fold_max {n : ℕ} (f : Fin n → EReal) : (Finset.univ : Finset (Fin n)).fold max ⊥ f = ⨆ i, f i :=
  Finset.sup_univ_eq_iSup f
theorem fold_min {n : ℕ} (f : Fin n → EReal) : (Finset.univ : Finset (Fin n)).fold min ⊤ f = ⨅ i, f i :=
  Finset.inf_univ_eq_iInf f

/-- The extrema over a row of columns. -/
theorem rmax_row (f : Fin 14336 → EReal) : (⨆ i, f i) = rmax fun a k => f (col a k) := by
  refine le_antisymm (iSup_le fun i => ?_) (iSup_le fun k => iSup_le fun a => le_iSup f _)
  have e : i = col ⟨i.val / 128, by omega⟩ ⟨i.val % 128, by omega⟩ := Fin.ext (by show i.val = 128 * (i.val / 128) + i.val % 128; omega)
  have h := le_iSup_of_le (f := fun k => ⨆ a, f (col a k)) ⟨i.val % 128, by omega⟩
    (le_iSup (fun a => f (col a ⟨i.val % 128, by omega⟩)) ⟨i.val / 128, by omega⟩)
  rw [← e] at h
  exact h
theorem rmin_row (f : Fin 14336 → EReal) : (⨅ i, f i) = rmin fun a k => f (col a k) := by
  refine le_antisymm (le_iInf fun k => le_iInf fun a => iInf_le f _) (le_iInf fun i => ?_)
  have e : i = col ⟨i.val / 128, by omega⟩ ⟨i.val % 128, by omega⟩ := Fin.ext (by show i.val = 128 * (i.val / 128) + i.val % 128; omega)
  have h := iInf_le_of_le (f := fun k => ⨅ a, f (col a k)) ⟨i.val % 128, by omega⟩
    (iInf_le (fun a => f (col a ⟨i.val % 128, by omega⟩)) ⟨i.val / 128, by omega⟩)
  rw [← e] at h
  exact h

/-- The supremum over the first `n + 1` row blocks, one more block at a time. -/
theorem iSup_step (f : Fin 112 → EReal) (n : ℕ) (h : n + 1 < 112) :
    (⨆ a : {a : Fin 112 // a.val ≤ n + 1}, f a.1) = max (⨆ a : {a : Fin 112 // a.val ≤ n}, f a.1) (f ⟨n + 1, h⟩) := by
  refine le_antisymm (iSup_le fun ⟨a, ha⟩ => ?_) (max_le (iSup_le fun ⟨a, ha⟩ => ?_) ?_)
  · rcases Nat.lt_or_ge a.val (n + 1) with hl | hl
    · exact le_max_of_le_left (le_iSup (fun a : {a : Fin 112 // a.val ≤ n} => f a.1) ⟨a, by omega⟩)
    · exact le_max_of_le_right (le_of_eq (congrArg f (Fin.ext (by show a.val = n + 1; omega))))
  · exact le_iSup (fun a : {a : Fin 112 // a.val ≤ n + 1} => f a.1) ⟨a, by omega⟩
  · exact le_iSup (fun a : {a : Fin 112 // a.val ≤ n + 1} => f a.1) ⟨⟨n + 1, h⟩, le_rfl⟩
theorem iInf_step (f : Fin 112 → EReal) (n : ℕ) (h : n + 1 < 112) :
    (⨅ a : {a : Fin 112 // a.val ≤ n + 1}, f a.1) = min (⨅ a : {a : Fin 112 // a.val ≤ n}, f a.1) (f ⟨n + 1, h⟩) := by
  refine le_antisymm (le_min (le_iInf fun ⟨a, ha⟩ => ?_) ?_) (le_iInf fun ⟨a, ha⟩ => ?_)
  · exact iInf_le (fun a : {a : Fin 112 // a.val ≤ n + 1} => f a.1) ⟨a, by omega⟩
  · exact iInf_le (fun a : {a : Fin 112 // a.val ≤ n + 1} => f a.1) ⟨⟨n + 1, h⟩, le_rfl⟩
  · rcases Nat.lt_or_ge a.val (n + 1) with hl | hl
    · exact min_le_of_left_le (iInf_le (fun a : {a : Fin 112 // a.val ≤ n} => f a.1) ⟨a, by omega⟩)
    · exact min_le_of_right_le (le_of_eq (congrArg f (Fin.ext (by show n + 1 = a.val; omega))))
theorem iSup_first (f : Fin 112 → EReal) : (⨆ a : {a : Fin 112 // a.val ≤ 0}, f a.1) = f 0 :=
  le_antisymm (iSup_le fun ⟨a, ha⟩ => le_of_eq (congrArg f (Fin.ext (by show a.val = 0; omega))))
    (le_iSup (fun a : {a : Fin 112 // a.val ≤ 0} => f a.1) ⟨0, le_rfl⟩)
theorem iInf_first (f : Fin 112 → EReal) : (⨅ a : {a : Fin 112 // a.val ≤ 0}, f a.1) = f 0 :=
  le_antisymm (iInf_le (fun a : {a : Fin 112 // a.val ≤ 0} => f a.1) ⟨0, le_rfl⟩)
    (le_iInf fun ⟨a, ha⟩ => le_of_eq (congrArg f (Fin.ext (by show 0 = a.val; omega))))
theorem iSup_last (f : Fin 112 → EReal) : (⨆ a : {a : Fin 112 // a.val ≤ 111}, f a.1) = ⨆ a, f a :=
  le_antisymm (iSup_le fun a => le_iSup f a.1) (iSup_le fun a => le_iSup (fun a : {a : Fin 112 // a.val ≤ 111} => f a.1) ⟨a, by omega⟩)
theorem iInf_last (f : Fin 112 → EReal) : (⨅ a : {a : Fin 112 // a.val ≤ 111}, f a.1) = ⨅ a, f a :=
  le_antisymm (le_iInf fun a => iInf_le (fun a : {a : Fin 112 // a.val ≤ 111} => f a.1) ⟨a, by omega⟩) (le_iInf fun a => iInf_le f a.1)

end Cert.WhMath

end
-- ==== Proof.TrAlg.lean ====
/- The transform's stages over the extended reals: the rotated activation of every token, element by element. -/
module

public import proofs.«01_k».proof.Proof.TrVal
public import proofs.«01_k».proof.Proof.WhMath

@[expose] public section

set_option maxRecDepth 16384

noncomputable section

namespace Cert.KernelIdeal.Tr

open Cert.KernelIdeal Cert.KernelIdeal.Gen Cert.WhMath
open Idealize.ShloMosaic

/-- A sum over two hundred and fifty-six indices, by halves. -/
theorem sum_256 (f : Fin 256 → EReal) : ∑ c, f c = (∑ j : Fin 128, f ⟨j.val, by omega⟩) + ∑ j : Fin 128, f ⟨128 + j.val, by omega⟩ :=
  Fin.sum_univ_add (a := 128) (b := 128) f

/-- A sum over one hundred and twenty-eight indices, the last sixteen apart. -/
theorem sum_128 (f : Fin 128 → EReal) : ∑ c, f c = (∑ j : Fin 112, f ⟨j.val, by omega⟩) + ∑ j : Fin 16, f ⟨112 + j.val, by omega⟩ :=
  Fin.sum_univ_add (a := 112) (b := 16) f

/-- The block-diagonal second factor, element by element. -/
theorem bdv_apply (x3 : Vec Ideal S128x128 .bf16) (c d : Fin 256) :
    bdv x3 (ix2 c d) = if c.val / 128 = d.val / 128 then x3 (ix2 ⟨c.val % 128, by omega⟩ ⟨d.val % 128, by omega⟩) else 0 := by
  unfold bdv
  have hc := c.isLt
  have hd := d.isLt
  unfold VecWindow.put
  pointwise [k0_pay163, k0_pay164, k0_pay165]
  by_cases h1 : 128 ≤ c.val ∧ 128 ≤ d.val
  · rw [dif_pos h1, if_pos (by omega)]
    refine congrArg x3 (funext fun a => Fin.ext ?_)
    match a with
    | ⟨0, _⟩ => show c.val - 128 = c.val % 128; omega
    | ⟨1, _⟩ => show d.val - 128 = d.val % 128; omega
  · rw [dif_neg h1]
    by_cases h2 : c.val < 128 ∧ d.val < 128
    · rw [dif_pos h2, if_pos (by omega)]
      refine congrArg x3 (funext fun a => Fin.ext ?_)
      match a with
      | ⟨0, _⟩ => show c.val - 0 = c.val % 128; omega
      | ⟨1, _⟩ => show d.val - 0 = d.val % 128; omega
    · rw [dif_neg h2, if_neg (by omega)]

/-- The stacked first factor, element by element. -/
theorem ptv_apply (x2 : Vec Ideal S112x112 .bf16) (r : Fin 224) (c : Fin 256) :
    ptv x2 (ix2 r c) = if h : r.val / 112 = c.val / 128 ∧ c.val % 128 < 112 then x2 (ix2 ⟨c.val % 128, h.2⟩ ⟨r.val % 112, by omega⟩) else 0 := by
  unfold ptv VecWindow.put
  have hc := c.isLt
  have hr := r.isLt
  pointwise [k0_pay166, k0_pay167, k0_pay168, k0_pay169]
  by_cases h1 : 112 ≤ r.val ∧ 128 ≤ c.val ∧ c.val < 240
  · rw [dif_pos h1, dif_pos (by omega)]
    refine congrArg x2 (funext fun a => Fin.ext ?_)
    match a with
    | ⟨0, _⟩ => show c.val - 128 = c.val % 128; omega
    | ⟨1, _⟩ => show r.val - 112 = r.val % 112; omega
  · rw [dif_neg h1]
    by_cases h2 : r.val < 112 ∧ c.val < 112
    · rw [dif_pos h2, dif_pos (by omega)]
      refine congrArg x2 (funext fun a => Fin.ext ?_)
      match a with
      | ⟨0, _⟩ => show c.val - 0 = c.val % 128; omega
      | ⟨1, _⟩ => show r.val - 0 = r.val % 112; omega
    · rw [dif_neg h2, dif_neg (by omega)]

/-- A product with the stacked factor takes only the rows of its own half. -/
theorem pt_sum (x2 : Vec Ideal S112x112 .bf16) (r : Fin 224) (f : Fin 256 → EReal) :
    ∑ x, ptv x2 (ix2 r x) * f x = ∑ i : Fin 112, x2 (ix2 i ⟨r.val % 112, by omega⟩) * f ⟨128 * (r.val / 112) + i.val, by omega⟩ := by
  have hr := r.isLt
  simp only [ptv_apply]
  rw [sum_256, sum_128, sum_128]
  have z0 : ∀ (g : Fin 16 → EReal), (∀ j, g j = 0) → ∑ j, g j = 0 := fun g h => Finset.sum_eq_zero fun j _ => h j
  have z1 : ∀ (g : Fin 112 → EReal), (∀ j, g j = 0) → ∑ j, g j = 0 := fun g h => Finset.sum_eq_zero fun j _ => h j
  rcases (by omega : r.val / 112 = 0 ∨ r.val / 112 = 1) with h | h
  · have e2 := z0 _ fun j => by
      show (dite (r.val / 112 = (112 + j.val) / 128 ∧ (112 + j.val) % 128 < 112) (fun h => x2 (ix2 ⟨(112 + j.val) % 128, h.2⟩ ⟨r.val % 112, by omega⟩)) fun _ => 0) * f ⟨112 + j.val, by omega⟩ = 0
      rw [dif_neg (by omega), zero_mul]
    have e3 := z1 _ fun j => by
      show (dite (r.val / 112 = (128 + j.val) / 128 ∧ (128 + j.val) % 128 < 112) (fun h => x2 (ix2 ⟨(128 + j.val) % 128, h.2⟩ ⟨r.val % 112, by omega⟩)) fun _ => 0) * f ⟨128 + j.val, by omega⟩ = 0
      rw [dif_neg (by omega), zero_mul]
    have e4 := z0 _ fun j => by
      show (dite (r.val / 112 = (128 + (112 + j.val)) / 128 ∧ (128 + (112 + j.val)) % 128 < 112) (fun h => x2 (ix2 ⟨(128 + (112 + j.val)) % 128, h.2⟩ ⟨r.val % 112, by omega⟩)) fun _ => 0) * f ⟨128 + (112 + j.val), by omega⟩ = 0
      rw [dif_neg (by omega), zero_mul]
    refine (congrArg₂ (· + ·) (congrArg₂ (· + ·) rfl e2) (congrArg₂ (· + ·) e3 e4)).trans ?_
    simp only [add_zero]
    refine Finset.sum_congr rfl fun i _ => ?_
    rw [dif_pos (by show r.val / 112 = i.val / 128 ∧ i.val % 128 < 112; omega)]
    refine congrArg₂ (· * ·) (congrArg x2 (congrArg₂ ix2 (Fin.ext (by show i.val % 128 = i.val; omega)) rfl)) (congrArg f (Fin.ext (by show i.val = 128 * (r.val / 112) + i.val; omega)))
  · have e1 := z1 _ fun j => by
      show (dite (r.val / 112 = (j.val) / 128 ∧ (j.val) % 128 < 112) (fun h => x2 (ix2 ⟨(j.val) % 128, h.2⟩ ⟨r.val % 112, by omega⟩)) fun _ => 0) * f ⟨j.val, by omega⟩ = 0
      rw [dif_neg (by omega), zero_mul]
    have e2 := z0 _ fun j => by
      show (dite (r.val / 112 = (112 + j.val) / 128 ∧ (112 + j.val) % 128 < 112) (fun h => x2 (ix2 ⟨(112 + j.val) % 128, h.2⟩ ⟨r.val % 112, by omega⟩)) fun _ => 0) * f ⟨112 + j.val, by omega⟩ = 0
      rw [dif_neg (by omega), zero_mul]
    have e4 := z0 _ fun j => by
      show (dite (r.val / 112 = (128 + (112 + j.val)) / 128 ∧ (128 + (112 + j.val)) % 128 < 112) (fun h => x2 (ix2 ⟨(128 + (112 + j.val)) % 128, h.2⟩ ⟨r.val % 112, by omega⟩)) fun _ => 0) * f ⟨128 + (112 + j.val), by omega⟩ = 0
      rw [dif_neg (by omega), zero_mul]
    refine (congrArg₂ (· + ·) (congrArg₂ (· + ·) e1 e2) (congrArg₂ (· + ·) rfl e4)).trans ?_
    simp only [add_zero, zero_add]
    refine Finset.sum_congr rfl fun i _ => ?_
    rw [dif_pos (by show r.val / 112 = (128 + i.val) / 128 ∧ (128 + i.val) % 128 < 112; omega)]
    refine congrArg₂ (· * ·) (congrArg x2 (congrArg₂ ix2 (Fin.ext (by show (128 + i.val) % 128 = i.val; omega)) rfl)) (congrArg f (Fin.ext (by show 128 + i.val = 128 * (r.val / 112) + i.val; omega)))

/-- One token's first rotation out of a column pair's product. -/
theorem pay170_apply (v37 v42 : Vec Ideal S1x128 .f32) (v46 : Vec Ideal S256x256 .bf16) (x3 : Vec Ideal S128x128 .bf16) (r : Fin 256) (p : Fin 2) (l : Fin 128) :
    k0_pay170 v37 v42 v46 (bdv x3) (ix3 r p l)
      = ∑ j : Fin 128, (v46 (ix2 r ⟨128 * p.val + j.val, by omega⟩) * (if p.val = 0 then v37 (ix2 0 j) else v42 (ix2 0 j))) * x3 (ix2 j l) := by
  have hp := p.isLt
  have hl := l.isLt
  pointwise [k0_pay170]
  simp only [bdv_apply]
  rcases (by omega : p.val = 0 ∨ p.val = 1) with h | h
  · rw [if_pos (by omega)]
    have e2 : (∑ x : Fin 128, v46 (ix2 r ⟨128 + x.val, by omega⟩) * v42 (ix2 0 x) * (if (128 + x.val) / 128 = l.val / 128 then x3 (ix2 ⟨(128 + x.val) % 128, by omega⟩ ⟨l.val % 128, by omega⟩) else 0)) = 0 :=
      Finset.sum_eq_zero fun j _ => by rw [if_neg (by omega), mul_zero]
    refine (congrArg₂ (· + ·) rfl e2).trans ?_
    rw [add_zero]
    refine Finset.sum_congr rfl fun j _ => ?_
    have hj := j.isLt
    rw [if_pos (by show j.val / 128 = l.val / 128; omega), if_pos h]
    refine congrArg₂ (· * ·) (congrArg₂ (· * ·) (congrArg v46 (congrArg (ix2 r) (Fin.ext (by show j.val = 128 * p.val + j.val; omega)))) rfl)
      (congrArg x3 (congrArg₂ ix2 (Fin.ext (by show j.val % 128 = j.val; omega)) (Fin.ext (by show l.val % 128 = l.val; omega))))
  · rw [if_neg (by omega)]
    have e1 : (∑ x : Fin 128, v46 (ix2 r ⟨x.val, by omega⟩) * v37 (ix2 0 x) * (if x.val / 128 = (128 + l.val) / 128 then x3 (ix2 ⟨x.val % 128, by omega⟩ ⟨(128 + l.val) % 128, by omega⟩) else 0)) = 0 :=
      Finset.sum_eq_zero fun j _ => by have hj := j.isLt; rw [if_neg (by omega), mul_zero]
    refine (congrArg₂ (· + ·) e1 rfl).trans ?_
    rw [zero_add]
    refine Finset.sum_congr rfl fun j _ => ?_
    have hj := j.isLt
    rw [if_pos (by show (128 + j.val) / 128 = (128 + l.val) / 128; omega), if_neg (by omega)]
    refine congrArg₂ (· * ·) (congrArg₂ (· * ·) (congrArg v46 (congrArg (ix2 r) (Fin.ext (by show 128 + j.val = 128 * p.val + j.val; omega)))) rfl)
      (congrArg x3 (congrArg₂ ix2 (Fin.ext (by show (128 + j.val) % 128 = j.val; omega)) (Fin.ext (by show (128 + l.val) % 128 = l.val; omega))))

/-- Row `i` of a token's tile. -/
def row (A : Vec Ideal S56x2x128 .bf16) (i : Fin 112) (l : Fin 128) : EReal := A (ix3 ⟨i.val / 2, by omega⟩ ⟨i.val % 2, by omega⟩ l)

theorem row_pick (A : Vec Ideal S56x2x128 .bf16) (i : Fin 112) (l : Fin 128) (n : ℕ) (hn : n = i.val) (h : n / 2 < 56) :
    (if n % 2 = 0 then A (ix3 ⟨n / 2, h⟩ 0 l) else A (ix3 ⟨n / 2, h⟩ 1 l)) = row A i l := by
  subst hn
  unfold row
  rcases Nat.mod_two_eq_zero_or_one i.val with e | e
  · rw [if_pos e]
    exact congrArg A (congrArg (fun p => ix3 _ p l) (Fin.ext e.symm))
  · rw [if_neg (by omega)]
    exact congrArg A (congrArg (fun p => ix3 _ p l) (Fin.ext e.symm))

/-- The second rotation of each of four tokens. -/
theorem quad_apply (A : Fin 4 → Vec Ideal S56x2x128 .bf16) (x2 : Vec Ideal S112x112 .bf16) (s : Fin 4) (a : Fin 112) (l : Fin 128) :
    quad (F := Ideal) k0_pay171 (A 0) (A 1) (A 2) (A 3) (ptv x2) s (ix2 a l) = ∑ i : Fin 112, x2 (ix2 i a) * row (A s) i l := by
  have ha := a.isLt
  have hl := l.isLt
  match s with
  | 0 =>
    unfold quad
    pointwise [k0_pay7, k0_pay6, k0_pay171]
    rw [pt_sum]
    refine Finset.sum_congr rfl fun i _ => congrArg₂ (· * ·) (congrArg x2 (congrArg (ix2 i) (Fin.ext (by show (a.val) % 112 = a.val; omega)))) ?_
    have hi := i.isLt
    exact (dif_pos (by show 128 * ((a.val) / 112) + i.val < 112; omega)).trans <| row_pick (A 0) i l _ (by show 128 * ((a.val) / 112) + i.val = i.val; omega) _
  | 1 =>
    unfold quad
    pointwise [k0_pay1, k0_pay8, k0_pay6, k0_pay171]
    rw [pt_sum]
    refine Finset.sum_congr rfl fun i _ => congrArg₂ (· * ·) (congrArg x2 (congrArg (ix2 i) (Fin.ext (by show (112 + a.val) % 112 = a.val; omega)))) ?_
    have hi := i.isLt
    exact (dif_neg (by show ¬ 128 * ((112 + a.val) / 112) + i.val < 112; omega)).trans <| (dif_neg (by show ¬ 128 * ((112 + a.val) / 112) + i.val - 112 < 16; omega)).trans <| (dif_pos (by show 128 * ((112 + a.val) / 112) + i.val - 112 - 16 < 112; omega)).trans <| row_pick (A 1) i l _ (by show 128 * ((112 + a.val) / 112) + i.val - 112 - 16 = i.val; omega) _
  | 2 =>
    unfold quad
    pointwise [k0_pay2, k0_pay6, k0_pay171]
    rw [pt_sum]
    refine Finset.sum_congr rfl fun i _ => congrArg₂ (· * ·) (congrArg x2 (congrArg (ix2 i) (Fin.ext (by show (a.val) % 112 = a.val; omega)))) ?_
    have hi := i.isLt
    exact (dif_pos (by show 128 * ((a.val) / 112) + i.val < 112; omega)).trans <| row_pick (A 2) i l _ (by show 128 * ((a.val) / 112) + i.val = i.val; omega) _
  | 3 =>
    unfold quad
    pointwise [k0_pay3, k0_pay6, k0_pay171]
    rw [pt_sum]
    refine Finset.sum_congr rfl fun i _ => congrArg₂ (· * ·) (congrArg x2 (congrArg (ix2 i) (Fin.ext (by show (112 + a.val) % 112 = a.val; omega)))) ?_
    have hi := i.isLt
    exact (dif_neg (by show ¬ 128 * ((112 + a.val) / 112) + i.val < 112; omega)).trans <| (dif_neg (by show ¬ 128 * ((112 + a.val) / 112) + i.val - 112 < 16; omega)).trans <| (dif_pos (by show 128 * ((112 + a.val) / 112) + i.val - 112 - 16 < 112; omega)).trans <| row_pick (A 3) i l _ (by show 128 * ((112 + a.val) / 112) + i.val - 112 - 16 = i.val; omega) _

theorem off1_eq : ∀ k : Fin k0_t1_loop.trips, k0_off1 k = ![2 * k.val, 0] := by decide +kernel
theorem off2_eq : ∀ k : Fin k0_t1_loop.trips, k0_off2 k = ![2 * k.val + 1, 0] := by decide +kernel
theorem off3_eq : ∀ k : Fin k0_t1_loop.trips, k0_off3 k = ![0, 256 * k.val] := by decide +kernel

/-- One token's row of the first rotation. -/
theorem row_tile (x0 : Vec Ideal S256x14336 .bf16) (x1 : Vec Ideal S112x128 .f32) (x3 : Vec Ideal S128x128 .bf16) (tok : Fin 256) (i : Fin 112) (l : Fin 128) :
    row (tile x0 x1 (bdv x3) tok) i l = ∑ j : Fin 128, (x0 (ix2 tok (col i j)) * x1 (ix2 i j)) * x3 (ix2 j l) := by
  have kh : i.val / 2 < k0_t1_loop.trips := by have := i.isLt; have e : k0_t1_loop.trips = 56 := by decide +kernel
                                               omega
  let kk : Fin k0_t1_loop.trips := ⟨i.val / 2, kh⟩
  unfold row tile T1
  refine (pay170_apply _ _ _ x3 tok _ l).trans (Finset.sum_congr rfl fun j _ => congrArg₂ (· * ·) (congrArg₂ (· * ·) ?_ ?_) rfl)
  · unfold VecWindow.window
    refine congrArg x0 (funext fun b => Fin.ext ?_)
    match b with
    | ⟨0, _⟩ => refine (congrArg (· + _) (congrFun (off3_eq kk) 0)).trans ?_; show 0 + 1 * tok.val = tok.val; omega
    | ⟨1, _⟩ => refine (congrArg (· + _) (congrFun (off3_eq kk) 1)).trans ?_; show 256 * (i.val / 2) + 1 * (128 * (i.val % 2) + j.val) = 128 * i.val + j.val; omega
  · show (if i.val % 2 = 0 then _ else _) = _
    rcases Nat.mod_two_eq_zero_or_one i.val with h | h
    · rw [if_pos h]
      unfold VecWindow.window
      refine congrArg x1 (funext fun b => Fin.ext ?_)
      match b with
      | ⟨0, _⟩ => refine (congrArg (· + _) (congrFun (off1_eq kk) 0)).trans ?_; show 2 * (i.val / 2) + 1 * 0 = i.val; omega
      | ⟨1, _⟩ => refine (congrArg (· + _) (congrFun (off1_eq kk) 1)).trans ?_; show 0 + 1 * j.val = j.val; omega
    · rw [if_neg (by omega)]
      unfold VecWindow.window
      refine congrArg x1 (funext fun b => Fin.ext ?_)
      match b with
      | ⟨0, _⟩ => refine (congrArg (· + _) (congrFun (off2_eq kk) 0)).trans ?_; show 2 * (i.val / 2) + 1 + 1 * 0 = i.val; omega
      | ⟨1, _⟩ => refine (congrArg (· + _) (congrFun (off2_eq kk) 1)).trans ?_; show 0 + 1 * j.val = j.val; omega

/-- Every token's rotated activation is the plain one. -/
theorem Zof_apply (x0 : Vec Ideal S256x14336 .bf16) (x1 : Vec Ideal S112x128 .f32) (x2 : Vec Ideal S112x112 .bf16) (x3 : Vec Ideal S128x128 .bf16)
    (tok : Fin 256) (a : Fin 112) (l : Fin 128) :
    Zof x0 x1 x2 x3 tok (ix2 a l)
      = ∑ i : Fin 112, x2 (ix2 i a) * ∑ j : Fin 128, (x0 (ix2 tok (col i j)) * x1 (ix2 i j)) * x3 (ix2 j l) := by
  unfold Zof zed
  refine (quad_apply (fun r => tile x0 x1 (bdv x3) (tk ⟨tok.val / 4, by omega⟩ r)) x2 ⟨tok.val % 4, by omega⟩ a l).trans ?_
  have e : tk ⟨tok.val / 4, by omega⟩ ⟨tok.val % 4, by omega⟩ = tok := Fin.ext (by show 4 * (tok.val / 4) + tok.val % 4 = tok.val; omega)
  simp only [e, row_tile]

/-- The extrema over the first row blocks, element by element. -/
theorem mxmn_apply (Z : Fin 256 → Vec Ideal S112x128 .f32) (k : Fin 8) (r : Fin 32) (l : Fin 128) (n : ℕ) (hn : n < 112) :
    (mxmn Z k n).1 (ix2 r l) = (⨆ a : {a : Fin 112 // a.val ≤ n}, Z ⟨32 * k.val + r.val, by omega⟩ (ix2 a.1 l))
      ∧ (mxmn Z k n).2 (ix2 r l) = ⨅ a : {a : Fin 112 // a.val ≤ n}, Z ⟨32 * k.val + r.val, by omega⟩ (ix2 a.1 l) := by
  induction n with
  | zero => rw [iSup_first fun a => Z ⟨32 * k.val + r.val, by omega⟩ (ix2 a l), iInf_first fun a => Z ⟨32 * k.val + r.val, by omega⟩ (ix2 a l)]; exact ⟨rfl, rfl⟩
  | succ n ih =>
    have ih := ih (by omega)
    rw [iSup_step (fun a => Z ⟨32 * k.val + r.val, by omega⟩ (ix2 a l)) n hn, iInf_step (fun a => Z ⟨32 * k.val + r.val, by omega⟩ (ix2 a l)) n hn, ← ih.1, ← ih.2]
    rw [show mxmn Z k (n + 1) = (k0_pay9 (mxmn Z k n).1 (chunk Z k ⟨n + 1, hn⟩), k0_pay10 (mxmn Z k n).2 (chunk Z k ⟨n + 1, hn⟩)) from dif_pos hn]
    generalize mxmn Z k n = q
    constructor
    · show k0_pay9 q.1 (chunk Z k ⟨n + 1, hn⟩) (ix2 r l) = _
      pointwise [k0_pay9]
      rfl
    · show k0_pay10 q.2 (chunk Z k ⟨n + 1, hn⟩) (ix2 r l) = _
      pointwise [k0_pay10]
      rfl

end Cert.KernelIdeal.Tr

end
-- ==== Proof.TrQAlg.lean ====
/- What the transform's quantiser leaves, element by element: each token's scale, zero point and codes are the plain ones of its
   rotated activation. -/
module

public import proofs.«01_k».proof.Proof.TrAlg

@[expose] public section

noncomputable section

namespace Cert.KernelIdeal.Tr

open Cert.KernelIdeal Cert.KernelIdeal.Gen Cert.WhMath
open Idealize.ShloMosaic

theorem pay4_apply (g : Elt Ideal .f32) (r : Fin 32) (l : Fin 128) : k0_pay4 g (ix2 r l) = Ideal.logistic g := rfl

/-- A row's largest element. -/
theorem max_row (v : Vec Ideal S32x128 .f32) (r : Fin 32) :
    multiReduction (F := Ideal) .maximumf [1] S32 v 0xFF800000#32 reduces_S32x128_S32 (.inl rfl) rfl (ix1 r) = ⨆ k : Fin 128, v (ix2 r k) := by
  refine (Ideal.multiReduction_maximumf_single (φ := .f32) v _ _ _ _ (ix1 r)).trans ?_
  refine (congrArg (fun e => Finset.fold max e _ _) ofBits_bot).trans ((fold_max _).trans (iSup_congr fun k => congrArg v ?_))
  funext b
  match b with
  | ⟨0, _⟩ => exact Fin.ext rfl
  | ⟨1, _⟩ => exact Fin.ext rfl

/-- A row's smallest element. -/
theorem min_row (v : Vec Ideal S32x128 .f32) (r : Fin 32) :
    multiReduction (F := Ideal) .minimumf [1] S32 v 0x7F800000#32 reduces_S32x128_S32 (.inl rfl) rfl (ix1 r) = ⨅ k : Fin 128, v (ix2 r k) := by
  refine (multiReduction_minimumf_eq_fold (F := Ideal) (φ := .f32) v _ _ _ _ (ix1 r)).trans ?_
  refine (reduces_S32x128_S32.fold_filter_drop_single _ _ v (ix1 r)).trans ?_
  refine (congrArg (fun e => Finset.fold min e _ _) ofBits_top).trans ((fold_min _).trans (iInf_congr fun k => congrArg v ?_))
  funext b
  match b with
  | ⟨0, _⟩ => exact Fin.ext rfl
  | ⟨1, _⟩ => exact Fin.ext rfl

theorem pay11_apply (v31 mn : Vec Ideal S32x128 .f32) (r : Fin 32) (l : Fin 128) :
    k0_pay11 v31 mn (ix2 r l) = v31 (ix2 r l) * ⨅ k : Fin 128, mn (ix2 r k) := by
  rw [← min_row]
  pointwise [k0_pay11]

theorem pay12_apply (v31 mx mn : Vec Ideal S32x128 .f32) (r : Fin 32) (l : Fin 128) :
    k0_pay12 v31 mx mn (ix2 r l) = scl (v31 (ix2 r l)) (⨅ k : Fin 128, mn (ix2 r k)) (⨆ k : Fin 128, mx (ix2 r k)) := by
  unfold scl
  rw [← pay11_apply v31 mn r l, ← max_row, ← ofBits_1, ← ofBits_15]
  pointwise [k0_pay12]

theorem pay13_apply (v31 mx mn : Vec Ideal S32x128 .f32) (r : Fin 32) (l : Fin 128) :
    k0_pay13 v31 mx mn (ix2 r l) = zpt (v31 (ix2 r l)) (⨅ k : Fin 128, mn (ix2 r k)) (⨆ k : Fin 128, mx (ix2 r k)) := by
  unfold zpt clip15 rnd
  rw [← pay12_apply, ← pay11_apply v31 mn r l, ← ofBits_15]
  rw [← zero_sub]
  pointwise [k0_pay13]

theorem pay16_apply (sc zp z : Vec Ideal S32x128 .f32) (r : Fin 32) (l : Fin 128) :
    k0_pay16 sc zp z (ix2 r l) = Ideal.fptosi 8 (clip15 (rnd (Ideal.div (z (ix2 r l)) (sc (ix2 r l))) + zp (ix2 r l))) := by
  rw [← fptosi_narrow]
  unfold clip15 rnd
  rw [← ofBits_15]
  pointwise [k0_pay16]
  rfl

/-- A row block's lanes' extrema are its tokens' extrema. -/
theorem mx_last (Z : Fin 256 → Vec Ideal S112x128 .f32) (k : Fin 8) (r : Fin 32) :
    (⨆ l : Fin 128, (mxmn Z k 111).1 (ix2 r l)) = rmax fun a l => Z ⟨32 * k.val + r.val, by omega⟩ (ix2 a l) :=
  iSup_congr fun l => ((mxmn_apply Z k r l 111 (by omega)).1).trans (iSup_last fun a => Z ⟨32 * k.val + r.val, by omega⟩ (ix2 a l))
theorem mn_last (Z : Fin 256 → Vec Ideal S112x128 .f32) (k : Fin 8) (r : Fin 32) :
    (⨅ l : Fin 128, (mxmn Z k 111).2 (ix2 r l)) = rmin fun a l => Z ⟨32 * k.val + r.val, by omega⟩ (ix2 a l) :=
  iInf_congr fun l => ((mxmn_apply Z k r l 111 (by omega)).2).trans (iInf_last fun a => Z ⟨32 * k.val + r.val, by omega⟩ (ix2 a l))

/-- A token's scale, zero point and codes from its own rotated activation. -/
def zr (Z : Fin 256 → Vec Ideal S112x128 .f32) (t : Fin 256) (a : Fin 112) (l : Fin 128) : EReal := Z t (ix2 a l)

theorem sck_apply (g : Elt Ideal .f32) (Z : Fin 256 → Vec Ideal S112x128 .f32) (k : Fin 8) (r : Fin 32) (l : Fin 128) :
    sck g Z k (ix2 r l) = scl (Ideal.logistic g) (rmin (zr Z ⟨32 * k.val + r.val, by omega⟩)) (rmax (zr Z ⟨32 * k.val + r.val, by omega⟩)) := by
  unfold sck
  rw [pay12_apply, mx_last, mn_last]; rfl
theorem zpk_apply (g : Elt Ideal .f32) (Z : Fin 256 → Vec Ideal S112x128 .f32) (k : Fin 8) (r : Fin 32) (l : Fin 128) :
    zpk g Z k (ix2 r l) = zpt (Ideal.logistic g) (rmin (zr Z ⟨32 * k.val + r.val, by omega⟩)) (rmax (zr Z ⟨32 * k.val + r.val, by omega⟩)) := by
  unfold zpk
  rw [pay13_apply, mx_last, mn_last]; rfl
theorem cdk_apply (g : Elt Ideal .f32) (Z : Fin 256 → Vec Ideal S112x128 .f32) (k : Fin 8) (a : Fin 112) (r : Fin 32) (l : Fin 128) :
    cdk g Z k a (ix2 r l) = Ideal.fptosi 8 (cod (Ideal.logistic g) (rmin (zr Z ⟨32 * k.val + r.val, by omega⟩)) (rmax (zr Z ⟨32 * k.val + r.val, by omega⟩))
      (zr Z ⟨32 * k.val + r.val, by omega⟩ a l)) := by
  unfold cdk
  rw [pay16_apply, sck_apply, zpk_apply]; rfl

theorem tok_eq (t : Fin 256) : (⟨32 * (t.val / 32) + t.val % 32, by omega⟩ : Fin 256) = t := Fin.ext (by show 32 * (t.val / 32) + t.val % 32 = t.val; omega)

theorem scales_apply (g : Elt Ideal .f32) (Z : Fin 256 → Vec Ideal S112x128 .f32) (t : Fin 256) (l : Fin 128) :
    scales g Z (ix2 t l) = scl (Ideal.logistic g) (rmin (zr Z t)) (rmax (zr Z t)) := by
  refine (sck_apply g Z ⟨t.val / 32, by omega⟩ ⟨t.val % 32, by omega⟩ l).trans ?_
  rw [show (⟨32 * (⟨t.val / 32, by omega⟩ : Fin 8).val + (⟨t.val % 32, by omega⟩ : Fin 32).val, by dsimp only; omega⟩ : Fin 256) = t from tok_eq t]
theorem zeros_apply (g : Elt Ideal .f32) (Z : Fin 256 → Vec Ideal S112x128 .f32) (t : Fin 256) (l : Fin 128) :
    zeros g Z (ix2 t l) = zpt (Ideal.logistic g) (rmin (zr Z t)) (rmax (zr Z t)) := by
  refine (zpk_apply g Z ⟨t.val / 32, by omega⟩ ⟨t.val % 32, by omega⟩ l).trans ?_
  rw [show (⟨32 * (⟨t.val / 32, by omega⟩ : Fin 8).val + (⟨t.val % 32, by omega⟩ : Fin 32).val, by dsimp only; omega⟩ : Fin 256) = t from tok_eq t]
theorem codes_apply (g : Elt Ideal .f32) (Z : Fin 256 → Vec Ideal S112x128 .f32) (t : Fin 256) (c : Fin 14336) :
    codes g Z (ix2 t c) = Ideal.fptosi 8 (cod (Ideal.logistic g) (rmin (zr Z t)) (rmax (zr Z t)) (zr Z t ⟨c.val / 128, by omega⟩ ⟨c.val % 128, by omega⟩)) := by
  refine (cdk_apply g Z ⟨t.val / 32, by omega⟩ ⟨c.val / 128, by omega⟩ ⟨t.val % 32, by omega⟩ ⟨c.val % 128, by omega⟩).trans ?_
  rw [show (⟨32 * (⟨t.val / 32, by omega⟩ : Fin 8).val + (⟨t.val % 32, by omega⟩ : Fin 32).val, by dsimp only; omega⟩ : Fin 256) = t from tok_eq t]

/-- The rotated activation from the whole call's operands is the plain rotation. -/
theorem zr_Zof (x0 : Vec Ideal S256x14336 .bf16) (x1 : Vec Ideal S112x128 .f32) (x2 : Vec Ideal S112x112 .bf16) (x3 : Vec Ideal S128x128 .bf16) (t : Fin 256) :
    zr (Zof x0 x1 x2 x3) t = rot (fun c => x0 (ix2 t c)) (fun c => x1 (ix2 ⟨c.val / 128, by omega⟩ ⟨c.val % 128, by omega⟩))
      (fun i a => x2 (ix2 i a)) (fun j k => x3 (ix2 j k)) := by
  funext a l
  refine (Zof_apply x0 x1 x2 x3 t a l).trans ?_
  unfold rot
  refine Finset.sum_congr rfl fun i _ => congrArg _ (Finset.sum_congr rfl fun j _ => congrArg (· * _) (congrArg (_ * ·) (congrArg x1 ?_)))
  refine congrArg₂ ix2 (Fin.ext ?_) (Fin.ext ?_)
  · show i.val = (128 * i.val + j.val) / 128; omega
  · show j.val = (128 * i.val + j.val) % 128; omega

end Cert.KernelIdeal.Tr

end
-- ==== Proof.GeMath.lean ====
/- The product's arithmetic over the extended reals, in no program's terms: the value of a packed weight, the exact
   output element, and the regroupings of a sum that a tiled product makes. -/
module

public import Idealize.ShloMosaic.PureOps.Ideal
public import Idealize.ShloMosaic.Lib.Pointwise

@[expose] public section

noncomputable section

namespace Cert.GemmMath

open Idealize.ShloMosaic

/-- The lower (`q = 0`) or upper four bits of a byte, read as a signed number in eight bits. -/
def nibw (b : BitVec 8) (q : ℕ) : BitVec 8 :=
  let f : BitVec 8 := if q = 0 then BitVec.setWidth 8 (IntOp.andi (BitVec.setWidth 32 b) 15#32)
    else BitVec.setWidth 8 (IntOp.shrsi ArithUnit.vector (BitVec.setWidth 32 b) 4#32)
  IntOp.subi f (IntOp.muli (16#8) (BitVec.setWidth 8 (IntOp.cmpi CmpIPredicate.sge f 8#8)))

/-- A signed word as an extended real. -/
def val {n : ℕ} (b : BitVec n) : EReal := ((b.toInt : ℝ) : EReal)

/-- The weight at row `j` of a column of packed bytes: byte `j / 2`, half `j % 2`. -/
def wq (w : Fin 7168 → BitVec 8) (j : ℕ) : EReal := if h : j / 2 < 7168 then val (nibw (w ⟨j / 2, h⟩) (j % 2)) else 0

/-- The code at column `j` of a row. -/
def xq (x : Fin 14336 → BitVec 8) (j : ℕ) : EReal := if h : j < 14336 then val (x ⟨j, h⟩) else 0

/-- One element of the linear layer: the product less the zero point times the column's sum, scaled twice. -/
def outMath (x : Fin 14336 → BitVec 8) (w : Fin 7168 → BitVec 8) (s z ws : EReal) : EReal :=
  ((∑ j ∈ Finset.range 14336, xq x j * wq w j) - z * (∑ j ∈ Finset.range 14336, wq w j)) * s * ws

/-- The kernel's spelling of a half byte: shifted to the top of a 32-bit word and back, its last four bits kept. -/
theorem nib_lo (b : BitVec 8) :
    (BitVec.setWidth 4 (IntOp.shrsi ArithUnit.vector (IntOp.shli ArithUnit.vector (BitVec.setWidth 32 b) 28#32) 28#32)).toInt
      = (nibw b 0).toInt := by
  revert b; decide +kernel

theorem nib_hi (b : BitVec 8) :
    (BitVec.setWidth 4 (IntOp.shrsi ArithUnit.vector (IntOp.shli ArithUnit.vector (BitVec.setWidth 32 b) 24#32) 28#32)).toInt
      = (nibw b 1).toInt := by
  revert b; decide +kernel

/-- `n` groups of `m` consecutive terms are the first `m * n` terms. -/
theorem sum_groups (f : ℕ → EReal) (m n : ℕ) :
    ∑ t ∈ Finset.range n, ∑ i ∈ Finset.range m, f (m * t + i) = ∑ j ∈ Finset.range (m * n), f j := by
  induction n with
  | zero => simp
  | succ n ih => rw [Finset.sum_range_succ, ih, Nat.mul_succ, Finset.sum_range_add]

/-- The even and the odd terms together are all terms. -/
theorem sum_even_odd (f : ℕ → EReal) (n : ℕ) :
    (∑ i ∈ Finset.range n, f (i * 2)) + (∑ i ∈ Finset.range n, f (i * 2 + 1)) = ∑ j ∈ Finset.range (2 * n), f j := by
  rw [← sum_groups f 2 n, ← Finset.sum_add_distrib]
  refine Finset.sum_congr rfl fun i _ => ?_
  rw [Finset.sum_range_succ, Finset.sum_range_one, Nat.mul_comm 2 i]; rfl

/-- Column sums taken in eight interleaved parts, group by group. -/
theorem sum_parts (f : ℕ → EReal) (n : ℕ) :
    ∑ a ∈ Finset.range 8, ∑ t ∈ Finset.range n, ∑ b ∈ Finset.range 32, f (256 * t + (b * 8 + a))
      = ∑ j ∈ Finset.range (256 * n), f j := by
  rw [← sum_groups f 256 n, Finset.sum_comm]
  refine Finset.sum_congr rfl fun t _ => ?_
  rw [Finset.sum_comm, show (256 : ℕ) = 8 * 32 from rfl, ← sum_groups (fun j => f (8 * 32 * t + j)) 8 32]
  refine Finset.sum_congr rfl fun b _ => Finset.sum_congr rfl fun a _ => ?_
  rw [Nat.mul_comm b 8]

/-- The element as the tiled product computes it: the column's sum in eight parts. -/
theorem outMath_tiled (x : Fin 14336 → BitVec 8) (w : Fin 7168 → BitVec 8) (s z ws : EReal) :
    outMath x w s z ws
      = ((∑ j ∈ Finset.range (256 * 56), xq x j * wq w j)
          - z * (∑ p : Fin 8, ∑ t ∈ Finset.range 56, ∑ b ∈ Finset.range 32, wq w (256 * t + (b * 8 + p.val)))) * s * ws := by
  have h := sum_parts (wq w) 56
  rw [Finset.sum_range] at h
  rw [h]; rfl

/-- The element as two products, over the lower and over the upper halves of the bytes. -/
theorem outMath_halves (x : Fin 14336 → BitVec 8) (w : Fin 7168 → BitVec 8) (s z ws : EReal) :
    outMath x w s z ws
      = (((∑ i : Fin 7168, val (x ⟨i.val * 2, by omega⟩) * val (nibw (w i) 0))
            + ∑ i : Fin 7168, val (x ⟨i.val * 2 + 1, by omega⟩) * val (nibw (w i) 1))
          - z * ((∑ i : Fin 7168, val (nibw (w i) 0)) + ∑ i : Fin 7168, val (nibw (w i) 1))) * s * ws := by
  have h0 : ∀ i : Fin 7168, wq w (i.val * 2) = val (nibw (w i) 0) := fun i => by
    have hi := i.isLt
    have e : i.val * 2 / 2 = i.val := by omega
    rw [wq, dif_pos (by omega), Nat.mul_mod_left]
    exact congrArg (fun a => val (nibw (w a) 0)) (Fin.ext e)
  have h1 : ∀ i : Fin 7168, wq w (i.val * 2 + 1) = val (nibw (w i) 1) := fun i => by
    have hi := i.isLt
    have e : (i.val * 2 + 1) / 2 = i.val := by omega
    rw [wq, dif_pos (by omega), show (i.val * 2 + 1) % 2 = 1 by omega]
    exact congrArg (fun a => val (nibw (w a) 1)) (Fin.ext e)
  have x0 : ∀ i : Fin 7168, xq x (i.val * 2) = val (x ⟨i.val * 2, by omega⟩) := fun i => dif_pos (by omega)
  have x1 : ∀ i : Fin 7168, xq x (i.val * 2 + 1) = val (x ⟨i.val * 2 + 1, by omega⟩) := fun i => dif_pos (by omega)
  have a := sum_even_odd (fun j => xq x j * wq w j) 7168
  have b := sum_even_odd (wq w) 7168
  rw [Finset.sum_range, Finset.sum_range] at a b
  simp only [h0, h1, x0, x1] at a b
  rw [a, b]; rfl

end Cert.GemmMath

end
-- ==== Proof.GeAlg.lean ====
/- The weight product's output block over the extended reals: each element is `outMath` of its row of codes, its column of
   packed weights and its scales. -/
module

public import proofs.«01_k».proof.Proof.GeVal
public import proofs.«01_k».proof.Proof.GeMath

@[expose] public section

set_option maxRecDepth 16384

noncomputable section

namespace Cert.KernelIdeal.Gemm

open Cert.KernelIdeal Cert.KernelIdeal.Gen Cert.GemmMath
open Idealize.ShloMosaic

/-- The unpacked weights of one trip's rows. -/
theorem pay4_apply (v : Vec Ideal S128x512 .i8) (r : Fin 256) (l : Fin 512) :
    k1_pay4 v (ix2 r l) = val (nibw (v (ix2 ⟨r.val / 2, by omega⟩ l)) (r.val % 2)) := by
  pointwise [k1_pay4]
  rcases Nat.mod_two_eq_zero_or_one r.val with h | h
  · rw [dif_pos (by omega)]
    exact (congrArg (fun z : ℤ => ((z : ℝ) : EReal)) (nib_lo _)).trans (congrArg (fun q => val (nibw _ q)) h.symm)
  · rw [dif_neg (by omega)]
    exact (congrArg (fun z : ℤ => ((z : ℝ) : EReal)) (nib_hi _)).trans (congrArg (fun q => val (nibw _ q)) h.symm)

/-- The same, the rows counted in the whole column. -/
theorem pay4_tile (x3 : Vec Ideal S7168x512 .i8) (k : ℕ) (hk : k < 56) (i : Fin 256) (l : Fin 512) :
    k1_pay4 (wTile x3 k hk) (ix2 i l) = wq (fun a => x3 (ix2 a l)) (256 * k + i.val) := by
  have hi := i.isLt
  rw [pay4_apply, wq, dif_pos (by omega)]
  have e : (wTile x3 k hk (ix2 ⟨i.val / 2, by omega⟩ l)) = x3 (ix2 ⟨(256 * k + i.val) / 2, by omega⟩ l) := by
    unfold wTile VecWindow.window
    refine congrArg x3 (funext fun a => Fin.ext ?_)
    match a with
    | ⟨0, _⟩ => show 128 * k + _ = _; simp; omega
    | ⟨1, _⟩ => show 0 + _ = _; simp
  rw [e, show (256 * k + i.val) % 2 = i.val % 2 by omega]

/-- One trip's code columns, the columns counted in the whole row. -/
theorem xTile_apply (x0 : Vec Ideal S256x14336 .i8) (k : ℕ) (hk : k < 56) (r : Fin 256) (i : Fin 256) :
    xTile (x8v x0) k hk (ix2 r i) = xq (fun j => x0 (ix2 r j)) (256 * k + i.val) := by
  have hi := i.isLt
  rw [xq, dif_pos (by omega)]
  unfold xTile VecWindow.window
  show val (x0 _) = val (x0 _)
  refine congrArg (fun j => val (x0 j)) (funext fun a => Fin.ext ?_)
  match a with
  | ⟨0, _⟩ => show 0 + _ = _; simp
  | ⟨1, _⟩ => show 256 * k + _ = _; simp

/-- The accumulator before trip `k`: the first `256 k` terms of the product. -/
theorem accAt_apply (x3 : Vec Ideal S7168x512 .i8) (x0 : Vec Ideal S256x14336 .i8) (r : Fin 256) (l : Fin 512) :
    ∀ k ≤ 56, accAt x3 (x8v x0) k (ix2 r l)
      = ∑ j ∈ Finset.range (256 * k), xq (fun j => x0 (ix2 r j)) j * wq (fun a => x3 (ix2 a l)) j
  | 0, _ => by
    rw [Nat.mul_zero, Finset.range_zero, Finset.sum_empty]
    unfold accAt
    pointwise [k1_pay2]
  | k + 1, hk => by
    have ih := accAt_apply x3 x0 r l k (by omega)
    rw [accAt_succ x3 (x8v x0) k (by omega), Nat.mul_succ, Finset.sum_range_add, ← ih]
    generalize accAt x3 (x8v x0) k = a
    pointwise [k1_pay5]
    rw [Finset.sum_range]
    refine congrArg (a (ix2 r l) + ·) (Finset.sum_congr rfl fun i _ => ?_)
    rw [pay4_tile, xTile_apply]

/-- The eight partial column sums before trip `k`. -/
theorem csAt_apply (x3 : Vec Ideal S7168x512 .i8) (p : Fin 8) (l : Fin 512) :
    ∀ k ≤ 56, csAt x3 k (ix2 p l)
      = ∑ t ∈ Finset.range k, ∑ b ∈ Finset.range 32, wq (fun a => x3 (ix2 a l)) (256 * t + (b * 8 + p.val))
  | 0, _ => by
    rw [Finset.range_zero, Finset.sum_empty]
    unfold csAt
    pointwise [k1_pay3]
  | k + 1, hk => by
    have ih := csAt_apply x3 p l k (by omega)
    rw [csAt_succ x3 k (by omega), Finset.sum_range_succ, ← ih]
    generalize csAt x3 k = a
    pointwise [k1_pay6]
    rw [Finset.sum_range]
    refine congrArg (a (ix2 p l) + ·) (Finset.sum_congr rfl fun i _ => ?_)
    rw [pay4_tile]

/-- The output block. -/
theorem outv_apply (x0 : Vec Ideal S256x14336 .i8) (x1 x2 : Vec Ideal S256x128 .f32) (x3 : Vec Ideal S7168x512 .i8)
    (x4 : Vec Ideal S1x512 .f32) (r : Fin 256) (l : Fin 512) :
    outv x1 x2 x3 x4 (x8v x0) (ix2 r l)
      = outMath (fun j => x0 (ix2 r j)) (fun a => x3 (ix2 a l)) (x1 (ix2 r 0)) (x2 (ix2 r 0)) (x4 (ix2 0 l)) := by
  have h1 := accAt_apply x3 x0 r l 56 le_rfl
  have h2 := fun p => csAt_apply x3 p l 56 le_rfl
  rw [outMath_tiled, ← h1]
  simp only [← h2]
  unfold outv
  generalize accAt x3 (x8v x0) 56 = a
  generalize csAt x3 56 = c
  pointwise [k1_pay7]

end Cert.KernelIdeal.Gemm

end
-- ==== Proof.GeFinal.lean ====
/- The array the weight product's run leaves, as one function of the argument arrays. -/
module

public import proofs.«01_k».proof.Proof.GeRegion
public import proofs.«01_k».proof.Proof.GeAlg

@[expose] public section

set_option maxRecDepth 16384

noncomputable section

namespace Cert.KernelIdeal.Gemm

open Cert.KernelIdeal Cert.KernelIdeal.Gen Cert.GemmMath
open Idealize.ShloMosaic Idealize.ShloMosaic.TcCoe
open Idealize.SL.Sem
open Idealize.ShloMosaic.Pipeline (Dat)

/-- The linear layer's output: element `(r, l)` from row `r` of the codes and column `l` of the packed weights. -/
def linear (x0 : Vec Ideal S256x14336 .i8) (x1 x2 : Vec Ideal S256x128 .f32) (x3 : Vec Ideal S7168x4096 .i8)
    (x4 : Vec Ideal S1x4096 .f32) : Vec Ideal S256x4096 .bf16 := fun y =>
  outMath (fun j => x0 (ix2 (y 0) j)) (fun a => x3 (ix2 a (y 1))) (x1 (ix2 (y 0) 0)) (x2 (ix2 (y 0) 0)) (x4 (ix2 0 (y 1)))

variable (V : (c : Dev nD) → (b : Ref sig .tc) → Buf (Elt Ideal) ((c : Thread nD τ).loc b))

theorem final (c : Dev nD) : (dat1 V c).arrAt 5 cfg1.N
    = linear (V c main_v3_0) (V c main_v3_1) (V c main_v3_2) (V c main_arg5) (V c main_v4) := by
  have e1 : ∀ t : Fin cfg1.N, win1_1.index t = ![0, 0] := (by decide +kernel : ∀ t : Fin grid1.N, _)
  have e2 : ∀ t : Fin cfg1.N, win1_2.index t = ![0, 0] := (by decide +kernel : ∀ t : Fin grid1.N, _)
  have e3 : ∀ t : Fin cfg1.N, win1_3.index t = ![0, t.val] := (by decide +kernel : ∀ t : Fin grid1.N, _)
  have e4 : ∀ t : Fin cfg1.N, win1_4.index t = ![0, t.val] := (by decide +kernel : ∀ t : Fin grid1.N, _)
  have e5 : ∀ t : Fin cfg1.N, win1_5.index t = ![0, t.val] := (by decide +kernel : ∀ t : Fin grid1.N, _)
  refine (dat1 V c).arrAt_eq_of_covers 5 _ (by decide +kernel) fun t hf y => ?_
  obtain ⟨r, l, rfl⟩ : ∃ (r : Fin 256) (l : Fin 512), y = ix2 r l := ⟨y 0, y 1, eq_ix2 y⟩
  blk_simp
  rw [after0_5]
  unfold outAt
  refine (outv_apply _ _ _ _ _ r l).trans ?_
  unfold linear
  have q0 : ((win1_5.blk t).view.emb (ix2 r l) 0 : ℕ) = r.val := by blk_simp [e5]
  have q1 : ((win1_5.blk t).view.emb (ix2 r l) 1 : ℕ) = t.val * 512 + l.val := by blk_simp [e5]
  generalize (win1_5.blk t).view.emb (ix2 r l) = g at q0 q1
  have g0 : g 0 = r := Fin.ext q0
  have s3 : ∀ a : Fin 7168, iblk1 V c 3 t (ix2 a l) = V c main_arg5 (ix2 a (g 1)) := fun a => by
    blk_simp [iblk1]
    exact congrArg (V c main_arg5) (funext fun b => Fin.ext (match b with
      | ⟨0, _⟩ => by blk_simp [e3]
      | ⟨1, _⟩ => by blk_simp [e3]; exact q1.symm))
  have s1 : iblk1 V c 1 t (ix2 r 0) = V c main_v3_1 (ix2 r 0) := by
    blk_simp [iblk1]
    exact congrArg (V c main_v3_1) (funext fun b => Fin.ext (match b with
      | ⟨0, _⟩ => by blk_simp [e1]
      | ⟨1, _⟩ => by blk_simp [e1]))
  have s2 : iblk1 V c 2 t (ix2 r 0) = V c main_v3_2 (ix2 r 0) := by
    blk_simp [iblk1]
    exact congrArg (V c main_v3_2) (funext fun b => Fin.ext (match b with
      | ⟨0, _⟩ => by blk_simp [e2]
      | ⟨1, _⟩ => by blk_simp [e2]))
  have s4 : iblk1 V c 4 t (ix2 0 l) = V c main_v4 (ix2 0 (g 1)) := by
    blk_simp [iblk1]
    exact congrArg (V c main_v4) (funext fun b => Fin.ext (match b with
      | ⟨0, _⟩ => by blk_simp [e4]
      | ⟨1, _⟩ => by blk_simp [e4]; exact q1.symm))
  rw [g0, funext s3, s1, s2, s4]
  rfl

end Cert.KernelIdeal.Gemm

end
-- ==== Proof.WholeVal.lean ====
/- The whole program's four results, element by element, as plain functions of the arguments. -/
module

public import proofs.«01_k».proof.Proof.Segs
public import proofs.«01_k».proof.Proof.TrQAlg
public import proofs.«01_k».proof.Proof.GeFinal
public import Idealize.ShloMosaic.Lib.StableHlo.RunRead
public import Idealize.ShloMosaic.Lib.Claim

@[expose] public section

set_option maxRecDepth 16384

noncomputable section

namespace Cert.KernelIdeal.Whole

open Cert.KernelIdeal Cert.KernelIdeal.Gen Cert.KernelIdeal.Tr Cert.KernelIdeal.Gemm Cert.WhMath Cert.GemmMath
open Idealize.ShloMosaic Idealize.ShloMosaic.TcCoe
open Idealize.SL.Sem
open Idealize.ShloMosaic.Pipeline (Dat)

section Region0

variable (V : (c : Dev nD) → (b : Ref sig .tc) → Buf (Elt Ideal) ((c : Thread nD τ).loc b))

/-- Each input window of the transform is its whole array. -/
theorem blk0 (c : Dev nD) (t : Fin cfg0.N) : iblk0 V c 0 t = V c main_v0 := by
  have hz : (fun a => win0_0.index t a * main_v0.ty.shape.size a) = fun _ => 0 := funext fun a => by
    fin_cases a <;> exact Nat.zero_mul _
  exact Memref.read_access_unit_zero (Elt Ideal) main_v0 hz (fun a => by rw [congrFun hz a]; simp) (V c main_v0)
theorem blk1 (c : Dev nD) (t : Fin cfg0.N) : iblk0 V c 1 t = V c main_v1 := by
  have hz : (fun a => win0_1.index t a * main_v1.ty.shape.size a) = fun _ => 0 := funext fun a => by
    fin_cases a <;> exact Nat.zero_mul _
  exact Memref.read_access_unit_zero (Elt Ideal) main_v1 hz (fun a => by rw [congrFun hz a]; simp) (V c main_v1)
theorem blk2 (c : Dev nD) (t : Fin cfg0.N) : iblk0 V c 2 t = V c main_arg2 := by
  have hz : (fun a => win0_2.index t a * main_arg2.ty.shape.size a) = fun _ => 0 := funext fun a => by
    fin_cases a <;> exact Nat.zero_mul _
  exact Memref.read_access_unit_zero (Elt Ideal) main_arg2 hz (fun a => by rw [congrFun hz a]; simp) (V c main_arg2)
theorem blk3 (c : Dev nD) (t : Fin cfg0.N) : iblk0 V c 3 t = V c main_arg3 := by
  have hz : (fun a => win0_3.index t a * main_arg3.ty.shape.size a) = fun _ => 0 := funext fun a => by
    fin_cases a <;> exact Nat.zero_mul _
  exact Memref.read_access_unit_zero (Elt Ideal) main_arg3 hz (fun a => by rw [congrFun hz a]; simp) (V c main_arg3)
theorem blk4 (c : Dev nD) (t : Fin cfg0.N) : iblk0 V c 4 t = V c main_v2 := by
  have hz : (fun a => win0_4.index t a * main_v2.ty.shape.size a) = fun _ => 0 := funext fun a => by
    fin_cases a <;> exact Nat.zero_mul _
  exact Memref.read_access_unit_zero (Elt Ideal) main_v2 hz (fun a => by rw [congrFun hz a]; simp) (V c main_v2)

/-- The rotated tokens of the entry contents. -/
def ZV (c : Dev nD) : Fin 256 → Vec Ideal S112x128 .f32 := Zof (V c main_v0) (V c main_v1) (V c main_arg2) (V c main_arg3)

theorem g0_eq (c : Dev nD) (t : Fin cfg0.N) : g0 V c t = V c main_v2 (ix1 0) := congrFun (blk4 V c t) (ix1 0)
theorem Z0_eq (c : Dev nD) (t : Fin cfg0.N) : Z0 V c t = ZV V c := by
  unfold Z0 ZV
  rw [blk0, blk1, blk2, blk3]

theorem fin0_5 (c : Dev nD) : (dat0 V c).arrAt 5 cfg0.N = codes (V c main_v2 (ix1 0)) (ZV V c) := by
  have e : ∀ t : Fin cfg0.N, win0_5.index t = ![0, 0] := (by decide +kernel : ∀ t : Fin grid0.N, _)
  refine (dat0 V c).arrAt_eq_of_covers 5 _ (by decide +kernel) fun t hf y => ?_
  blk_simp
  rw [aft0_5, g0_eq, Z0_eq]
  refine congrArg _ (funext fun b => Fin.ext (match b with
    | ⟨0, _⟩ => by blk_simp [e]
    | ⟨1, _⟩ => by blk_simp [e]))
theorem fin0_6 (c : Dev nD) : (dat0 V c).arrAt 6 cfg0.N = scales (V c main_v2 (ix1 0)) (ZV V c) := by
  have e : ∀ t : Fin cfg0.N, win0_6.index t = ![0, 0] := (by decide +kernel : ∀ t : Fin grid0.N, _)
  refine (dat0 V c).arrAt_eq_of_covers 6 _ (by decide +kernel) fun t hf y => ?_
  blk_simp
  rw [aft0_6, g0_eq, Z0_eq]
  refine congrArg _ (funext fun b => Fin.ext (match b with
    | ⟨0, _⟩ => by blk_simp [e]
    | ⟨1, _⟩ => by blk_simp [e]))
theorem fin0_7 (c : Dev nD) : (dat0 V c).arrAt 7 cfg0.N = zeros (V c main_v2 (ix1 0)) (ZV V c) := by
  have e : ∀ t : Fin cfg0.N, win0_7.index t = ![0, 0] := (by decide +kernel : ∀ t : Fin grid0.N, _)
  refine (dat0 V c).arrAt_eq_of_covers 7 _ (by decide +kernel) fun t hf y => ?_
  blk_simp
  rw [aft0_7, g0_eq, Z0_eq]
  refine congrArg _ (funext fun b => Fin.ext (match b with
    | ⟨0, _⟩ => by blk_simp [e]
    | ⟨1, _⟩ => by blk_simp [e]))

end Region0

variable (m : (ℓ : Loc nD τ sig) → Buf (Elt Ideal) ℓ)

/-- What the first host operations leave. -/
theorem v0_apply (c : Dev nD) (t : Fin 256) (j : Fin 14336) : VV1 m c main_v0 (ix2 t j) = m ((c : Thread nD τ).loc main_arg0) (ix3 0 t j) := by
  have h : VV1 m c main_v0 = shapeCast S256x14336 (m ((c : Thread nD τ).loc main_arg0)) shapeCasts_S1x256x14336_S256x14336 := by
    show StableHlo.after hostOps0 (fun b => m (c, b)) (Proc.devRef .tc main_v0) = _
    after_results
    rfl
  rw [h]
  refine (shapeCast_dropUnit_apply ![256, 14336] _ _ (ix2 t j)).trans (congrArg _ (funext fun b => ?_))
  match b with
  | ⟨0, _⟩ => rfl
  | ⟨1, _⟩ => rfl
  | ⟨2, _⟩ => rfl
theorem v1_apply (c : Dev nD) (i : Fin 112) (j : Fin 128) : VV1 m c main_v1 (ix2 i j) = m ((c : Thread nD τ).loc main_arg1) (ix1 (col i j)) := by
  have h : VV1 m c main_v1 = shapeCast S112x128 (m ((c : Thread nD τ).loc main_arg1)) shapeCasts_S14336_S112x128 := by
    show StableHlo.after hostOps0 (fun b => m (c, b)) (Proc.devRef .tc main_v1) = _
    after_results
    rfl
  rw [h, show col i j = ⟨i.val * 128 + j.val, by omega⟩ from Fin.ext (by show 128 * i.val + j.val = i.val * 128 + j.val; omega)]
  pointwise
/-- The one index of the shape of no axes. -/
def ix0 : S_.Idx := fun a => a.elim0
theorem v2_apply (c : Dev nD) : VV1 m c main_v2 (ix1 0) = m ((c : Thread nD τ).loc main_arg4) ix0 := by
  have h : VV1 m c main_v2 = shapeCast S1 (m ((c : Thread nD τ).loc main_arg4)) shapeCasts_S_S1 := by
    show StableHlo.after hostOps0 (fun b => m (c, b)) (Proc.devRef .tc main_v2) = _
    after_results
    rfl
  rw [h]
  exact congrArg (m ((c : Thread nD τ).loc main_arg4)) (funext fun b => b.elim0)
theorem a2_eq (c : Dev nD) : VV1 m c main_arg2 = m ((c : Thread nD τ).loc main_arg2) := by
  show StableHlo.after hostOps0 (fun b => m (c, b)) (Proc.devRef .tc main_arg2) = _
  after_results
theorem a3_eq (c : Dev nD) : VV1 m c main_arg3 = m ((c : Thread nD τ).loc main_arg3) := by
  show StableHlo.after hostOps0 (fun b => m (c, b)) (Proc.devRef .tc main_arg3) = _
  after_results
theorem a5_eq (c : Dev nD) : VV1 m c main_arg5 = m ((c : Thread nD τ).loc main_arg5) := by
  show StableHlo.after hostOps0 (fun b => m (c, b)) (Proc.devRef .tc main_arg5) = _
  after_results
theorem a6_eq (c : Dev nD) : VV1 m c main_arg6 = m ((c : Thread nD τ).loc main_arg6) := by
  show StableHlo.after hostOps0 (fun b => m (c, b)) (Proc.devRef .tc main_arg6) = _
  after_results

/-- What the operation between the regions leaves. -/
theorem w3_ne (c : Dev nD) : VV3 m c main_v3_0 = VV2 m c main_v3_0 ∧ VV3 m c main_v3_1 = VV2 m c main_v3_1 ∧ VV3 m c main_v3_2 = VV2 m c main_v3_2
    ∧ VV3 m c main_arg5 = VV2 m c main_arg5 := by
  refine ⟨?_, ?_, ?_, ?_⟩
  · show StableHlo.after hostOps1 (W2 m c) (Proc.devRef .tc main_v3_0) = _; after_results; rfl
  · show StableHlo.after hostOps1 (W2 m c) (Proc.devRef .tc main_v3_1) = _; after_results; rfl
  · show StableHlo.after hostOps1 (W2 m c) (Proc.devRef .tc main_v3_2) = _; after_results; rfl
  · show StableHlo.after hostOps1 (W2 m c) (Proc.devRef .tc main_arg5) = _; after_results; rfl
set_option maxRecDepth 200000 in
theorem v4_apply (c : Dev nD) (l : Fin 4096) : VV3 m c main_v4 (ix2 0 l) = m ((c : Thread nD τ).loc main_arg6) (ix1 l) := by
  have h : VV3 m c main_v4 = shapeCast S1x4096 (VV2 m c main_arg6) shapeCasts_S4096_S1x4096 := by
    show StableHlo.after hostOps1 (W2 m c) (Proc.devRef .tc main_v4) = _
    after_results
    rfl
  rw [h, VV2_ne m c main_arg6 (by decide) (by decide) (by decide), a6_eq]
  pointwise

/-- A token's rotated activation, the clipping factor, and from them its codes, its scale and its zero point. -/
def zA (c : Dev nD) (t : Fin 256) : Fin 112 → Fin 128 → EReal :=
  rot (fun j => m ((c : Thread nD τ).loc main_arg0) (ix3 0 t j)) (fun j => m ((c : Thread nD τ).loc main_arg1) (ix1 j))
    (fun i a => m ((c : Thread nD τ).loc main_arg2) (ix2 i a)) (fun j k => m ((c : Thread nD τ).loc main_arg3) (ix2 j k))
def fA (c : Dev nD) : EReal := Ideal.logistic (m ((c : Thread nD τ).loc main_arg4) ix0)
def qA (c : Dev nD) (t : Fin 256) (j : Fin 14336) : BitVec 8 :=
  Ideal.fptosi 8 (cod (fA m c) (rmin (zA m c t)) (rmax (zA m c t)) (zA m c t ⟨j.val / 128, by omega⟩ ⟨j.val % 128, by omega⟩))
def sA (c : Dev nD) (t : Fin 256) : EReal := scl (fA m c) (rmin (zA m c t)) (rmax (zA m c t))
def pA (c : Dev nD) (t : Fin 256) : EReal := zpt (fA m c) (rmin (zA m c t)) (rmax (zA m c t))

theorem zr_eq (c : Dev nD) (t : Fin 256) : zr (ZV (VV1 m) c) t = zA m c t := by
  unfold ZV zA
  rw [zr_Zof, a2_eq, a3_eq]
  simp only [v0_apply, v1_apply]
  refine congrArg (fun f => rot _ f _ _) (funext fun j => congrArg (fun k => m ((c : Thread nD τ).loc main_arg1) (ix1 k)) (Fin.ext ?_))
  show 128 * (j.val / 128) + j.val % 128 = j.val
  omega

theorem codes_eq (c : Dev nD) (t : Fin 256) (j : Fin 14336) : VV2 m c main_v3_0 (ix2 t j) = qA m c t j := by
  rw [VV2_0, fin0_5]
  refine (codes_apply _ _ t j).trans ?_
  rw [v2_apply, zr_eq]
  rfl
theorem scales_eq (c : Dev nD) (t : Fin 256) (l : Fin 128) : VV2 m c main_v3_1 (ix2 t l) = sA m c t := by
  rw [VV2_1, fin0_6]
  refine (scales_apply _ _ t l).trans ?_
  rw [v2_apply, zr_eq]
  rfl
theorem zeros_eq (c : Dev nD) (t : Fin 256) (l : Fin 128) : VV2 m c main_v3_2 (ix2 t l) = pA m c t := by
  rw [VV2_2, fin0_7]
  refine (zeros_apply _ _ t l).trans ?_
  rw [v2_apply, zr_eq]
  rfl

theorem y_eq (c : Dev nD) (t : Fin 256) (l : Fin 4096) : VV4 m c main_v5 (ix2 t l)
    = outMath (qA m c t) (fun a => m ((c : Thread nD τ).loc main_arg5) (ix2 a l)) (sA m c t) (pA m c t) (m ((c : Thread nD τ).loc main_arg6) (ix1 l)) := by
  rw [VV4_5, final]
  obtain ⟨h0, h1, h2, h5⟩ := w3_ne m c
  rw [h0, h1, h2, h5, VV2_ne m c main_arg5 (by decide) (by decide) (by decide), a5_eq]
  show outMath (fun j => VV2 m c main_v3_0 (ix2 t j)) (fun a => m ((c : Thread nD τ).loc main_arg5) (ix2 a l)) (VV2 m c main_v3_1 (ix2 t 0)) (VV2 m c main_v3_2 (ix2 t 0)) (VV3 m c main_v4 (ix2 0 l)) = _
  rw [scales_eq, zeros_eq, v4_apply]
  simp only [codes_eq]

/-- The four results. -/
theorem res6 (c : Dev nD) (t : Fin 256) (l : Fin 4096) : V5 m (outs m) c main_v6 (ix3 0 t l)
    = outMath (qA m c t) (fun a => m ((c : Thread nD τ).loc main_arg5) (ix2 a l)) (sA m c t) (pA m c t) (m ((c : Thread nD τ).loc main_arg6) (ix1 l)) := by
  rw [← y_eq, V5_eq]
  have h : StableHlo.after hostOps2 (W4 m c) (Proc.devRef .tc main_v6) = shapeCast S1x256x4096 (VV4 m c main_v5) shapeCasts_S256x4096_S1x256x4096 := by
    after_results
    rfl
  rw [h]
  refine (shapeCast_addUnit_apply ![256, 4096] _ _ (ix3 0 t l)).trans (congrArg _ (funext fun b => ?_))
  match b with
  | ⟨0, _⟩ => rfl
  | ⟨1, _⟩ => rfl
theorem res7 (c : Dev nD) (t : Fin 256) (j : Fin 14336) : V5 m (outs m) c main_v7 (ix3 0 t j) = qA m c t j := by
  rw [← codes_eq, V5_eq, ← (w3_ne m c).1, ← VV4_ne m c main_v3_0 (by decide)]
  have h : StableHlo.after hostOps2 (W4 m c) (Proc.devRef .tc main_v7) = shapeCast S1x256x14336 (VV4 m c main_v3_0) shapeCasts_S256x14336_S1x256x14336 := by
    after_results
    rfl
  rw [h]
  refine (shapeCast_addUnit_apply ![256, 14336] _ _ (ix3 0 t j)).trans (congrArg _ (funext fun b => ?_))
  match b with
  | ⟨0, _⟩ => rfl
  | ⟨1, _⟩ => rfl
theorem res10 (c : Dev nD) (t : Fin 256) : V5 m (outs m) c main_v10 (ix2 0 t) = sA m c t := by
  rw [← scales_eq m c t 0, V5_eq, ← (w3_ne m c).2.1, ← VV4_ne m c main_v3_1 (by decide)]
  have h : StableHlo.after hostOps2 (W4 m c) (Proc.devRef .tc main_v10)
      = shapeCast S1x256 (shapeCast S256 (extractStridedSlice S256x1 ![0, 0] (VV4 m c main_v3_1) slices_S256x128_S256x1_0_0) shapeCasts_S256x1_S256) shapeCasts_S256_S1x256 := by
    after_results
    rfl
  rw [h]
  pointwise
theorem res14 (c : Dev nD) (t : Fin 256) : V5 m (outs m) c main_v14 (ix2 0 t) = Ideal.fptosi 32 (pA m c t) := by
  rw [← zeros_eq m c t 0, V5_eq, ← (w3_ne m c).2.2.1, ← VV4_ne m c main_v3_2 (by decide)]
  have h : StableHlo.after hostOps2 (W4 m c) (Proc.devRef .tc main_v14)
      = shapeCast S1x256 (fptosi 32 (F := Ideal) (φ := .f32) (shapeCast S256 (extractStridedSlice S256x1 ![0, 0] (VV4 m c main_v3_2) slices_S256x128_S256x1_0_0) shapeCasts_S256x1_S256)) shapeCasts_S256_S1x256 := by
    after_results
    rfl
  rw [h]
  pointwise
  rfl

end Cert.KernelIdeal.Whole

end
-- ==== Proof.RefHost.lean ====
/- The reference's host operations: the contents the region is entered with, as functions of the arguments. -/
module

public import proofs.«01_k».proof.Proof.Gen.ReferenceIdeal.Frame
public import proofs.«01_k».proof.Proof.WhMath
public import Idealize.ShloMosaic.Lib.Pipeline.ValueKit
public import Idealize.ShloMosaic.Lib.StableHlo.RunRead
public import Idealize.ShloMosaic.Lib.Claim

@[expose] public section

set_option maxRecDepth 16384

noncomputable section

namespace Cert.ReferenceIdeal.Host

open Cert.ReferenceIdeal Cert.ReferenceIdeal.Gen Cert.WhMath
open Idealize.ShloMosaic Idealize.ShloMosaic.TcCoe
open Idealize.SL.Sem

/-- The rotated activation. -/
def zH (x : Vec Ideal S1x256x14336 .bf16) (cs : Vec Ideal S14336 .f32) (p1 : Vec Ideal S112x112 .bf16) (p2 : Vec Ideal S128x128 .bf16) : Vec Ideal S1x256x14336 .f32 :=
  shapeCast S1x256x14336 (transpose S1x256x112x128 [0, 1, 3, 2]
    (Host.dotGeneral (F := Ideal) (φ₁ := .bf16) (φ₂ := .bf16) dot_S1x256x112x128_S112x112_S1x256x128x112_2_0_013_1_n_n none
      (truncf (F := Ideal) .bf16 (Host.dotGeneral (F := Ideal) (φ₁ := .bf16) (φ₂ := .bf16) dot_S1x256x112x128_S128x128_S1x256x112x128_3_0_012_1_n_n none
        (shapeCast S1x256x112x128 (truncf (F := Ideal) .bf16 (mulf (extf .f32 x bitsLt_bf16_f32)
          (broadcastInDim S1x256x14336 ![0, 1, 2] bcast_S1x1x14336_S1x256x14336_0_1_2 (broadcastInDim S1x1x14336 ![2] bcast_S14336_S1x1x14336_2 cs)))
          bitsLt_bf16_f32) shapeCasts_S1x256x14336_S1x256x112x128) p2) bitsLt_bf16_f32) p1)
    transposes_S1x256x128x112_S1x256x112x128_0_1_3_2) shapeCasts_S1x256x112x128_S1x256x14336

/-- The clipping factor. -/
def aH (g : Vec Ideal S_ .f32) : Vec Ideal S_ .f32 :=
  Host.divf (constant (F := Ideal) S_ .f32 0x3F800000#32) (addf (constant (F := Ideal) S_ .f32 0x3F800000#32) (Host.exp (Host.negf g)))

/-- The clipped extrema. -/
def loH (a : Vec Ideal S_ .f32) (z : Vec Ideal S1x256x14336 .f32) : Vec Ideal S1x256 .f32 :=
  mulf (broadcastInDim S1x256 ![] bcast_S_S1x256 a) (Host.reduce FloatOps.minimumf z (constant (F := Ideal) S_ .f32 0x7F800000#32) reducesTo_S1x256x14336_S1x256_d2 h_S_)
def hiH (a : Vec Ideal S_ .f32) (z : Vec Ideal S1x256x14336 .f32) : Vec Ideal S1x256 .f32 :=
  mulf (broadcastInDim S1x256 ![] bcast_S_S1x256 a) (Host.reduce FloatOps.maximumf z (constant (F := Ideal) S_ .f32 0xFF800000#32) reducesTo_S1x256x14336_S1x256_d2 h_S_)

/-- The scales, -/
def scH (a : Vec Ideal S_ .f32) (z : Vec Ideal S1x256x14336 .f32) : Vec Ideal S1x256 .f32 :=
  select (cmpf (F := Ideal) (φ := .f32) .oeq (hiH a z) (loH a z)) (broadcastInDim S1x256 ![] bcast_S_S1x256 (constant (F := Ideal) S_ .f32 0x3F800000#32))
    (Host.divf (subf (hiH a z) (loH a z)) (broadcastInDim S1x256 ![] bcast_S_S1x256 (constant (F := Ideal) S_ .f32 0x41700000#32)))

/-- the zero points -/
def zpH (a : Vec Ideal S_ .f32) (z : Vec Ideal S1x256x14336 .f32) : Vec Ideal S1x256 .f32 :=
  minimumf (broadcastInDim S1x256 ![] bcast_S_S1x256 (constant (F := Ideal) S_ .f32 0x41700000#32))
    (maximumf (broadcastInDim S1x256 ![] bcast_S_S1x256 (constant (F := Ideal) S_ .f32 0x00000000#32)) (roundeven (Host.divf (Host.negf (loH a z)) (scH a z))))

/-- and the codes, still as floats. -/
def qH (a : Vec Ideal S_ .f32) (z : Vec Ideal S1x256x14336 .f32) : Vec Ideal S1x256x14336 .f32 :=
  minimumf (broadcastInDim S1x256x14336 ![] bcast_S_S1x256x14336 (constant (F := Ideal) S_ .f32 0x41700000#32))
    (maximumf (broadcastInDim S1x256x14336 ![] bcast_S_S1x256x14336 (constant (F := Ideal) S_ .f32 0x00000000#32))
      (addf (roundeven (Host.divf z (broadcastInDim S1x256x14336 ![0, 1, 2] bcast_S1x256x1_S1x256x14336_0_1_2 (broadcastInDim S1x256x1 ![0, 1] bcast_S1x256_S1x256x1_0_1 (scH a z)))))
        (broadcastInDim S1x256x14336 ![0, 1, 2] bcast_S1x256x1_S1x256x14336_0_1_2 (broadcastInDim S1x256x1 ![0, 1] bcast_S1x256_S1x256x1_0_1 (zpH a z)))))

variable (m : (ℓ : Loc nD τ sig) → Buf (Elt Ideal) ℓ)

theorem V_v10 (c : Dev nD) : V m c main_v10 = zH (m ((c : Thread nD τ).loc main_arg0)) (m ((c : Thread nD τ).loc main_arg1)) (m ((c : Thread nD τ).loc main_arg2)) (m ((c : Thread nD τ).loc main_arg3)) := by
  unfold_abbrev_sides
  after_reads_simp
  rfl

theorem V_v25 (c : Dev nD) : V m c main_v25 = scH (aH (m ((c : Thread nD τ).loc main_arg4)))
    (zH (m ((c : Thread nD τ).loc main_arg0)) (m ((c : Thread nD τ).loc main_arg1)) (m ((c : Thread nD τ).loc main_arg2)) (m ((c : Thread nD τ).loc main_arg3))) := by
  unfold_abbrev_sides
  after_reads_simp
  rfl

theorem V_v29 (c : Dev nD) : V m c main_v29 = zpH (aH (m ((c : Thread nD τ).loc main_arg4)))
    (zH (m ((c : Thread nD τ).loc main_arg0)) (m ((c : Thread nD τ).loc main_arg1)) (m ((c : Thread nD τ).loc main_arg2)) (m ((c : Thread nD τ).loc main_arg3))) := by
  unfold_abbrev_sides
  after_reads_simp
  rfl

theorem V_v37 (c : Dev nD) : V m c main_v37 = qH (aH (m ((c : Thread nD τ).loc main_arg4)))
    (zH (m ((c : Thread nD τ).loc main_arg0)) (m ((c : Thread nD τ).loc main_arg1)) (m ((c : Thread nD τ).loc main_arg2)) (m ((c : Thread nD τ).loc main_arg3))) := by
  unfold_abbrev_sides
  after_reads_simp
  rfl

end Cert.ReferenceIdeal.Host

end
-- ==== Proof.RefVal.lean ====
/- The reference's host values, element by element. -/
module

public import proofs.«01_k».proof.Proof.RefHost
public import Idealize.ShloMosaic.Lib.Pointwise

@[expose] public section

set_option maxRecDepth 16384

noncomputable section

namespace Cert.ReferenceIdeal.Host

open Cert.ReferenceIdeal Cert.ReferenceIdeal.Gen Cert.WhMath
open Idealize.ShloMosaic Idealize.ShloMosaic.TcCoe
open Idealize.SL.Sem

theorem zH_apply (x : Vec Ideal S1x256x14336 .bf16) (cs : Vec Ideal S14336 .f32) (p1 : Vec Ideal S112x112 .bf16) (p2 : Vec Ideal S128x128 .bf16)
    (t : Fin 256) (c : Fin 14336) :
    zH x cs p1 p2 (ix3 0 t c) = rot (fun c => x (ix3 0 t c)) (fun c => cs (ix1 c)) (fun i a => p1 (ix2 i a)) (fun j k => p2 (ix2 j k))
      ⟨c.val / 128, by omega⟩ ⟨c.val % 128, by omega⟩ := by
  unfold rot
  pointwise [zH]
  refine Finset.sum_congr rfl fun i _ => (mul_comm _ _).trans (congrArg (_ * ·) (Finset.sum_congr rfl fun j _ => ?_))
  rw [show col i j = ⟨i.val * 128 + j.val, by omega⟩ from Fin.ext (by show 128 * i.val + j.val = i.val * 128 + j.val; omega)]

/-- The one index of the shape of no axes. -/
def ix0 : S_.Idx := fun a => a.elim0

theorem aH_apply (g : Vec Ideal S_ .f32) (i : S_.Idx) : aH g i = Ideal.logistic (g ix0) := by
  have e : i = ix0 := funext fun a => a.elim0
  rw [e]
  pointwise [aH]
  rfl

/-- A token's smallest and largest element. -/
theorem min_row (z : Vec Ideal S1x256x14336 .f32) (t : Fin 256) :
    Host.reduce FloatOps.minimumf z (constant (F := Ideal) S_ .f32 0x7F800000#32) reducesTo_S1x256x14336_S1x256_d2 h_S_ (ix2 0 t)
      = ⨅ c : Fin 14336, z (ix3 0 t c) := by
  have h : S1x256x14336.Reduces [2] S1x256 := by decide
  refine (Host.reduce_eq_fold_single _ z _ _ h _ (ix2 0 t)).trans ?_
  refine (congrArg (fun e => Finset.fold min e _ _) ofBits_top).trans ((fold_min _).trans (iInf_congr fun k => congrArg z ?_))
  funext b
  match b with
  | ⟨0, _⟩ => exact Fin.ext rfl
  | ⟨1, _⟩ => exact Fin.ext rfl
  | ⟨2, _⟩ => exact Fin.ext rfl
theorem max_row (z : Vec Ideal S1x256x14336 .f32) (t : Fin 256) :
    Host.reduce FloatOps.maximumf z (constant (F := Ideal) S_ .f32 0xFF800000#32) reducesTo_S1x256x14336_S1x256_d2 h_S_ (ix2 0 t)
      = ⨆ c : Fin 14336, z (ix3 0 t c) := by
  have h : S1x256x14336.Reduces [2] S1x256 := by decide
  refine (Host.reduce_eq_fold_single _ z _ _ h _ (ix2 0 t)).trans ?_
  refine (congrArg (fun e => Finset.fold max e _ _) ofBits_bot).trans ((fold_max _).trans (iSup_congr fun k => congrArg z ?_))
  funext b
  match b with
  | ⟨0, _⟩ => exact Fin.ext rfl
  | ⟨1, _⟩ => exact Fin.ext rfl
  | ⟨2, _⟩ => exact Fin.ext rfl

theorem mulb_apply (a : Vec Ideal S_ .f32) (r : Vec Ideal S1x256 .f32) (t : Fin 256) :
    mulf (F := Ideal) (φ := .f32) (broadcastInDim S1x256 ![] bcast_S_S1x256 a) r (ix2 0 t) = a ix0 * r (ix2 0 t) := by
  show broadcastInDim S1x256 ![] bcast_S_S1x256 a (ix2 0 t) * r (ix2 0 t) = _
  exact congrArg (· * _) (congrArg a (funext fun b => b.elim0))

theorem loH_apply (a : Vec Ideal S_ .f32) (z : Vec Ideal S1x256x14336 .f32) (t : Fin 256) :
    loH a z (ix2 0 t) = a ix0 * rmin fun i k => z (ix3 0 t (col i k)) :=
  (mulb_apply a _ t).trans (congrArg (a ix0 * ·) ((min_row z t).trans (rmin_row fun c => z (ix3 0 t c))))
theorem hiH_apply (a : Vec Ideal S_ .f32) (z : Vec Ideal S1x256x14336 .f32) (t : Fin 256) :
    hiH a z (ix2 0 t) = a ix0 * rmax fun i k => z (ix3 0 t (col i k)) :=
  (mulb_apply a _ t).trans (congrArg (a ix0 * ·) ((max_row z t).trans (rmax_row fun c => z (ix3 0 t c))))

theorem scH_apply (a : Vec Ideal S_ .f32) (z : Vec Ideal S1x256x14336 .f32) (t : Fin 256) :
    scH a z (ix2 0 t) = scl (a ix0) (rmin fun i k => z (ix3 0 t (col i k))) (rmax fun i k => z (ix3 0 t (col i k))) := by
  unfold scl
  rw [← loH_apply, ← hiH_apply, ← ofBits_1, ← ofBits_15]
  pointwise [scH]

theorem zpH_apply (a : Vec Ideal S_ .f32) (z : Vec Ideal S1x256x14336 .f32) (t : Fin 256) :
    zpH a z (ix2 0 t) = zpt (a ix0) (rmin fun i k => z (ix3 0 t (col i k))) (rmax fun i k => z (ix3 0 t (col i k))) := by
  unfold zpt clip15 rnd
  rw [← scH_apply, ← loH_apply, ← ofBits_15]
  pointwise [zpH]

theorem qH_apply (a : Vec Ideal S_ .f32) (z : Vec Ideal S1x256x14336 .f32) (t : Fin 256) (c : Fin 14336) :
    qH a z (ix3 0 t c) = cod (a ix0) (rmin fun i k => z (ix3 0 t (col i k))) (rmax fun i k => z (ix3 0 t (col i k))) (z (ix3 0 t c)) := by
  unfold cod clip15 rnd
  rw [← scH_apply, ← zpH_apply, ← ofBits_15]
  pointwise [qH]

end Cert.ReferenceIdeal.Host

end
-- ==== Proof.RefReg.lean ====
/- The reference's region: its three results as plain functions of the contents that it is entered with. -/
module

public import proofs.«01_k».proof.Proof.RefVal
public import proofs.«01_k».proof.Proof.GeMath

@[expose] public section

set_option maxRecDepth 16384

noncomputable section

namespace Cert.ReferenceIdeal.Region

open Cert.ReferenceIdeal Cert.ReferenceIdeal.Gen Cert.WhMath Cert.GemmMath
open Idealize.ShloMosaic Idealize.ShloMosaic.TcCoe
open Idealize.SL.Sem
open Idealize.ShloMosaic.Pipeline (Dat)

theorem pay2_apply (x : Vec Ideal S1x256x14336 .f32) (t : Fin 256) (c : Fin 14336) : k0_pay2 x (ix3 0 t c) = Ideal.fptosi 8 (x (ix3 0 t c)) := by
  pointwise [k0_pay2]
  rfl
theorem pay3_apply (z : Vec Ideal S1x256 .f32) (t : Fin 256) : k0_pay3 z (ix2 0 t) = Ideal.fptosi 32 (z (ix2 0 t)) := by
  pointwise [k0_pay3]
  rfl
theorem pay9_apply (z : Vec Ideal S1x256 .f32) (t : Fin 256) : k0_pay9 z (ix2 0 t) = val (Ideal.fptosi 32 (z (ix2 0 t))) := by
  rw [← pay3_apply]
  pointwise [k0_pay9]
  rfl

theorem pay5_apply (w : Vec Ideal S7168x4096 .i8) (i : Fin 7168) (l : Fin 4096) : k0_pay5 w (ix2 i l) = val (nibw (w (ix2 i l)) 0) := by
  pointwise [k0_pay5, k0_pay4]
  rfl
theorem pay6_apply (w : Vec Ideal S7168x4096 .i8) (i : Fin 7168) (l : Fin 4096) : k0_pay6 w (ix2 i l) = val (nibw (w (ix2 i l)) 1) := by
  pointwise [k0_pay6, k0_pay4]
  rfl

/-- The integer product, before the correction. -/
theorem pay7_apply (x : Vec Ideal S1x256x14336 .f32) (w : Vec Ideal S7168x4096 .i8) (r : Fin 256) (l : Fin 4096) :
    k0_pay7 x w (ix3 0 r l)
      = (∑ i : Fin 7168, val (Ideal.fptosi 8 (x (ix3 0 r ⟨i.val * 2, by omega⟩))) * val (nibw (w (ix2 i l)) 0))
            + ∑ i : Fin 7168, val (Ideal.fptosi 8 (x (ix3 0 r ⟨i.val * 2 + 1, by omega⟩))) * val (nibw (w (ix2 i l)) 1) := by
  pointwise [k0_pay7]
  refine congrArg₂ (· + ·) (Finset.sum_congr rfl fun i _ => ?_) (Finset.sum_congr rfl fun i _ => ?_)
  · rw [pay2_apply, pay5_apply]; rfl
  · rw [pay2_apply, pay6_apply]; rfl

/-- The weights' column sums. -/
theorem pay8_apply (w : Vec Ideal S7168x4096 .i8) (l : Fin 4096) :
    k0_pay8 w (ix1 l) = (∑ i : Fin 7168, val (nibw (w (ix2 i l)) 0)) + ∑ i : Fin 7168, val (nibw (w (ix2 i l)) 1) := by
  pointwise [k0_pay8]
  simp only [pay5_apply, pay6_apply]

theorem pay1_apply (a : Vec Ideal S1x256x4096 .f32) (b : Vec Ideal S4096 .f32) (z s : Vec Ideal S1x256 .f32) (ws : Vec Ideal S4096 .f32)
    (r : Fin 256) (l : Fin 4096) :
    k0_pay1 a b z s ws (ix3 0 r l) = (a (ix3 0 r l) - z (ix2 0 r) * b (ix1 l)) * s (ix2 0 r) * ws (ix1 l) := by
  pointwise [k0_pay1]

/-- A load or a store of a whole array. -/
theorem ld_x (x : Vec Ideal S1x256x14336 .f32) : View.ld x r0_0 = x := View.ld_unit_zero (funext fun a => by fin_cases a <;> rfl) _ x
theorem ld_s (x : Vec Ideal S1x256 .f32) : View.ld x r0_1 = x := View.ld_unit_zero (funext fun a => by fin_cases a <;> rfl) _ x
theorem ld_w (x : Vec Ideal S7168x4096 .i8) : View.ld x r0_2 = x := View.ld_unit_zero (funext fun a => by fin_cases a <;> rfl) _ x
theorem ld_ws (x : Vec Ideal S4096 .f32) : View.ld x r0_3 = x := View.ld_unit_zero (funext fun a => by fin_cases a <;> rfl) _ x

theorem out5_apply (x : Vec Ideal S1x256x14336 .f32) (s z : Vec Ideal S1x256 .f32) (w : Vec Ideal S7168x4096 .i8) (ws : Vec Ideal S4096 .f32)
    (r : Fin 256) (l : Fin 4096) :
    out0_5 x s z w ws (ix3 0 r l)
      = outMath (fun j => Ideal.fptosi 8 (x (ix3 0 r j))) (fun a => w (ix2 a l)) (s (ix2 0 r)) (val (Ideal.fptosi 32 (z (ix2 0 r)))) (ws (ix1 l)) := by
  rw [outMath_halves]
  unfold out0_5
  rw [ld_x, ld_s, ld_s, ld_w, ld_ws]
  refine (congrFun (View.canon_cons_unit_lit _ _ [] (fun a => by fin_cases a <;> rfl)) (ix3 0 r l)).trans ?_
  rw [pay1_apply, pay7_apply, pay8_apply, pay9_apply]

theorem out6_apply (x : Vec Ideal S1x256x14336 .f32) (s z : Vec Ideal S1x256 .f32) (w : Vec Ideal S7168x4096 .i8) (ws : Vec Ideal S4096 .f32)
    (r : Fin 256) (c : Fin 14336) : out0_6 x s z w ws (ix3 0 r c) = Ideal.fptosi 8 (x (ix3 0 r c)) := by
  unfold out0_6
  rw [ld_x]
  refine (congrFun (View.canon_cons_unit_lit _ _ [] (fun a => by fin_cases a <;> rfl)) (ix3 0 r c)).trans ?_
  rw [pay2_apply]

theorem out7_apply (x : Vec Ideal S1x256x14336 .f32) (s z : Vec Ideal S1x256 .f32) (w : Vec Ideal S7168x4096 .i8) (ws : Vec Ideal S4096 .f32)
    (r : Fin 256) : out0_7 x s z w ws (ix2 0 r) = Ideal.fptosi 32 (z (ix2 0 r)) := by
  unfold out0_7
  rw [ld_s]
  refine (congrFun (View.canon_cons_unit_lit _ _ [] (fun a => by fin_cases a <;> rfl)) (ix2 0 r)).trans ?_
  rw [pay3_apply]

variable (m : (ℓ : Loc nD τ sig) → Buf (Elt Ideal) ℓ)

/-- Each window is its whole array. -/
theorem iblk0 (c : Dev nD) (t : Fin cfg0.N) : iblk m c 0 t = V m c main_v37 := by
  have hz : (fun a => win0_0.index t a * main_v37.ty.shape.size a) = fun _ => 0 := funext fun a => by
    fin_cases a <;> exact Nat.zero_mul _
  exact Memref.read_access_unit_zero (Elt Ideal) main_v37 hz (fun a => by rw [congrFun hz a]; simp) (V m c main_v37)
theorem iblk1 (c : Dev nD) (t : Fin cfg0.N) : iblk m c 1 t = V m c main_v25 := by
  have hz : (fun a => win0_1.index t a * main_v25.ty.shape.size a) = fun _ => 0 := funext fun a => by
    fin_cases a <;> exact Nat.zero_mul _
  exact Memref.read_access_unit_zero (Elt Ideal) main_v25 hz (fun a => by rw [congrFun hz a]; simp) (V m c main_v25)
theorem iblk2 (c : Dev nD) (t : Fin cfg0.N) : iblk m c 2 t = V m c main_v29 := by
  have hz : (fun a => win0_2.index t a * main_v29.ty.shape.size a) = fun _ => 0 := funext fun a => by
    fin_cases a <;> exact Nat.zero_mul _
  exact Memref.read_access_unit_zero (Elt Ideal) main_v29 hz (fun a => by rw [congrFun hz a]; simp) (V m c main_v29)
theorem iblk3 (c : Dev nD) (t : Fin cfg0.N) : iblk m c 3 t = V m c main_arg5 := by
  have hz : (fun a => win0_3.index t a * main_arg5.ty.shape.size a) = fun _ => 0 := funext fun a => by
    fin_cases a <;> exact Nat.zero_mul _
  exact Memref.read_access_unit_zero (Elt Ideal) main_arg5 hz (fun a => by rw [congrFun hz a]; simp) (V m c main_arg5)
theorem iblk4 (c : Dev nD) (t : Fin cfg0.N) : iblk m c 4 t = V m c main_arg6 := by
  have hz : (fun a => win0_4.index t a * main_arg6.ty.shape.size a) = fun _ => 0 := funext fun a => by
    fin_cases a <;> exact Nat.zero_mul _
  exact Memref.read_access_unit_zero (Elt Ideal) main_arg6 hz (fun a => by rw [congrFun hz a]; simp) (V m c main_arg6)

theorem fin5 (c : Dev nD) : (dats m 0 c).arrAt 5 cfg0.N = out0_5 (V m c main_v37) (V m c main_v25) (V m c main_v29) (V m c main_arg5) (V m c main_arg6) := by
  have e : ∀ t : Fin cfg0.N, win0_5.index t = ![0, 0, 0] := (by decide +kernel : ∀ t : Fin grid0.N, _)
  refine (dats m 0 c).arrAt_eq_of_covers 5 _ (by decide +kernel) fun t hf y => ?_
  blk_simp
  rw [after0_5, iblk0, iblk1, iblk2, iblk3, iblk4]
  refine congrArg _ (funext fun b => Fin.ext (match b with
    | ⟨0, _⟩ => by blk_simp [e]
    | ⟨1, _⟩ => by blk_simp [e]
    | ⟨2, _⟩ => by blk_simp [e]))
theorem fin6 (c : Dev nD) : (dats m 0 c).arrAt 6 cfg0.N = out0_6 (V m c main_v37) (V m c main_v25) (V m c main_v29) (V m c main_arg5) (V m c main_arg6) := by
  have e : ∀ t : Fin cfg0.N, win0_6.index t = ![0, 0, 0] := (by decide +kernel : ∀ t : Fin grid0.N, _)
  refine (dats m 0 c).arrAt_eq_of_covers 6 _ (by decide +kernel) fun t hf y => ?_
  blk_simp
  rw [after0_6, iblk0, iblk1, iblk2, iblk3, iblk4]
  refine congrArg _ (funext fun b => Fin.ext (match b with
    | ⟨0, _⟩ => by blk_simp [e]
    | ⟨1, _⟩ => by blk_simp [e]
    | ⟨2, _⟩ => by blk_simp [e]))
theorem fin7 (c : Dev nD) : (dats m 0 c).arrAt 7 cfg0.N = out0_7 (V m c main_v37) (V m c main_v25) (V m c main_v29) (V m c main_arg5) (V m c main_arg6) := by
  have e : ∀ t : Fin cfg0.N, win0_7.index t = ![0, 0] := (by decide +kernel : ∀ t : Fin grid0.N, _)
  refine (dats m 0 c).arrAt_eq_of_covers 7 _ (by decide +kernel) fun t hf y => ?_
  blk_simp
  rw [after0_7, iblk0, iblk1, iblk2, iblk3, iblk4]
  refine congrArg _ (funext fun b => Fin.ext (match b with
    | ⟨0, _⟩ => by blk_simp [e]
    | ⟨1, _⟩ => by blk_simp [e]))

end Cert.ReferenceIdeal.Region

end
-- ==== Proof.RefEnd.lean ====
/- The reference's four results, element by element, as plain functions of the arguments, and its run with them named. -/
module

public import proofs.«01_k».proof.Proof.RefReg

@[expose] public section

set_option maxRecDepth 16384

noncomputable section

namespace Cert.ReferenceIdeal.Region

open Cert.ReferenceIdeal Cert.ReferenceIdeal.Gen Cert.ReferenceIdeal.Host Cert.WhMath Cert.GemmMath
open Idealize.ShloMosaic Idealize.ShloMosaic.TcCoe
open Idealize.SL.Sem

variable (m : (ℓ : Loc nD τ sig) → Buf (Elt Ideal) ℓ)

/-- The rotated token, the clipping factor, the codes, the scale and the zero point, from the arguments. -/
def zA (c : Dev nD) (t : Fin 256) : Fin 112 → Fin 128 → EReal :=
  rot (fun j => m ((c : Thread nD τ).loc main_arg0) (ix3 0 t j)) (fun j => m ((c : Thread nD τ).loc main_arg1) (ix1 j))
    (fun i a => m ((c : Thread nD τ).loc main_arg2) (ix2 i a)) (fun j k => m ((c : Thread nD τ).loc main_arg3) (ix2 j k))
def fA (c : Dev nD) : EReal := Ideal.logistic (m ((c : Thread nD τ).loc main_arg4) Host.ix0)
def cA (c : Dev nD) (t : Fin 256) (j : Fin 14336) : EReal :=
  cod (fA m c) (rmin (zA m c t)) (rmax (zA m c t)) (zA m c t ⟨j.val / 128, by omega⟩ ⟨j.val % 128, by omega⟩)
def sA (c : Dev nD) (t : Fin 256) : EReal := scl (fA m c) (rmin (zA m c t)) (rmax (zA m c t))
def pA (c : Dev nD) (t : Fin 256) : EReal := zpt (fA m c) (rmin (zA m c t)) (rmax (zA m c t))

/-- The arguments' transform, as the host computes it. -/
abbrev zM (c : Dev nD) : Vec Ideal S1x256x14336 .f32 :=
  zH (m ((c : Thread nD τ).loc main_arg0)) (m ((c : Thread nD τ).loc main_arg1)) (m ((c : Thread nD τ).loc main_arg2)) (m ((c : Thread nD τ).loc main_arg3))

theorem zM_row (c : Dev nD) (t : Fin 256) : (fun i k => zM m c (ix3 0 t (col i k))) = zA m c t := by
  funext i k
  refine (zH_apply _ _ _ _ t (col i k)).trans ?_
  have e1 : (⟨(col i k).val / 128, by omega⟩ : Fin 112) = i := Fin.ext (by show (128 * i.val + k.val) / 128 = i.val; omega)
  have e2 : (⟨(col i k).val % 128, by omega⟩ : Fin 128) = k := Fin.ext (by show (128 * i.val + k.val) % 128 = k.val; omega)
  exact congrArg₂ (zA m c t) e1 e2

theorem v25_apply (c : Dev nD) (t : Fin 256) : V m c main_v25 (ix2 0 t) = sA m c t := by
  rw [V_v25]
  refine (scH_apply _ _ t).trans ?_
  rw [aH_apply, zM_row m c t]
  rfl

theorem v29_apply (c : Dev nD) (t : Fin 256) : V m c main_v29 (ix2 0 t) = pA m c t := by
  rw [V_v29]
  refine (zpH_apply _ _ t).trans ?_
  rw [aH_apply, zM_row m c t]
  rfl

theorem v37_apply (c : Dev nD) (t : Fin 256) (j : Fin 14336) : V m c main_v37 (ix3 0 t j) = cA m c t j := by
  rw [V_v37]
  refine (qH_apply _ _ t j).trans ?_
  rw [aH_apply, zM_row m c t, zH_apply]
  rfl

theorem r5 (c : Dev nD) (t : Fin 256) (l : Fin 4096) : (dats m 0 c).arrAt 5 cfg0.N (ix3 0 t l)
    = outMath (fun j => Ideal.fptosi 8 (cA m c t j)) (fun a => m ((c : Thread nD τ).loc main_arg5) (ix2 a l)) (sA m c t) (pA m c t)
        (m ((c : Thread nD τ).loc main_arg6) (ix1 l)) := by
  rw [fin5]
  refine (out5_apply _ _ _ _ _ t l).trans ?_
  rw [v25_apply, v29_apply, V_main_arg5, V_main_arg6, show val (Ideal.fptosi 32 (pA m c t)) = pA m c t from zpt_int _ _ _]
  exact congrArg (fun f => outMath f _ _ _ _) (funext fun j => congrArg (Ideal.fptosi 8) (v37_apply m c t j))

theorem r6 (c : Dev nD) (t : Fin 256) (j : Fin 14336) : (dats m 0 c).arrAt 6 cfg0.N (ix3 0 t j) = Ideal.fptosi 8 (cA m c t j) := by
  rw [fin6]
  refine (out6_apply _ _ _ _ _ t j).trans ?_
  rw [v37_apply]

theorem r7 (c : Dev nD) (t : Fin 256) : (dats m 0 c).arrAt 7 cfg0.N (ix2 0 t) = Ideal.fptosi 32 (pA m c t) := by
  rw [fin7]
  refine (out7_apply _ _ _ _ _ t).trans ?_
  rw [v29_apply]

/-- The reference's run: each result named, each argument as launched. -/
theorem run (ρ : Dev nD → PrngReg) : θ_run defs (onTc (τ := τ) (main (F := Ideal))) ⟨m, fun _ => 0, ρ⟩ (fun r => ∀ c : Dev nD,
      r.2.mem ((c.tc : Thread nD τ).loc main_v38_0) = (dats m 0 c).arrAt 5 cfg0.N
      ∧ r.2.mem ((c.tc : Thread nD τ).loc main_v38_1) = (dats m 0 c).arrAt 6 cfg0.N
      ∧ r.2.mem ((c.tc : Thread nD τ).loc main_v25) = V m c main_v25
      ∧ r.2.mem ((c.tc : Thread nD τ).loc main_v38_2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1 5, (h c).1 6,
      ((h c).1 1).trans (((dats m 0 c).arrAt_in 1 rfl _).trans (A_eq m c 1)),
      (h c).1 7,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c)))⟩)
    (run_main m ρ)

end Cert.ReferenceIdeal.Region

end
-- ==== Proof.Match.lean ====
/- The kernel's four results are the reference's, from the same arguments. -/
module

public import proofs.«01_k».proof.Proof.WholeVal
public import proofs.«01_k».proof.Proof.RefEnd

@[expose] public section

set_option maxRecDepth 16384

noncomputable section

namespace Cert.Match

open Idealize.ShloMosaic Idealize.ShloMosaic.TcCoe
open Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two launches hold the same arguments. -/
def Same (c : Dev 1) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

variable (c : Dev 1) (h : Same m m' c)
include h

theorem zA_eq (t : Fin 256) : Cert.ReferenceIdeal.Region.zA m' c t = Cert.KernelIdeal.Whole.zA m c t := by
  unfold Cert.ReferenceIdeal.Region.zA Cert.KernelIdeal.Whole.zA
  rw [h.1, h.2.1, h.2.2.1, h.2.2.2.1]
theorem fA_eq : Cert.ReferenceIdeal.Region.fA m' c = Cert.KernelIdeal.Whole.fA m c := by
  unfold Cert.ReferenceIdeal.Region.fA Cert.KernelIdeal.Whole.fA
  rw [h.2.2.2.2.1]
  rfl
theorem sA_eq (t : Fin 256) : Cert.ReferenceIdeal.Region.sA m' c t = Cert.KernelIdeal.Whole.sA m c t := by
  unfold Cert.ReferenceIdeal.Region.sA Cert.KernelIdeal.Whole.sA
  rw [zA_eq m m' c h, fA_eq m m' c h]
theorem pA_eq (t : Fin 256) : Cert.ReferenceIdeal.Region.pA m' c t = Cert.KernelIdeal.Whole.pA m c t := by
  unfold Cert.ReferenceIdeal.Region.pA Cert.KernelIdeal.Whole.pA
  rw [zA_eq m m' c h, fA_eq m m' c h]
theorem qA_eq (t : Fin 256) (j : Fin 14336) : Ideal.fptosi 8 (Cert.ReferenceIdeal.Region.cA m' c t j) = Cert.KernelIdeal.Whole.qA m c t j := by
  unfold Cert.ReferenceIdeal.Region.cA Cert.KernelIdeal.Whole.qA
  rw [zA_eq m m' c h, fA_eq m m' c h]

open Cert.KernelIdeal.Whole in
theorem y_at (t : Fin 256) (l : Fin 4096) : (Cert.ReferenceIdeal.Gen.dats m' 0 c).arrAt 5 Cert.ReferenceIdeal.cfg0.N (ix3 0 t l)
    = Cert.KernelIdeal.Gen.V5 m (outs m) c Cert.KernelIdeal.main_v6 (ix3 0 t l) := by
  refine (Cert.ReferenceIdeal.Region.r5 m' c t l).trans (Eq.trans ?_ (res6 m c t l).symm)
  rw [sA_eq m m' c h, pA_eq m m' c h, h.2.2.2.2.2.1, h.2.2.2.2.2.2]
  exact congrArg (fun f => Cert.GemmMath.outMath f _ _ _ _) (funext fun j => qA_eq m m' c h t j)

open Cert.KernelIdeal.Whole in
theorem y : (Cert.ReferenceIdeal.Gen.dats m' 0 c).arrAt 5 Cert.ReferenceIdeal.cfg0.N = Cert.KernelIdeal.Gen.V5 m (outs m) c Cert.KernelIdeal.main_v6 := by
  funext y
  rw [show y = ix3 0 (y 1) (y 2) from (eq_ix3 y).trans (congrArg (fun a => ix3 a (y 1) (y 2)) (Subsingleton.elim (α := Fin 1) (y 0) 0))]
  exact y_at m m' c h (y 1) (y 2)

open Cert.KernelIdeal.Whole in
theorem codes : (Cert.ReferenceIdeal.Gen.dats m' 0 c).arrAt 6 Cert.ReferenceIdeal.cfg0.N = Cert.KernelIdeal.Gen.V5 m (outs m) c Cert.KernelIdeal.main_v7 := by
  funext y
  rw [show y = ix3 0 (y 1) (y 2) from (eq_ix3 y).trans (congrArg (fun a => ix3 a (y 1) (y 2)) (Subsingleton.elim (α := Fin 1) (y 0) 0))]
  exact (Cert.ReferenceIdeal.Region.r6 m' c (y 1) (y 2)).trans ((qA_eq m m' c h (y 1) (y 2)).trans (res7 m c (y 1) (y 2)).symm)

open Cert.KernelIdeal.Whole in
theorem scales : Cert.ReferenceIdeal.Gen.V m' c Cert.ReferenceIdeal.main_v25 = Cert.KernelIdeal.Gen.V5 m (outs m) c Cert.KernelIdeal.main_v10 := by
  funext y
  rw [show y = ix2 0 (y 1) from (eq_ix2 y).trans (congrArg (fun a => ix2 a (y 1)) (Subsingleton.elim (α := Fin 1) (y 0) 0))]
  exact (Cert.ReferenceIdeal.Region.v25_apply m' c (y 1)).trans ((sA_eq m m' c h (y 1)).trans (res10 m c (y 1)).symm)

open Cert.KernelIdeal.Whole in
theorem zeros : (Cert.ReferenceIdeal.Gen.dats m' 0 c).arrAt 7 Cert.ReferenceIdeal.cfg0.N = Cert.KernelIdeal.Gen.V5 m (outs m) c Cert.KernelIdeal.main_v14 := by
  funext y
  rw [show y = ix2 0 (y 1) from (eq_ix2 y).trans (congrArg (fun a => ix2 a (y 1)) (Subsingleton.elim (α := Fin 1) (y 0) 0))]
  exact (Cert.ReferenceIdeal.Region.r7 m' c (y 1)).trans ((congrArg (Ideal.fptosi 32) (pA_eq m m' c h (y 1))).trans (res14 m c (y 1)).symm)

end Cert.Match

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Segs
public import proofs.«01_k».proof.Proof.SegsB
public import proofs.«01_k».proof.Proof.WholeRun
public import proofs.«01_k».proof.Proof.Match
public import Idealize.ShloMosaic.Lib.Bf16PairInverse
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Kernel

/-- The idealization's two rules hold at every shape where they are used. -/
theorem preserves : Cert.preserves_Kernel_KernelIdeal :=
  ⟨IdealRules.bf16_pair.bufferStatement _ _, IdealRules.bf16_pair.packStatement _, IdealRules.bf16_pair.statement _ _,
    IdealRules.bf16_pair.statement _ _, IdealRules.bf16_pair.statement _ _⟩

/-- From the same arguments the kernel and the reference leave the same four results. -/
theorem algebraic : Cert.algebraic_KernelIdeal_ReferenceIdeal (hKernelIdeal := Cert.KernelIdeal.Gen.facts) (hReferenceIdeal := Cert.ReferenceIdeal.Gen.facts) :=
  fun m ρ m' ρ' _ h => ⟨
    fun c => Cert.KernelIdeal.Gen.V5 m (Cert.KernelIdeal.Whole.outs m) c Cert.KernelIdeal.main_v6,
    fun c => Cert.KernelIdeal.Gen.V5 m (Cert.KernelIdeal.Whole.outs m) c Cert.KernelIdeal.main_v7,
    fun c => Cert.KernelIdeal.Gen.V5 m (Cert.KernelIdeal.Whole.outs m) c Cert.KernelIdeal.main_v10,
    fun c => Cert.KernelIdeal.Gen.V5 m (Cert.KernelIdeal.Whole.outs m) c Cert.KernelIdeal.main_v14,
    Cert.KernelIdeal.Whole.run m ρ,
    (θ_run _ _ _).mono (fun r hr c => ⟨(hr c).1.trans (Cert.Match.y m m' c (h c)),
      (hr c).2.1.trans (Cert.Match.codes m m' c (h c)),
      (hr c).2.2.1.trans (Cert.Match.scales m m' c (h c)),
      (hr c).2.2.2.1.trans (Cert.Match.zeros m m' c (h c)),
      (hr c).2.2.2.2⟩)
      (Cert.ReferenceIdeal.Region.run m' ρ')⟩

theorem claim : Cert.Claim := ⟨Cert.Kernel.Gen.facts, Cert.KernelIdeal.Gen.facts, Cert.ReferenceIdeal.Gen.facts,
  fun m ρ _ => Cert.Kernel.Whole.frame m ρ,
  fun m ρ _ => Cert.KernelIdeal.Whole.frame m ρ,
  fun m ρ _ => Cert.ReferenceIdeal.Gen.frame m ρ,
  preserves,
  algebraic⟩

end Cert.Proof

end
